-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_finite_in [hPre_finite_in : Cert.Pre_finite_in.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4))).1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4))).2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4))).2.2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4))).2.2.2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4))).2.2.2.2 = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_finite_in [hPre_finite_in : Cert.Pre_finite_in.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4))).1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4))).2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4))).2.2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4))).2.2.2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4))).2.2.2.2 = (fun _ => 1#1)

def Pre_KernelInW (m : (ℓ : Loc Cert.KernelInW.nD Cert.KernelInW.τ Cert.KernelInW.sig) → Buf (Elt Bits) ℓ) : Prop :=
  True

def Pre_KernelInWIdeal (m : (ℓ : Loc Cert.KernelInWIdeal.nD Cert.KernelInWIdeal.τ Cert.KernelInWIdeal.sig) → Buf (Elt Ideal) ℓ) : Prop :=
  True

def Pre_ReferenceInWIdeal (m : (ℓ : Loc Cert.ReferenceInWIdeal.nD Cert.ReferenceInWIdeal.τ Cert.ReferenceInWIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelFwdIn (m : (ℓ : Loc Cert.KernelFwdIn.nD Cert.KernelFwdIn.τ Cert.KernelFwdIn.sig) → Buf (Elt Bits) ℓ) : Prop :=
  True

def Pre_KernelFwdInIdeal (m : (ℓ : Loc Cert.KernelFwdInIdeal.nD Cert.KernelFwdInIdeal.τ Cert.KernelFwdInIdeal.sig) → Buf (Elt Ideal) ℓ) : Prop :=
  True

def Pre_ReferenceFwdInIdeal (m : (ℓ : Loc Cert.ReferenceFwdInIdeal.nD Cert.ReferenceFwdInIdeal.τ Cert.ReferenceFwdInIdeal.sig) → Buf (Elt Ideal) ℓ) : Prop :=
  True

def Pre_KernelFwdOut (m : (ℓ : Loc Cert.KernelFwdOut.nD Cert.KernelFwdOut.τ Cert.KernelFwdOut.sig) → Buf (Elt Bits) ℓ) : Prop :=
  True

def Pre_KernelFwdOutIdeal (m : (ℓ : Loc Cert.KernelFwdOutIdeal.nD Cert.KernelFwdOutIdeal.τ Cert.KernelFwdOutIdeal.sig) → Buf (Elt Ideal) ℓ) : Prop :=
  True

def Pre_ReferenceFwdOutIdeal (m : (ℓ : Loc Cert.ReferenceFwdOutIdeal.nD Cert.ReferenceFwdOutIdeal.τ Cert.ReferenceFwdOutIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))).2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))).2.2 = (fun _ => 1#1)

def Pre_KernelAdamFfn (m : (ℓ : Loc Cert.KernelAdamFfn.nD Cert.KernelAdamFfn.τ Cert.KernelAdamFfn.sig) → Buf (Elt Bits) ℓ) : Prop :=
  True

def Pre_KernelAdamFfnIdeal (m : (ℓ : Loc Cert.KernelAdamFfnIdeal.nD Cert.KernelAdamFfnIdeal.τ Cert.KernelAdamFfnIdeal.sig) → Buf (Elt Ideal) ℓ) : Prop :=
  True

def Pre_ReferenceAdamFfnIdeal (m : (ℓ : Loc Cert.ReferenceAdamFfnIdeal.nD Cert.ReferenceAdamFfnIdeal.τ Cert.ReferenceAdamFfnIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelSgu (m : (ℓ : Loc Cert.KernelSgu.nD Cert.KernelSgu.τ Cert.KernelSgu.sig) → Buf (Elt Bits) ℓ) : Prop :=
  True

def Pre_KernelSguIdeal (m : (ℓ : Loc Cert.KernelSguIdeal.nD Cert.KernelSguIdeal.τ Cert.KernelSguIdeal.sig) → Buf (Elt Ideal) ℓ) : Prop :=
  True

def Pre_KernelSguIdeal_finite_sgu [hPre_finite_sgu : Cert.Pre_finite_sgu.Facts] (m : (ℓ : Loc Cert.KernelSguIdeal.nD Cert.KernelSguIdeal.τ Cert.KernelSguIdeal.sig) → Buf (Elt Ideal) ℓ) : Prop :=
  ∀ c : Dev Cert.KernelSguIdeal.nD,
    (Cert.Pre_finite_sgu.fn (F := Ideal) (m ((c.tc : Thread Cert.KernelSguIdeal.nD Cert.KernelSguIdeal.τ).loc Cert.KernelSguIdeal.main_arg0)) (m ((c.tc : Thread Cert.KernelSguIdeal.nD Cert.KernelSguIdeal.τ).loc Cert.KernelSguIdeal.main_arg1)) (m ((c.tc : Thread Cert.KernelSguIdeal.nD Cert.KernelSguIdeal.τ).loc Cert.KernelSguIdeal.main_arg2)) (m ((c.tc : Thread Cert.KernelSguIdeal.nD Cert.KernelSguIdeal.τ).loc Cert.KernelSguIdeal.main_arg3))).1 = (fun _ => 1#1)
    ∧ (Cert.Pre_finite_sgu.fn (F := Ideal) (m ((c.tc : Thread Cert.KernelSguIdeal.nD Cert.KernelSguIdeal.τ).loc Cert.KernelSguIdeal.main_arg0)) (m ((c.tc : Thread Cert.KernelSguIdeal.nD Cert.KernelSguIdeal.τ).loc Cert.KernelSguIdeal.main_arg1)) (m ((c.tc : Thread Cert.KernelSguIdeal.nD Cert.KernelSguIdeal.τ).loc Cert.KernelSguIdeal.main_arg2)) (m ((c.tc : Thread Cert.KernelSguIdeal.nD Cert.KernelSguIdeal.τ).loc Cert.KernelSguIdeal.main_arg3))).2.1 = (fun _ => 1#1)
    ∧ (Cert.Pre_finite_sgu.fn (F := Ideal) (m ((c.tc : Thread Cert.KernelSguIdeal.nD Cert.KernelSguIdeal.τ).loc Cert.KernelSguIdeal.main_arg0)) (m ((c.tc : Thread Cert.KernelSguIdeal.nD Cert.KernelSguIdeal.τ).loc Cert.KernelSguIdeal.main_arg1)) (m ((c.tc : Thread Cert.KernelSguIdeal.nD Cert.KernelSguIdeal.τ).loc Cert.KernelSguIdeal.main_arg2)) (m ((c.tc : Thread Cert.KernelSguIdeal.nD Cert.KernelSguIdeal.τ).loc Cert.KernelSguIdeal.main_arg3))).2.2.1 = (fun _ => 1#1)
    ∧ (Cert.Pre_finite_sgu.fn (F := Ideal) (m ((c.tc : Thread Cert.KernelSguIdeal.nD Cert.KernelSguIdeal.τ).loc Cert.KernelSguIdeal.main_arg0)) (m ((c.tc : Thread Cert.KernelSguIdeal.nD Cert.KernelSguIdeal.τ).loc Cert.KernelSguIdeal.main_arg1)) (m ((c.tc : Thread Cert.KernelSguIdeal.nD Cert.KernelSguIdeal.τ).loc Cert.KernelSguIdeal.main_arg2)) (m ((c.tc : Thread Cert.KernelSguIdeal.nD Cert.KernelSguIdeal.τ).loc Cert.KernelSguIdeal.main_arg3))).2.2.2 = (fun _ => 1#1)

def Pre_ReferenceSguIdeal (m : (ℓ : Loc Cert.ReferenceSguIdeal.nD Cert.ReferenceSguIdeal.τ Cert.ReferenceSguIdeal.sig) → Buf (Elt Ideal) ℓ) : Prop :=
  True

def Pre_ReferenceSguIdeal_finite_sgu [hPre_finite_sgu : Cert.Pre_finite_sgu.Facts] (m : (ℓ : Loc Cert.ReferenceSguIdeal.nD Cert.ReferenceSguIdeal.τ Cert.ReferenceSguIdeal.sig) → Buf (Elt Ideal) ℓ) : Prop :=
  ∀ c : Dev Cert.ReferenceSguIdeal.nD,
    (Cert.Pre_finite_sgu.fn (F := Ideal) (m ((c.tc : Thread Cert.ReferenceSguIdeal.nD Cert.ReferenceSguIdeal.τ).loc Cert.ReferenceSguIdeal.main_arg0)) (m ((c.tc : Thread Cert.ReferenceSguIdeal.nD Cert.ReferenceSguIdeal.τ).loc Cert.ReferenceSguIdeal.main_arg1)) (m ((c.tc : Thread Cert.ReferenceSguIdeal.nD Cert.ReferenceSguIdeal.τ).loc Cert.ReferenceSguIdeal.main_arg2)) (m ((c.tc : Thread Cert.ReferenceSguIdeal.nD Cert.ReferenceSguIdeal.τ).loc Cert.ReferenceSguIdeal.main_arg3))).1 = (fun _ => 1#1)
    ∧ (Cert.Pre_finite_sgu.fn (F := Ideal) (m ((c.tc : Thread Cert.ReferenceSguIdeal.nD Cert.ReferenceSguIdeal.τ).loc Cert.ReferenceSguIdeal.main_arg0)) (m ((c.tc : Thread Cert.ReferenceSguIdeal.nD Cert.ReferenceSguIdeal.τ).loc Cert.ReferenceSguIdeal.main_arg1)) (m ((c.tc : Thread Cert.ReferenceSguIdeal.nD Cert.ReferenceSguIdeal.τ).loc Cert.ReferenceSguIdeal.main_arg2)) (m ((c.tc : Thread Cert.ReferenceSguIdeal.nD Cert.ReferenceSguIdeal.τ).loc Cert.ReferenceSguIdeal.main_arg3))).2.1 = (fun _ => 1#1)
    ∧ (Cert.Pre_finite_sgu.fn (F := Ideal) (m ((c.tc : Thread Cert.ReferenceSguIdeal.nD Cert.ReferenceSguIdeal.τ).loc Cert.ReferenceSguIdeal.main_arg0)) (m ((c.tc : Thread Cert.ReferenceSguIdeal.nD Cert.ReferenceSguIdeal.τ).loc Cert.ReferenceSguIdeal.main_arg1)) (m ((c.tc : Thread Cert.ReferenceSguIdeal.nD Cert.ReferenceSguIdeal.τ).loc Cert.ReferenceSguIdeal.main_arg2)) (m ((c.tc : Thread Cert.ReferenceSguIdeal.nD Cert.ReferenceSguIdeal.τ).loc Cert.ReferenceSguIdeal.main_arg3))).2.2.1 = (fun _ => 1#1)
    ∧ (Cert.Pre_finite_sgu.fn (F := Ideal) (m ((c.tc : Thread Cert.ReferenceSguIdeal.nD Cert.ReferenceSguIdeal.τ).loc Cert.ReferenceSguIdeal.main_arg0)) (m ((c.tc : Thread Cert.ReferenceSguIdeal.nD Cert.ReferenceSguIdeal.τ).loc Cert.ReferenceSguIdeal.main_arg1)) (m ((c.tc : Thread Cert.ReferenceSguIdeal.nD Cert.ReferenceSguIdeal.τ).loc Cert.ReferenceSguIdeal.main_arg2)) (m ((c.tc : Thread Cert.ReferenceSguIdeal.nD Cert.ReferenceSguIdeal.τ).loc Cert.ReferenceSguIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1)
      ∧ r.2.mem ((c.tc : Thread Cert.KernelW.nD Cert.KernelW.τ).loc Cert.KernelW.main_arg2) = m ((c.tc : Thread Cert.KernelW.nD Cert.KernelW.τ).loc Cert.KernelW.main_arg2)
      ∧ r.2.mem ((c.tc : Thread Cert.KernelW.nD Cert.KernelW.τ).loc Cert.KernelW.main_arg3) = m ((c.tc : Thread Cert.KernelW.nD Cert.KernelW.τ).loc Cert.KernelW.main_arg3)
      ∧ r.2.mem ((c.tc : Thread Cert.KernelW.nD Cert.KernelW.τ).loc Cert.KernelW.main_arg4) = m ((c.tc : Thread Cert.KernelW.nD Cert.KernelW.τ).loc Cert.KernelW.main_arg4)
      ∧ r.2.mem ((c.tc : Thread Cert.KernelW.nD Cert.KernelW.τ).loc Cert.KernelW.main_arg5) = m ((c.tc : Thread Cert.KernelW.nD Cert.KernelW.τ).loc Cert.KernelW.main_arg5))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
      ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
      ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
      ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
      ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2)
      ∧ r.2.mem ((c.tc : Thread Cert.ReferenceWIdeal.nD Cert.ReferenceWIdeal.τ).loc Cert.ReferenceWIdeal.main_arg3) = m ((c.tc : Thread Cert.ReferenceWIdeal.nD Cert.ReferenceWIdeal.τ).loc Cert.ReferenceWIdeal.main_arg3)
      ∧ r.2.mem ((c.tc : Thread Cert.ReferenceWIdeal.nD Cert.ReferenceWIdeal.τ).loc Cert.ReferenceWIdeal.main_arg4) = m ((c.tc : Thread Cert.ReferenceWIdeal.nD Cert.ReferenceWIdeal.τ).loc Cert.ReferenceWIdeal.main_arg4)
      ∧ r.2.mem ((c.tc : Thread Cert.ReferenceWIdeal.nD Cert.ReferenceWIdeal.τ).loc Cert.ReferenceWIdeal.main_arg5) = m ((c.tc : Thread Cert.ReferenceWIdeal.nD Cert.ReferenceWIdeal.τ).loc Cert.ReferenceWIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_KernelInIdeal_pre_finite_in [hKernelInIdeal : Cert.KernelInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_finite_in m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_ReferenceInIdeal_pre_finite_in [hReferenceInIdeal : Cert.ReferenceInIdeal.Facts] [hPre_finite_in : Cert.Pre_finite_in.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_finite_in m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelInW [hKernelInW : Cert.KernelInW.Facts] : Prop :=
  ∀ (m : (ℓ : Loc Cert.KernelInW.nD Cert.KernelInW.τ Cert.KernelInW.sig) → Buf (Elt Bits) ℓ) (g : Dev Cert.KernelInW.nD → PrngReg), Pre_KernelInW m →
    θ_run (Cert.KernelInW.defs (F := Bits)) (onTc (τ := Cert.KernelInW.τ) (Cert.KernelInW.main (F := Bits))) ⟨m, fun _ => 0, g⟩ (fun r => (∀ c : Dev Cert.KernelInW.nD,
      r.2.mem ((c.tc : Thread Cert.KernelInW.nD Cert.KernelInW.τ).loc Cert.KernelInW.main_arg0) = m ((c.tc : Thread Cert.KernelInW.nD Cert.KernelInW.τ).loc Cert.KernelInW.main_arg0)
      ∧ r.2.mem ((c.tc : Thread Cert.KernelInW.nD Cert.KernelInW.τ).loc Cert.KernelInW.main_arg1) = m ((c.tc : Thread Cert.KernelInW.nD Cert.KernelInW.τ).loc Cert.KernelInW.main_arg1)
      ∧ r.2.mem ((c.tc : Thread Cert.KernelInW.nD Cert.KernelInW.τ).loc Cert.KernelInW.main_arg2) = m ((c.tc : Thread Cert.KernelInW.nD Cert.KernelInW.τ).loc Cert.KernelInW.main_arg2)
      ∧ r.2.mem ((c.tc : Thread Cert.KernelInW.nD Cert.KernelInW.τ).loc Cert.KernelInW.main_arg3) = m ((c.tc : Thread Cert.KernelInW.nD Cert.KernelInW.τ).loc Cert.KernelInW.main_arg3)
      ∧ r.2.mem ((c.tc : Thread Cert.KernelInW.nD Cert.KernelInW.τ).loc Cert.KernelInW.main_arg4) = m ((c.tc : Thread Cert.KernelInW.nD Cert.KernelInW.τ).loc Cert.KernelInW.main_arg4))
      ∧ r.2.sem = fun _ => 0)

def quiescent_KernelInWIdeal [hKernelInWIdeal : Cert.KernelInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg), Pre_KernelInWIdeal m →
    θ_run (Cert.KernelInWIdeal.defs (F := Ideal)) (onTc (τ := Cert.KernelInWIdeal.τ) (Cert.KernelInWIdeal.main (F := Ideal))) ⟨m, fun _ => 0, g⟩ (fun r => (∀ c : Dev Cert.KernelInWIdeal.nD,
      r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
      ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1)
      ∧ r.2.mem ((c.tc : Thread Cert.KernelInWIdeal.nD Cert.KernelInWIdeal.τ).loc Cert.KernelInWIdeal.main_arg2) = m ((c.tc : Thread Cert.KernelInWIdeal.nD Cert.KernelInWIdeal.τ).loc Cert.KernelInWIdeal.main_arg2)
      ∧ r.2.mem ((c.tc : Thread Cert.KernelInWIdeal.nD Cert.KernelInWIdeal.τ).loc Cert.KernelInWIdeal.main_arg3) = m ((c.tc : Thread Cert.KernelInWIdeal.nD Cert.KernelInWIdeal.τ).loc Cert.KernelInWIdeal.main_arg3)
      ∧ r.2.mem ((c.tc : Thread Cert.KernelInWIdeal.nD Cert.KernelInWIdeal.τ).loc Cert.KernelInWIdeal.main_arg4) = m ((c.tc : Thread Cert.KernelInWIdeal.nD Cert.KernelInWIdeal.τ).loc Cert.KernelInWIdeal.main_arg4))
      ∧ r.2.sem = fun _ => 0)

def quiescent_ReferenceInWIdeal [hReferenceInWIdeal : Cert.ReferenceInWIdeal.Facts] : Prop :=
  ∀ (m : (ℓ : Loc Cert.ReferenceInWIdeal.nD Cert.ReferenceInWIdeal.τ Cert.ReferenceInWIdeal.sig) → Buf (Elt Ideal) ℓ) (g : Dev Cert.ReferenceInWIdeal.nD → PrngReg), Pre_ReferenceInWIdeal m →
    θ_run (Cert.ReferenceInWIdeal.defs (F := Ideal)) (onTc (τ := Cert.ReferenceInWIdeal.τ) (Cert.ReferenceInWIdeal.main (F := Ideal))) ⟨m, fun _ => 0, g⟩ (fun r => (∀ c : Dev Cert.ReferenceInWIdeal.nD,
      r.2.mem ((c.tc : Thread Cert.ReferenceInWIdeal.nD Cert.ReferenceInWIdeal.τ).loc Cert.ReferenceInWIdeal.main_arg0) = m ((c.tc : Thread Cert.ReferenceInWIdeal.nD Cert.ReferenceInWIdeal.τ).loc Cert.ReferenceInWIdeal.main_arg0)
      ∧ r.2.mem ((c.tc : Thread Cert.ReferenceInWIdeal.nD Cert.ReferenceInWIdeal.τ).loc Cert.ReferenceInWIdeal.main_arg1) = m ((c.tc : Thread Cert.ReferenceInWIdeal.nD Cert.ReferenceInWIdeal.τ).loc Cert.ReferenceInWIdeal.main_arg1)
      ∧ r.2.mem ((c.tc : Thread Cert.ReferenceInWIdeal.nD Cert.ReferenceInWIdeal.τ).loc Cert.ReferenceInWIdeal.main_arg2) = m ((c.tc : Thread Cert.ReferenceInWIdeal.nD Cert.ReferenceInWIdeal.τ).loc Cert.ReferenceInWIdeal.main_arg2)
      ∧ r.2.mem ((c.tc : Thread Cert.ReferenceInWIdeal.nD Cert.ReferenceInWIdeal.τ).loc Cert.ReferenceInWIdeal.main_arg3) = m ((c.tc : Thread Cert.ReferenceInWIdeal.nD Cert.ReferenceInWIdeal.τ).loc Cert.ReferenceInWIdeal.main_arg3)
      ∧ r.2.mem ((c.tc : Thread Cert.ReferenceInWIdeal.nD Cert.ReferenceInWIdeal.τ).loc Cert.ReferenceInWIdeal.main_arg4) = m ((c.tc : Thread Cert.ReferenceInWIdeal.nD Cert.ReferenceInWIdeal.τ).loc Cert.ReferenceInWIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelFwdIn [hKernelFwdIn : Cert.KernelFwdIn.Facts] : Prop :=
  ∀ (m : (ℓ : Loc Cert.KernelFwdIn.nD Cert.KernelFwdIn.τ Cert.KernelFwdIn.sig) → Buf (Elt Bits) ℓ) (g : Dev Cert.KernelFwdIn.nD → PrngReg), Pre_KernelFwdIn m →
    θ_run (Cert.KernelFwdIn.defs (F := Bits)) (onTc (τ := Cert.KernelFwdIn.τ) (Cert.KernelFwdIn.main (F := Bits))) ⟨m, fun _ => 0, g⟩ (fun r => (∀ c : Dev Cert.KernelFwdIn.nD,
      r.2.mem ((c.tc : Thread Cert.KernelFwdIn.nD Cert.KernelFwdIn.τ).loc Cert.KernelFwdIn.main_arg0) = m ((c.tc : Thread Cert.KernelFwdIn.nD Cert.KernelFwdIn.τ).loc Cert.KernelFwdIn.main_arg0)
      ∧ r.2.mem ((c.tc : Thread Cert.KernelFwdIn.nD Cert.KernelFwdIn.τ).loc Cert.KernelFwdIn.main_arg1) = m ((c.tc : Thread Cert.KernelFwdIn.nD Cert.KernelFwdIn.τ).loc Cert.KernelFwdIn.main_arg1)
      ∧ r.2.mem ((c.tc : Thread Cert.KernelFwdIn.nD Cert.KernelFwdIn.τ).loc Cert.KernelFwdIn.main_arg2) = m ((c.tc : Thread Cert.KernelFwdIn.nD Cert.KernelFwdIn.τ).loc Cert.KernelFwdIn.main_arg2))
      ∧ r.2.sem = fun _ => 0)

def quiescent_KernelFwdInIdeal [hKernelFwdInIdeal : Cert.KernelFwdInIdeal.Facts] : Prop :=
  ∀ (m : (ℓ : Loc Cert.KernelFwdInIdeal.nD Cert.KernelFwdInIdeal.τ Cert.KernelFwdInIdeal.sig) → Buf (Elt Ideal) ℓ) (g : Dev Cert.KernelFwdInIdeal.nD → PrngReg), Pre_KernelFwdInIdeal m →
    θ_run (Cert.KernelFwdInIdeal.defs (F := Ideal)) (onTc (τ := Cert.KernelFwdInIdeal.τ) (Cert.KernelFwdInIdeal.main (F := Ideal))) ⟨m, fun _ => 0, g⟩ (fun r => (∀ c : Dev Cert.KernelFwdInIdeal.nD,
      r.2.mem ((c.tc : Thread Cert.KernelFwdInIdeal.nD Cert.KernelFwdInIdeal.τ).loc Cert.KernelFwdInIdeal.main_arg0) = m ((c.tc : Thread Cert.KernelFwdInIdeal.nD Cert.KernelFwdInIdeal.τ).loc Cert.KernelFwdInIdeal.main_arg0)
      ∧ r.2.mem ((c.tc : Thread Cert.KernelFwdInIdeal.nD Cert.KernelFwdInIdeal.τ).loc Cert.KernelFwdInIdeal.main_arg1) = m ((c.tc : Thread Cert.KernelFwdInIdeal.nD Cert.KernelFwdInIdeal.τ).loc Cert.KernelFwdInIdeal.main_arg1)
      ∧ r.2.mem ((c.tc : Thread Cert.KernelFwdInIdeal.nD Cert.KernelFwdInIdeal.τ).loc Cert.KernelFwdInIdeal.main_arg2) = m ((c.tc : Thread Cert.KernelFwdInIdeal.nD Cert.KernelFwdInIdeal.τ).loc Cert.KernelFwdInIdeal.main_arg2))
      ∧ r.2.sem = fun _ => 0)

def quiescent_ReferenceFwdInIdeal [hReferenceFwdInIdeal : Cert.ReferenceFwdInIdeal.Facts] : Prop :=
  ∀ (m : (ℓ : Loc Cert.ReferenceFwdInIdeal.nD Cert.ReferenceFwdInIdeal.τ Cert.ReferenceFwdInIdeal.sig) → Buf (Elt Ideal) ℓ) (g : Dev Cert.ReferenceFwdInIdeal.nD → PrngReg), Pre_ReferenceFwdInIdeal m →
    θ_run (Cert.ReferenceFwdInIdeal.defs (F := Ideal)) (onTc (τ := Cert.ReferenceFwdInIdeal.τ) (Cert.ReferenceFwdInIdeal.main (F := Ideal))) ⟨m, fun _ => 0, g⟩ (fun r => (∀ c : Dev Cert.ReferenceFwdInIdeal.nD,
      r.2.mem ((c.tc : Thread Cert.ReferenceFwdInIdeal.nD Cert.ReferenceFwdInIdeal.τ).loc Cert.ReferenceFwdInIdeal.main_arg0) = m ((c.tc : Thread Cert.ReferenceFwdInIdeal.nD Cert.ReferenceFwdInIdeal.τ).loc Cert.ReferenceFwdInIdeal.main_arg0)
      ∧ r.2.mem ((c.tc : Thread Cert.ReferenceFwdInIdeal.nD Cert.ReferenceFwdInIdeal.τ).loc Cert.ReferenceFwdInIdeal.main_arg1) = m ((c.tc : Thread Cert.ReferenceFwdInIdeal.nD Cert.ReferenceFwdInIdeal.τ).loc Cert.ReferenceFwdInIdeal.main_arg1)
      ∧ r.2.mem ((c.tc : Thread Cert.ReferenceFwdInIdeal.nD Cert.ReferenceFwdInIdeal.τ).loc Cert.ReferenceFwdInIdeal.main_arg2) = m ((c.tc : Thread Cert.ReferenceFwdInIdeal.nD Cert.ReferenceFwdInIdeal.τ).loc Cert.ReferenceFwdInIdeal.main_arg2))
      ∧ r.2.sem = fun _ => 0)

def quiescent_KernelFwdOut [hKernelFwdOut : Cert.KernelFwdOut.Facts] : Prop :=
  ∀ (m : (ℓ : Loc Cert.KernelFwdOut.nD Cert.KernelFwdOut.τ Cert.KernelFwdOut.sig) → Buf (Elt Bits) ℓ) (g : Dev Cert.KernelFwdOut.nD → PrngReg), Pre_KernelFwdOut m →
    θ_run (Cert.KernelFwdOut.defs (F := Bits)) (onTc (τ := Cert.KernelFwdOut.τ) (Cert.KernelFwdOut.main (F := Bits))) ⟨m, fun _ => 0, g⟩ (fun r => (∀ c : Dev Cert.KernelFwdOut.nD,
      r.2.mem ((c.tc : Thread Cert.KernelFwdOut.nD Cert.KernelFwdOut.τ).loc Cert.KernelFwdOut.main_arg0) = m ((c.tc : Thread Cert.KernelFwdOut.nD Cert.KernelFwdOut.τ).loc Cert.KernelFwdOut.main_arg0)
      ∧ r.2.mem ((c.tc : Thread Cert.KernelFwdOut.nD Cert.KernelFwdOut.τ).loc Cert.KernelFwdOut.main_arg1) = m ((c.tc : Thread Cert.KernelFwdOut.nD Cert.KernelFwdOut.τ).loc Cert.KernelFwdOut.main_arg1)
      ∧ r.2.mem ((c.tc : Thread Cert.KernelFwdOut.nD Cert.KernelFwdOut.τ).loc Cert.KernelFwdOut.main_arg2) = m ((c.tc : Thread Cert.KernelFwdOut.nD Cert.KernelFwdOut.τ).loc Cert.KernelFwdOut.main_arg2)
      ∧ r.2.mem ((c.tc : Thread Cert.KernelFwdOut.nD Cert.KernelFwdOut.τ).loc Cert.KernelFwdOut.main_arg3) = m ((c.tc : Thread Cert.KernelFwdOut.nD Cert.KernelFwdOut.τ).loc Cert.KernelFwdOut.main_arg3)
      ∧ r.2.mem ((c.tc : Thread Cert.KernelFwdOut.nD Cert.KernelFwdOut.τ).loc Cert.KernelFwdOut.main_arg4) = m ((c.tc : Thread Cert.KernelFwdOut.nD Cert.KernelFwdOut.τ).loc Cert.KernelFwdOut.main_arg4))
      ∧ r.2.sem = fun _ => 0)

def quiescent_KernelFwdOutIdeal [hKernelFwdOutIdeal : Cert.KernelFwdOutIdeal.Facts] : Prop :=
  ∀ (m : (ℓ : Loc Cert.KernelFwdOutIdeal.nD Cert.KernelFwdOutIdeal.τ Cert.KernelFwdOutIdeal.sig) → Buf (Elt Ideal) ℓ) (g : Dev Cert.KernelFwdOutIdeal.nD → PrngReg), Pre_KernelFwdOutIdeal m →
    θ_run (Cert.KernelFwdOutIdeal.defs (F := Ideal)) (onTc (τ := Cert.KernelFwdOutIdeal.τ) (Cert.KernelFwdOutIdeal.main (F := Ideal))) ⟨m, fun _ => 0, g⟩ (fun r => (∀ c : Dev Cert.KernelFwdOutIdeal.nD,
      r.2.mem ((c.tc : Thread Cert.KernelFwdOutIdeal.nD Cert.KernelFwdOutIdeal.τ).loc Cert.KernelFwdOutIdeal.main_arg0) = m ((c.tc : Thread Cert.KernelFwdOutIdeal.nD Cert.KernelFwdOutIdeal.τ).loc Cert.KernelFwdOutIdeal.main_arg0)
      ∧ r.2.mem ((c.tc : Thread Cert.KernelFwdOutIdeal.nD Cert.KernelFwdOutIdeal.τ).loc Cert.KernelFwdOutIdeal.main_arg1) = m ((c.tc : Thread Cert.KernelFwdOutIdeal.nD Cert.KernelFwdOutIdeal.τ).loc Cert.KernelFwdOutIdeal.main_arg1)
      ∧ r.2.mem ((c.tc : Thread Cert.KernelFwdOutIdeal.nD Cert.KernelFwdOutIdeal.τ).loc Cert.KernelFwdOutIdeal.main_arg2) = m ((c.tc : Thread Cert.KernelFwdOutIdeal.nD Cert.KernelFwdOutIdeal.τ).loc Cert.KernelFwdOutIdeal.main_arg2)
      ∧ r.2.mem ((c.tc : Thread Cert.KernelFwdOutIdeal.nD Cert.KernelFwdOutIdeal.τ).loc Cert.KernelFwdOutIdeal.main_arg3) = m ((c.tc : Thread Cert.KernelFwdOutIdeal.nD Cert.KernelFwdOutIdeal.τ).loc Cert.KernelFwdOutIdeal.main_arg3)
      ∧ r.2.mem ((c.tc : Thread Cert.KernelFwdOutIdeal.nD Cert.KernelFwdOutIdeal.τ).loc Cert.KernelFwdOutIdeal.main_arg4) = m ((c.tc : Thread Cert.KernelFwdOutIdeal.nD Cert.KernelFwdOutIdeal.τ).loc Cert.KernelFwdOutIdeal.main_arg4))
      ∧ r.2.sem = fun _ => 0)

def quiescent_ReferenceFwdOutIdeal [hReferenceFwdOutIdeal : Cert.ReferenceFwdOutIdeal.Facts] : Prop :=
  ∀ (m : (ℓ : Loc Cert.ReferenceFwdOutIdeal.nD Cert.ReferenceFwdOutIdeal.τ Cert.ReferenceFwdOutIdeal.sig) → Buf (Elt Ideal) ℓ) (g : Dev Cert.ReferenceFwdOutIdeal.nD → PrngReg), Pre_ReferenceFwdOutIdeal m →
    θ_run (Cert.ReferenceFwdOutIdeal.defs (F := Ideal)) (onTc (τ := Cert.ReferenceFwdOutIdeal.τ) (Cert.ReferenceFwdOutIdeal.main (F := Ideal))) ⟨m, fun _ => 0, g⟩ (fun r => (∀ c : Dev Cert.ReferenceFwdOutIdeal.nD,
      r.2.mem ((c.tc : Thread Cert.ReferenceFwdOutIdeal.nD Cert.ReferenceFwdOutIdeal.τ).loc Cert.ReferenceFwdOutIdeal.main_arg0) = m ((c.tc : Thread Cert.ReferenceFwdOutIdeal.nD Cert.ReferenceFwdOutIdeal.τ).loc Cert.ReferenceFwdOutIdeal.main_arg0)
      ∧ r.2.mem ((c.tc : Thread Cert.ReferenceFwdOutIdeal.nD Cert.ReferenceFwdOutIdeal.τ).loc Cert.ReferenceFwdOutIdeal.main_arg1) = m ((c.tc : Thread Cert.ReferenceFwdOutIdeal.nD Cert.ReferenceFwdOutIdeal.τ).loc Cert.ReferenceFwdOutIdeal.main_arg1)
      ∧ r.2.mem ((c.tc : Thread Cert.ReferenceFwdOutIdeal.nD Cert.ReferenceFwdOutIdeal.τ).loc Cert.ReferenceFwdOutIdeal.main_arg2) = m ((c.tc : Thread Cert.ReferenceFwdOutIdeal.nD Cert.ReferenceFwdOutIdeal.τ).loc Cert.ReferenceFwdOutIdeal.main_arg2)
      ∧ r.2.mem ((c.tc : Thread Cert.ReferenceFwdOutIdeal.nD Cert.ReferenceFwdOutIdeal.τ).loc Cert.ReferenceFwdOutIdeal.main_arg3) = m ((c.tc : Thread Cert.ReferenceFwdOutIdeal.nD Cert.ReferenceFwdOutIdeal.τ).loc Cert.ReferenceFwdOutIdeal.main_arg3)
      ∧ r.2.mem ((c.tc : Thread Cert.ReferenceFwdOutIdeal.nD Cert.ReferenceFwdOutIdeal.τ).loc Cert.ReferenceFwdOutIdeal.main_arg4) = m ((c.tc : Thread Cert.ReferenceFwdOutIdeal.nD Cert.ReferenceFwdOutIdeal.τ).loc Cert.ReferenceFwdOutIdeal.main_arg4))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelAdamFfn [hKernelAdamFfn : Cert.KernelAdamFfn.Facts] : Prop :=
  ∀ (m : (ℓ : Loc Cert.KernelAdamFfn.nD Cert.KernelAdamFfn.τ Cert.KernelAdamFfn.sig) → Buf (Elt Bits) ℓ) (g : Dev Cert.KernelAdamFfn.nD → PrngReg), Pre_KernelAdamFfn m →
    θ_run (Cert.KernelAdamFfn.defs (F := Bits)) (onTc (τ := Cert.KernelAdamFfn.τ) (Cert.KernelAdamFfn.main (F := Bits))) ⟨m, fun _ => 0, g⟩ (fun r => (∀ c : Dev Cert.KernelAdamFfn.nD,
      r.2.mem ((c.tc : Thread Cert.KernelAdamFfn.nD Cert.KernelAdamFfn.τ).loc Cert.KernelAdamFfn.main_arg0) = m ((c.tc : Thread Cert.KernelAdamFfn.nD Cert.KernelAdamFfn.τ).loc Cert.KernelAdamFfn.main_arg0)
      ∧ r.2.mem ((c.tc : Thread Cert.KernelAdamFfn.nD Cert.KernelAdamFfn.τ).loc Cert.KernelAdamFfn.main_arg1) = m ((c.tc : Thread Cert.KernelAdamFfn.nD Cert.KernelAdamFfn.τ).loc Cert.KernelAdamFfn.main_arg1)
      ∧ r.2.mem ((c.tc : Thread Cert.KernelAdamFfn.nD Cert.KernelAdamFfn.τ).loc Cert.KernelAdamFfn.main_arg2) = m ((c.tc : Thread Cert.KernelAdamFfn.nD Cert.KernelAdamFfn.τ).loc Cert.KernelAdamFfn.main_arg2)
      ∧ r.2.mem ((c.tc : Thread Cert.KernelAdamFfn.nD Cert.KernelAdamFfn.τ).loc Cert.KernelAdamFfn.main_arg3) = m ((c.tc : Thread Cert.KernelAdamFfn.nD Cert.KernelAdamFfn.τ).loc Cert.KernelAdamFfn.main_arg3))
      ∧ r.2.sem = fun _ => 0)

def quiescent_KernelAdamFfnIdeal [hKernelAdamFfnIdeal : Cert.KernelAdamFfnIdeal.Facts] : Prop :=
  ∀ (m : (ℓ : Loc Cert.KernelAdamFfnIdeal.nD Cert.KernelAdamFfnIdeal.τ Cert.KernelAdamFfnIdeal.sig) → Buf (Elt Ideal) ℓ) (g : Dev Cert.KernelAdamFfnIdeal.nD → PrngReg), Pre_KernelAdamFfnIdeal m →
    θ_run (Cert.KernelAdamFfnIdeal.defs (F := Ideal)) (onTc (τ := Cert.KernelAdamFfnIdeal.τ) (Cert.KernelAdamFfnIdeal.main (F := Ideal))) ⟨m, fun _ => 0, g⟩ (fun r => (∀ c : Dev Cert.KernelAdamFfnIdeal.nD,
      r.2.mem ((c.tc : Thread Cert.KernelAdamFfnIdeal.nD Cert.KernelAdamFfnIdeal.τ).loc Cert.KernelAdamFfnIdeal.main_arg0) = m ((c.tc : Thread Cert.KernelAdamFfnIdeal.nD Cert.KernelAdamFfnIdeal.τ).loc Cert.KernelAdamFfnIdeal.main_arg0)
      ∧ r.2.mem ((c.tc : Thread Cert.KernelAdamFfnIdeal.nD Cert.KernelAdamFfnIdeal.τ).loc Cert.KernelAdamFfnIdeal.main_arg1) = m ((c.tc : Thread Cert.KernelAdamFfnIdeal.nD Cert.KernelAdamFfnIdeal.τ).loc Cert.KernelAdamFfnIdeal.main_arg1)
      ∧ r.2.mem ((c.tc : Thread Cert.KernelAdamFfnIdeal.nD Cert.KernelAdamFfnIdeal.τ).loc Cert.KernelAdamFfnIdeal.main_arg2) = m ((c.tc : Thread Cert.KernelAdamFfnIdeal.nD Cert.KernelAdamFfnIdeal.τ).loc Cert.KernelAdamFfnIdeal.main_arg2)
      ∧ r.2.mem ((c.tc : Thread Cert.KernelAdamFfnIdeal.nD Cert.KernelAdamFfnIdeal.τ).loc Cert.KernelAdamFfnIdeal.main_arg3) = m ((c.tc : Thread Cert.KernelAdamFfnIdeal.nD Cert.KernelAdamFfnIdeal.τ).loc Cert.KernelAdamFfnIdeal.main_arg3))
      ∧ r.2.sem = fun _ => 0)

def quiescent_ReferenceAdamFfnIdeal [hReferenceAdamFfnIdeal : Cert.ReferenceAdamFfnIdeal.Facts] : Prop :=
  ∀ (m : (ℓ : Loc Cert.ReferenceAdamFfnIdeal.nD Cert.ReferenceAdamFfnIdeal.τ Cert.ReferenceAdamFfnIdeal.sig) → Buf (Elt Ideal) ℓ) (g : Dev Cert.ReferenceAdamFfnIdeal.nD → PrngReg), Pre_ReferenceAdamFfnIdeal m →
    θ_run (Cert.ReferenceAdamFfnIdeal.defs (F := Ideal)) (onTc (τ := Cert.ReferenceAdamFfnIdeal.τ) (Cert.ReferenceAdamFfnIdeal.main (F := Ideal))) ⟨m, fun _ => 0, g⟩ (fun r => (∀ c : Dev Cert.ReferenceAdamFfnIdeal.nD,
      r.2.mem ((c.tc : Thread Cert.ReferenceAdamFfnIdeal.nD Cert.ReferenceAdamFfnIdeal.τ).loc Cert.ReferenceAdamFfnIdeal.main_arg0) = m ((c.tc : Thread Cert.ReferenceAdamFfnIdeal.nD Cert.ReferenceAdamFfnIdeal.τ).loc Cert.ReferenceAdamFfnIdeal.main_arg0)
      ∧ r.2.mem ((c.tc : Thread Cert.ReferenceAdamFfnIdeal.nD Cert.ReferenceAdamFfnIdeal.τ).loc Cert.ReferenceAdamFfnIdeal.main_arg1) = m ((c.tc : Thread Cert.ReferenceAdamFfnIdeal.nD Cert.ReferenceAdamFfnIdeal.τ).loc Cert.ReferenceAdamFfnIdeal.main_arg1)
      ∧ r.2.mem ((c.tc : Thread Cert.ReferenceAdamFfnIdeal.nD Cert.ReferenceAdamFfnIdeal.τ).loc Cert.ReferenceAdamFfnIdeal.main_arg2) = m ((c.tc : Thread Cert.ReferenceAdamFfnIdeal.nD Cert.ReferenceAdamFfnIdeal.τ).loc Cert.ReferenceAdamFfnIdeal.main_arg2)
      ∧ r.2.mem ((c.tc : Thread Cert.ReferenceAdamFfnIdeal.nD Cert.ReferenceAdamFfnIdeal.τ).loc Cert.ReferenceAdamFfnIdeal.main_arg3) = m ((c.tc : Thread Cert.ReferenceAdamFfnIdeal.nD Cert.ReferenceAdamFfnIdeal.τ).loc Cert.ReferenceAdamFfnIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelSgu [hKernelSgu : Cert.KernelSgu.Facts] : Prop :=
  ∀ (m : (ℓ : Loc Cert.KernelSgu.nD Cert.KernelSgu.τ Cert.KernelSgu.sig) → Buf (Elt Bits) ℓ) (g : Dev Cert.KernelSgu.nD → PrngReg), Pre_KernelSgu m →
    θ_run (Cert.KernelSgu.defs (F := Bits)) (onTc (τ := Cert.KernelSgu.τ) (Cert.KernelSgu.main (F := Bits))) ⟨m, fun _ => 0, g⟩ (fun r => (∀ c : Dev Cert.KernelSgu.nD,
      r.2.mem ((c.tc : Thread Cert.KernelSgu.nD Cert.KernelSgu.τ).loc Cert.KernelSgu.main_arg0) = m ((c.tc : Thread Cert.KernelSgu.nD Cert.KernelSgu.τ).loc Cert.KernelSgu.main_arg0)
      ∧ r.2.mem ((c.tc : Thread Cert.KernelSgu.nD Cert.KernelSgu.τ).loc Cert.KernelSgu.main_arg1) = m ((c.tc : Thread Cert.KernelSgu.nD Cert.KernelSgu.τ).loc Cert.KernelSgu.main_arg1)
      ∧ r.2.mem ((c.tc : Thread Cert.KernelSgu.nD Cert.KernelSgu.τ).loc Cert.KernelSgu.main_arg2) = m ((c.tc : Thread Cert.KernelSgu.nD Cert.KernelSgu.τ).loc Cert.KernelSgu.main_arg2)
      ∧ r.2.mem ((c.tc : Thread Cert.KernelSgu.nD Cert.KernelSgu.τ).loc Cert.KernelSgu.main_arg3) = m ((c.tc : Thread Cert.KernelSgu.nD Cert.KernelSgu.τ).loc Cert.KernelSgu.main_arg3))
      ∧ r.2.sem = fun _ => 0)

def quiescent_KernelSguIdeal [hKernelSguIdeal : Cert.KernelSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3))
      ∧ r.2.sem = fun _ => 0)

def quiescent_KernelSguIdeal_pre_finite_sgu [hKernelSguIdeal : Cert.KernelSguIdeal.Facts] [hPre_finite_sgu : Cert.Pre_finite_sgu.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal_finite_sgu m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3))
      ∧ r.2.sem = fun _ => 0)

def quiescent_ReferenceSguIdeal [hReferenceSguIdeal : Cert.ReferenceSguIdeal.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3))
      ∧ r.2.sem = fun _ => 0)

def quiescent_ReferenceSguIdeal_pre_finite_sgu [hReferenceSguIdeal : Cert.ReferenceSguIdeal.Facts] [hPre_finite_sgu : Cert.Pre_finite_sgu.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal_finite_sgu m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v11_0)) (v2 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_v11_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)
      ∧ m' ((c.tc : Thread Cert.ReferenceWIdeal.nD Cert.ReferenceWIdeal.τ).loc Cert.ReferenceWIdeal.main_arg2) = m ((c.tc : Thread Cert.KernelWIdeal.nD Cert.KernelWIdeal.τ).loc Cert.KernelWIdeal.main_arg2)
      ∧ m' ((c.tc : Thread Cert.ReferenceWIdeal.nD Cert.ReferenceWIdeal.τ).loc Cert.ReferenceWIdeal.main_arg3) = m ((c.tc : Thread Cert.KernelWIdeal.nD Cert.KernelWIdeal.τ).loc Cert.KernelWIdeal.main_arg3)
      ∧ m' ((c.tc : Thread Cert.ReferenceWIdeal.nD Cert.ReferenceWIdeal.τ).loc Cert.ReferenceWIdeal.main_arg4) = m ((c.tc : Thread Cert.KernelWIdeal.nD Cert.KernelWIdeal.τ).loc Cert.KernelWIdeal.main_arg4)
      ∧ m' ((c.tc : Thread Cert.ReferenceWIdeal.nD Cert.ReferenceWIdeal.τ).loc Cert.ReferenceWIdeal.main_arg5) = m ((c.tc : Thread Cert.KernelWIdeal.nD Cert.KernelWIdeal.τ).loc Cert.KernelWIdeal.main_arg5)) →
    ∃ (v0 : (c : Dev Cert.KernelWIdeal.nD) → Buf (Elt Ideal) ((c.tc : Thread Cert.KernelWIdeal.nD Cert.KernelWIdeal.τ).loc Cert.KernelWIdeal.main_v38_0)) (v1 : (c : Dev Cert.KernelWIdeal.nD) → Buf (Elt Ideal) ((c.tc : Thread Cert.KernelWIdeal.nD Cert.KernelWIdeal.τ).loc Cert.KernelWIdeal.main_v38_1)) (v2 : (c : Dev Cert.KernelWIdeal.nD) → Buf (Elt Ideal) ((c.tc : Thread Cert.KernelWIdeal.nD Cert.KernelWIdeal.τ).loc Cert.KernelWIdeal.main_v38_2)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v38_0) = v0 c
          ∧ r.2.mem ((c.tc : Thread Cert.KernelWIdeal.nD Cert.KernelWIdeal.τ).loc Cert.KernelWIdeal.main_v38_1) = v1 c
          ∧ r.2.mem ((c.tc : Thread Cert.KernelWIdeal.nD Cert.KernelWIdeal.τ).loc Cert.KernelWIdeal.main_v38_2) = v2 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
          ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
          ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
          ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
          ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v35) = v0 c
          ∧ r.2.mem ((c.tc : Thread Cert.ReferenceWIdeal.nD Cert.ReferenceWIdeal.τ).loc Cert.ReferenceWIdeal.main_v38) = v1 c
          ∧ r.2.mem ((c.tc : Thread Cert.ReferenceWIdeal.nD Cert.ReferenceWIdeal.τ).loc Cert.ReferenceWIdeal.main_v40) = v2 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1)
          ∧ r.2.mem ((c.tc : Thread Cert.ReferenceWIdeal.nD Cert.ReferenceWIdeal.τ).loc Cert.ReferenceWIdeal.main_arg2) = m' ((c.tc : Thread Cert.ReferenceWIdeal.nD Cert.ReferenceWIdeal.τ).loc Cert.ReferenceWIdeal.main_arg2)
          ∧ r.2.mem ((c.tc : Thread Cert.ReferenceWIdeal.nD Cert.ReferenceWIdeal.τ).loc Cert.ReferenceWIdeal.main_arg3) = m' ((c.tc : Thread Cert.ReferenceWIdeal.nD Cert.ReferenceWIdeal.τ).loc Cert.ReferenceWIdeal.main_arg3)
          ∧ r.2.mem ((c.tc : Thread Cert.ReferenceWIdeal.nD Cert.ReferenceWIdeal.τ).loc Cert.ReferenceWIdeal.main_arg4) = m' ((c.tc : Thread Cert.ReferenceWIdeal.nD Cert.ReferenceWIdeal.τ).loc Cert.ReferenceWIdeal.main_arg4)
          ∧ r.2.mem ((c.tc : Thread Cert.ReferenceWIdeal.nD Cert.ReferenceWIdeal.τ).loc Cert.ReferenceWIdeal.main_arg5) = m' ((c.tc : Thread Cert.ReferenceWIdeal.nD Cert.ReferenceWIdeal.τ).loc Cert.ReferenceWIdeal.main_arg5))

def preserves_KernelIn_KernelInIdeal : Prop :=
  True

def algebraic_KernelInIdeal_ReferenceInIdeal_pre_finite_in [hKernelInIdeal : Cert.KernelInIdeal.Facts] [hReferenceInIdeal : Cert.ReferenceInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_finite_in m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v5_0)) (v1 : (c : Dev Cert.KernelInIdeal.nD) → Buf (Elt Ideal) ((c.tc : Thread Cert.KernelInIdeal.nD Cert.KernelInIdeal.τ).loc Cert.KernelInIdeal.main_v5_1)) (v2 : (c : Dev Cert.KernelInIdeal.nD) → Buf (Elt Ideal) ((c.tc : Thread Cert.KernelInIdeal.nD Cert.KernelInIdeal.τ).loc Cert.KernelInIdeal.main_v5_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5_0) = v0 c
          ∧ r.2.mem ((c.tc : Thread Cert.KernelInIdeal.nD Cert.KernelInIdeal.τ).loc Cert.KernelInIdeal.main_v5_1) = v1 c
          ∧ r.2.mem ((c.tc : Thread Cert.KernelInIdeal.nD Cert.KernelInIdeal.τ).loc Cert.KernelInIdeal.main_v5_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v38) = v0 c
          ∧ r.2.mem ((c.tc : Thread Cert.ReferenceInIdeal.nD Cert.ReferenceInIdeal.τ).loc Cert.ReferenceInIdeal.main_v39) = v1 c
          ∧ r.2.mem ((c.tc : Thread Cert.ReferenceInIdeal.nD Cert.ReferenceInIdeal.τ).loc Cert.ReferenceInIdeal.main_v53) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelInW_KernelInWIdeal : Prop :=
  True

def algebraic_KernelInWIdeal_ReferenceInWIdeal [hKernelInWIdeal : Cert.KernelInWIdeal.Facts] [hReferenceInWIdeal : Cert.ReferenceInWIdeal.Facts] : Prop :=
  ∀ (m : (ℓ : Loc Cert.KernelInWIdeal.nD Cert.KernelInWIdeal.τ Cert.KernelInWIdeal.sig) → Buf (Elt Ideal) ℓ) (g : Dev Cert.KernelInWIdeal.nD → PrngReg)
    (m' : (ℓ : Loc Cert.ReferenceInWIdeal.nD Cert.ReferenceInWIdeal.τ Cert.ReferenceInWIdeal.sig) → Buf (Elt Ideal) ℓ) (g' : Dev Cert.ReferenceInWIdeal.nD → PrngReg), Pre_KernelInWIdeal m →
    (∀ c : Dev Cert.KernelInWIdeal.nD,
      m' ((c.tc : Thread Cert.ReferenceInWIdeal.nD Cert.ReferenceInWIdeal.τ).loc Cert.ReferenceInWIdeal.main_arg0) = m ((c.tc : Thread Cert.KernelInWIdeal.nD Cert.KernelInWIdeal.τ).loc Cert.KernelInWIdeal.main_arg0)
      ∧ m' ((c.tc : Thread Cert.ReferenceInWIdeal.nD Cert.ReferenceInWIdeal.τ).loc Cert.ReferenceInWIdeal.main_arg1) = m ((c.tc : Thread Cert.KernelInWIdeal.nD Cert.KernelInWIdeal.τ).loc Cert.KernelInWIdeal.main_arg1)
      ∧ m' ((c.tc : Thread Cert.ReferenceInWIdeal.nD Cert.ReferenceInWIdeal.τ).loc Cert.ReferenceInWIdeal.main_arg2) = m ((c.tc : Thread Cert.KernelInWIdeal.nD Cert.KernelInWIdeal.τ).loc Cert.KernelInWIdeal.main_arg2)
      ∧ m' ((c.tc : Thread Cert.ReferenceInWIdeal.nD Cert.ReferenceInWIdeal.τ).loc Cert.ReferenceInWIdeal.main_arg3) = m ((c.tc : Thread Cert.KernelInWIdeal.nD Cert.KernelInWIdeal.τ).loc Cert.KernelInWIdeal.main_arg3)
      ∧ m' ((c.tc : Thread Cert.ReferenceInWIdeal.nD Cert.ReferenceInWIdeal.τ).loc Cert.ReferenceInWIdeal.main_arg4) = m ((c.tc : Thread Cert.KernelInWIdeal.nD Cert.KernelInWIdeal.τ).loc Cert.KernelInWIdeal.main_arg4)) →
    ∃ (v0 : (c : Dev Cert.KernelInWIdeal.nD) → Buf (Elt Ideal) ((c.tc : Thread Cert.KernelInWIdeal.nD Cert.KernelInWIdeal.τ).loc Cert.KernelInWIdeal.main_v15)),
      θ_run (Cert.KernelInWIdeal.defs (F := Ideal)) (onTc (τ := Cert.KernelInWIdeal.τ) (Cert.KernelInWIdeal.main (F := Ideal))) ⟨m, fun _ => 0, g⟩ (fun r => ∀ c : Dev Cert.KernelInWIdeal.nD,
          r.2.mem ((c.tc : Thread Cert.KernelInWIdeal.nD Cert.KernelInWIdeal.τ).loc Cert.KernelInWIdeal.main_v15) = v0 c
          ∧ r.2.mem ((c.tc : Thread Cert.KernelInWIdeal.nD Cert.KernelInWIdeal.τ).loc Cert.KernelInWIdeal.main_arg0) = m ((c.tc : Thread Cert.KernelInWIdeal.nD Cert.KernelInWIdeal.τ).loc Cert.KernelInWIdeal.main_arg0)
          ∧ r.2.mem ((c.tc : Thread Cert.KernelInWIdeal.nD Cert.KernelInWIdeal.τ).loc Cert.KernelInWIdeal.main_arg1) = m ((c.tc : Thread Cert.KernelInWIdeal.nD Cert.KernelInWIdeal.τ).loc Cert.KernelInWIdeal.main_arg1)
          ∧ r.2.mem ((c.tc : Thread Cert.KernelInWIdeal.nD Cert.KernelInWIdeal.τ).loc Cert.KernelInWIdeal.main_arg2) = m ((c.tc : Thread Cert.KernelInWIdeal.nD Cert.KernelInWIdeal.τ).loc Cert.KernelInWIdeal.main_arg2)
          ∧ r.2.mem ((c.tc : Thread Cert.KernelInWIdeal.nD Cert.KernelInWIdeal.τ).loc Cert.KernelInWIdeal.main_arg3) = m ((c.tc : Thread Cert.KernelInWIdeal.nD Cert.KernelInWIdeal.τ).loc Cert.KernelInWIdeal.main_arg3)
          ∧ r.2.mem ((c.tc : Thread Cert.KernelInWIdeal.nD Cert.KernelInWIdeal.τ).loc Cert.KernelInWIdeal.main_arg4) = m ((c.tc : Thread Cert.KernelInWIdeal.nD Cert.KernelInWIdeal.τ).loc Cert.KernelInWIdeal.main_arg4))
      ∧ θ_run (Cert.ReferenceInWIdeal.defs (F := Ideal)) (onTc (τ := Cert.ReferenceInWIdeal.τ) (Cert.ReferenceInWIdeal.main (F := Ideal))) ⟨m', fun _ => 0, g'⟩ (fun r => ∀ c : Dev Cert.ReferenceInWIdeal.nD,
          r.2.mem ((c.tc : Thread Cert.ReferenceInWIdeal.nD Cert.ReferenceInWIdeal.τ).loc Cert.ReferenceInWIdeal.main_v25) = v0 c
          ∧ r.2.mem ((c.tc : Thread Cert.ReferenceInWIdeal.nD Cert.ReferenceInWIdeal.τ).loc Cert.ReferenceInWIdeal.main_arg0) = m' ((c.tc : Thread Cert.ReferenceInWIdeal.nD Cert.ReferenceInWIdeal.τ).loc Cert.ReferenceInWIdeal.main_arg0)
          ∧ r.2.mem ((c.tc : Thread Cert.ReferenceInWIdeal.nD Cert.ReferenceInWIdeal.τ).loc Cert.ReferenceInWIdeal.main_arg1) = m' ((c.tc : Thread Cert.ReferenceInWIdeal.nD Cert.ReferenceInWIdeal.τ).loc Cert.ReferenceInWIdeal.main_arg1)
          ∧ r.2.mem ((c.tc : Thread Cert.ReferenceInWIdeal.nD Cert.ReferenceInWIdeal.τ).loc Cert.ReferenceInWIdeal.main_arg2) = m' ((c.tc : Thread Cert.ReferenceInWIdeal.nD Cert.ReferenceInWIdeal.τ).loc Cert.ReferenceInWIdeal.main_arg2)
          ∧ r.2.mem ((c.tc : Thread Cert.ReferenceInWIdeal.nD Cert.ReferenceInWIdeal.τ).loc Cert.ReferenceInWIdeal.main_arg3) = m' ((c.tc : Thread Cert.ReferenceInWIdeal.nD Cert.ReferenceInWIdeal.τ).loc Cert.ReferenceInWIdeal.main_arg3)
          ∧ r.2.mem ((c.tc : Thread Cert.ReferenceInWIdeal.nD Cert.ReferenceInWIdeal.τ).loc Cert.ReferenceInWIdeal.main_arg4) = m' ((c.tc : Thread Cert.ReferenceInWIdeal.nD Cert.ReferenceInWIdeal.τ).loc Cert.ReferenceInWIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v5_0)) (v1 : (c : Dev Cert.KernelOutIdeal.nD) → Buf (Elt Ideal) ((c.tc : Thread Cert.KernelOutIdeal.nD Cert.KernelOutIdeal.τ).loc Cert.KernelOutIdeal.main_v5_1)) (v2 : (c : Dev Cert.KernelOutIdeal.nD) → Buf (Elt Ideal) ((c.tc : Thread Cert.KernelOutIdeal.nD Cert.KernelOutIdeal.τ).loc Cert.KernelOutIdeal.main_v5_2)) (v3 : (c : Dev Cert.KernelOutIdeal.nD) → Buf (Elt Ideal) ((c.tc : Thread Cert.KernelOutIdeal.nD Cert.KernelOutIdeal.τ).loc Cert.KernelOutIdeal.main_v5_3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5_0) = v0 c
          ∧ r.2.mem ((c.tc : Thread Cert.KernelOutIdeal.nD Cert.KernelOutIdeal.τ).loc Cert.KernelOutIdeal.main_v5_1) = v1 c
          ∧ r.2.mem ((c.tc : Thread Cert.KernelOutIdeal.nD Cert.KernelOutIdeal.τ).loc Cert.KernelOutIdeal.main_v5_2) = v2 c
          ∧ r.2.mem ((c.tc : Thread Cert.KernelOutIdeal.nD Cert.KernelOutIdeal.τ).loc Cert.KernelOutIdeal.main_v5_3) = v3 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_v6) = v1 c
          ∧ r.2.mem ((c.tc : Thread Cert.ReferenceOutIdeal.nD Cert.ReferenceOutIdeal.τ).loc Cert.ReferenceOutIdeal.main_v7) = v2 c
          ∧ r.2.mem ((c.tc : Thread Cert.ReferenceOutIdeal.nD Cert.ReferenceOutIdeal.τ).loc Cert.ReferenceOutIdeal.main_v9) = v3 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelFwdIn_KernelFwdInIdeal : Prop :=
  True

def algebraic_KernelFwdInIdeal_ReferenceFwdInIdeal [hKernelFwdInIdeal : Cert.KernelFwdInIdeal.Facts] [hReferenceFwdInIdeal : Cert.ReferenceFwdInIdeal.Facts] : Prop :=
  ∀ (m : (ℓ : Loc Cert.KernelFwdInIdeal.nD Cert.KernelFwdInIdeal.τ Cert.KernelFwdInIdeal.sig) → Buf (Elt Ideal) ℓ) (g : Dev Cert.KernelFwdInIdeal.nD → PrngReg)
    (m' : (ℓ : Loc Cert.ReferenceFwdInIdeal.nD Cert.ReferenceFwdInIdeal.τ Cert.ReferenceFwdInIdeal.sig) → Buf (Elt Ideal) ℓ) (g' : Dev Cert.ReferenceFwdInIdeal.nD → PrngReg), Pre_KernelFwdInIdeal m →
    (∀ c : Dev Cert.KernelFwdInIdeal.nD,
      m' ((c.tc : Thread Cert.ReferenceFwdInIdeal.nD Cert.ReferenceFwdInIdeal.τ).loc Cert.ReferenceFwdInIdeal.main_arg0) = m ((c.tc : Thread Cert.KernelFwdInIdeal.nD Cert.KernelFwdInIdeal.τ).loc Cert.KernelFwdInIdeal.main_arg0)
      ∧ m' ((c.tc : Thread Cert.ReferenceFwdInIdeal.nD Cert.ReferenceFwdInIdeal.τ).loc Cert.ReferenceFwdInIdeal.main_arg1) = m ((c.tc : Thread Cert.KernelFwdInIdeal.nD Cert.KernelFwdInIdeal.τ).loc Cert.KernelFwdInIdeal.main_arg1)
      ∧ m' ((c.tc : Thread Cert.ReferenceFwdInIdeal.nD Cert.ReferenceFwdInIdeal.τ).loc Cert.ReferenceFwdInIdeal.main_arg2) = m ((c.tc : Thread Cert.KernelFwdInIdeal.nD Cert.KernelFwdInIdeal.τ).loc Cert.KernelFwdInIdeal.main_arg2)) →
    ∃ (v0 : (c : Dev Cert.KernelFwdInIdeal.nD) → Buf (Elt Ideal) ((c.tc : Thread Cert.KernelFwdInIdeal.nD Cert.KernelFwdInIdeal.τ).loc Cert.KernelFwdInIdeal.main_v4)),
      θ_run (Cert.KernelFwdInIdeal.defs (F := Ideal)) (onTc (τ := Cert.KernelFwdInIdeal.τ) (Cert.KernelFwdInIdeal.main (F := Ideal))) ⟨m, fun _ => 0, g⟩ (fun r => ∀ c : Dev Cert.KernelFwdInIdeal.nD,
          r.2.mem ((c.tc : Thread Cert.KernelFwdInIdeal.nD Cert.KernelFwdInIdeal.τ).loc Cert.KernelFwdInIdeal.main_v4) = v0 c
          ∧ r.2.mem ((c.tc : Thread Cert.KernelFwdInIdeal.nD Cert.KernelFwdInIdeal.τ).loc Cert.KernelFwdInIdeal.main_arg0) = m ((c.tc : Thread Cert.KernelFwdInIdeal.nD Cert.KernelFwdInIdeal.τ).loc Cert.KernelFwdInIdeal.main_arg0)
          ∧ r.2.mem ((c.tc : Thread Cert.KernelFwdInIdeal.nD Cert.KernelFwdInIdeal.τ).loc Cert.KernelFwdInIdeal.main_arg1) = m ((c.tc : Thread Cert.KernelFwdInIdeal.nD Cert.KernelFwdInIdeal.τ).loc Cert.KernelFwdInIdeal.main_arg1)
          ∧ r.2.mem ((c.tc : Thread Cert.KernelFwdInIdeal.nD Cert.KernelFwdInIdeal.τ).loc Cert.KernelFwdInIdeal.main_arg2) = m ((c.tc : Thread Cert.KernelFwdInIdeal.nD Cert.KernelFwdInIdeal.τ).loc Cert.KernelFwdInIdeal.main_arg2))
      ∧ θ_run (Cert.ReferenceFwdInIdeal.defs (F := Ideal)) (onTc (τ := Cert.ReferenceFwdInIdeal.τ) (Cert.ReferenceFwdInIdeal.main (F := Ideal))) ⟨m', fun _ => 0, g'⟩ (fun r => ∀ c : Dev Cert.ReferenceFwdInIdeal.nD,
          r.2.mem ((c.tc : Thread Cert.ReferenceFwdInIdeal.nD Cert.ReferenceFwdInIdeal.τ).loc Cert.ReferenceFwdInIdeal.main_v13) = v0 c
          ∧ r.2.mem ((c.tc : Thread Cert.ReferenceFwdInIdeal.nD Cert.ReferenceFwdInIdeal.τ).loc Cert.ReferenceFwdInIdeal.main_arg0) = m' ((c.tc : Thread Cert.ReferenceFwdInIdeal.nD Cert.ReferenceFwdInIdeal.τ).loc Cert.ReferenceFwdInIdeal.main_arg0)
          ∧ r.2.mem ((c.tc : Thread Cert.ReferenceFwdInIdeal.nD Cert.ReferenceFwdInIdeal.τ).loc Cert.ReferenceFwdInIdeal.main_arg1) = m' ((c.tc : Thread Cert.ReferenceFwdInIdeal.nD Cert.ReferenceFwdInIdeal.τ).loc Cert.ReferenceFwdInIdeal.main_arg1)
          ∧ r.2.mem ((c.tc : Thread Cert.ReferenceFwdInIdeal.nD Cert.ReferenceFwdInIdeal.τ).loc Cert.ReferenceFwdInIdeal.main_arg2) = m' ((c.tc : Thread Cert.ReferenceFwdInIdeal.nD Cert.ReferenceFwdInIdeal.τ).loc Cert.ReferenceFwdInIdeal.main_arg2))

def preserves_KernelFwdOut_KernelFwdOutIdeal : Prop :=
  True

def algebraic_KernelFwdOutIdeal_ReferenceFwdOutIdeal [hKernelFwdOutIdeal : Cert.KernelFwdOutIdeal.Facts] [hReferenceFwdOutIdeal : Cert.ReferenceFwdOutIdeal.Facts] : Prop :=
  ∀ (m : (ℓ : Loc Cert.KernelFwdOutIdeal.nD Cert.KernelFwdOutIdeal.τ Cert.KernelFwdOutIdeal.sig) → Buf (Elt Ideal) ℓ) (g : Dev Cert.KernelFwdOutIdeal.nD → PrngReg)
    (m' : (ℓ : Loc Cert.ReferenceFwdOutIdeal.nD Cert.ReferenceFwdOutIdeal.τ Cert.ReferenceFwdOutIdeal.sig) → Buf (Elt Ideal) ℓ) (g' : Dev Cert.ReferenceFwdOutIdeal.nD → PrngReg), Pre_KernelFwdOutIdeal m →
    (∀ c : Dev Cert.KernelFwdOutIdeal.nD,
      m' ((c.tc : Thread Cert.ReferenceFwdOutIdeal.nD Cert.ReferenceFwdOutIdeal.τ).loc Cert.ReferenceFwdOutIdeal.main_arg0) = m ((c.tc : Thread Cert.KernelFwdOutIdeal.nD Cert.KernelFwdOutIdeal.τ).loc Cert.KernelFwdOutIdeal.main_arg0)
      ∧ m' ((c.tc : Thread Cert.ReferenceFwdOutIdeal.nD Cert.ReferenceFwdOutIdeal.τ).loc Cert.ReferenceFwdOutIdeal.main_arg1) = m ((c.tc : Thread Cert.KernelFwdOutIdeal.nD Cert.KernelFwdOutIdeal.τ).loc Cert.KernelFwdOutIdeal.main_arg1)
      ∧ m' ((c.tc : Thread Cert.ReferenceFwdOutIdeal.nD Cert.ReferenceFwdOutIdeal.τ).loc Cert.ReferenceFwdOutIdeal.main_arg2) = m ((c.tc : Thread Cert.KernelFwdOutIdeal.nD Cert.KernelFwdOutIdeal.τ).loc Cert.KernelFwdOutIdeal.main_arg2)
      ∧ m' ((c.tc : Thread Cert.ReferenceFwdOutIdeal.nD Cert.ReferenceFwdOutIdeal.τ).loc Cert.ReferenceFwdOutIdeal.main_arg3) = m ((c.tc : Thread Cert.KernelFwdOutIdeal.nD Cert.KernelFwdOutIdeal.τ).loc Cert.KernelFwdOutIdeal.main_arg3)
      ∧ m' ((c.tc : Thread Cert.ReferenceFwdOutIdeal.nD Cert.ReferenceFwdOutIdeal.τ).loc Cert.ReferenceFwdOutIdeal.main_arg4) = m ((c.tc : Thread Cert.KernelFwdOutIdeal.nD Cert.KernelFwdOutIdeal.τ).loc Cert.KernelFwdOutIdeal.main_arg4)) →
    ∃ (v0 : (c : Dev Cert.KernelFwdOutIdeal.nD) → Buf (Elt Ideal) ((c.tc : Thread Cert.KernelFwdOutIdeal.nD Cert.KernelFwdOutIdeal.τ).loc Cert.KernelFwdOutIdeal.main_v5)),
      θ_run (Cert.KernelFwdOutIdeal.defs (F := Ideal)) (onTc (τ := Cert.KernelFwdOutIdeal.τ) (Cert.KernelFwdOutIdeal.main (F := Ideal))) ⟨m, fun _ => 0, g⟩ (fun r => ∀ c : Dev Cert.KernelFwdOutIdeal.nD,
          r.2.mem ((c.tc : Thread Cert.KernelFwdOutIdeal.nD Cert.KernelFwdOutIdeal.τ).loc Cert.KernelFwdOutIdeal.main_v5) = v0 c
          ∧ r.2.mem ((c.tc : Thread Cert.KernelFwdOutIdeal.nD Cert.KernelFwdOutIdeal.τ).loc Cert.KernelFwdOutIdeal.main_arg0) = m ((c.tc : Thread Cert.KernelFwdOutIdeal.nD Cert.KernelFwdOutIdeal.τ).loc Cert.KernelFwdOutIdeal.main_arg0)
          ∧ r.2.mem ((c.tc : Thread Cert.KernelFwdOutIdeal.nD Cert.KernelFwdOutIdeal.τ).loc Cert.KernelFwdOutIdeal.main_arg1) = m ((c.tc : Thread Cert.KernelFwdOutIdeal.nD Cert.KernelFwdOutIdeal.τ).loc Cert.KernelFwdOutIdeal.main_arg1)
          ∧ r.2.mem ((c.tc : Thread Cert.KernelFwdOutIdeal.nD Cert.KernelFwdOutIdeal.τ).loc Cert.KernelFwdOutIdeal.main_arg2) = m ((c.tc : Thread Cert.KernelFwdOutIdeal.nD Cert.KernelFwdOutIdeal.τ).loc Cert.KernelFwdOutIdeal.main_arg2)
          ∧ r.2.mem ((c.tc : Thread Cert.KernelFwdOutIdeal.nD Cert.KernelFwdOutIdeal.τ).loc Cert.KernelFwdOutIdeal.main_arg3) = m ((c.tc : Thread Cert.KernelFwdOutIdeal.nD Cert.KernelFwdOutIdeal.τ).loc Cert.KernelFwdOutIdeal.main_arg3)
          ∧ r.2.mem ((c.tc : Thread Cert.KernelFwdOutIdeal.nD Cert.KernelFwdOutIdeal.τ).loc Cert.KernelFwdOutIdeal.main_arg4) = m ((c.tc : Thread Cert.KernelFwdOutIdeal.nD Cert.KernelFwdOutIdeal.τ).loc Cert.KernelFwdOutIdeal.main_arg4))
      ∧ θ_run (Cert.ReferenceFwdOutIdeal.defs (F := Ideal)) (onTc (τ := Cert.ReferenceFwdOutIdeal.τ) (Cert.ReferenceFwdOutIdeal.main (F := Ideal))) ⟨m', fun _ => 0, g'⟩ (fun r => ∀ c : Dev Cert.ReferenceFwdOutIdeal.nD,
          r.2.mem ((c.tc : Thread Cert.ReferenceFwdOutIdeal.nD Cert.ReferenceFwdOutIdeal.τ).loc Cert.ReferenceFwdOutIdeal.main_v2) = v0 c
          ∧ r.2.mem ((c.tc : Thread Cert.ReferenceFwdOutIdeal.nD Cert.ReferenceFwdOutIdeal.τ).loc Cert.ReferenceFwdOutIdeal.main_arg0) = m' ((c.tc : Thread Cert.ReferenceFwdOutIdeal.nD Cert.ReferenceFwdOutIdeal.τ).loc Cert.ReferenceFwdOutIdeal.main_arg0)
          ∧ r.2.mem ((c.tc : Thread Cert.ReferenceFwdOutIdeal.nD Cert.ReferenceFwdOutIdeal.τ).loc Cert.ReferenceFwdOutIdeal.main_arg1) = m' ((c.tc : Thread Cert.ReferenceFwdOutIdeal.nD Cert.ReferenceFwdOutIdeal.τ).loc Cert.ReferenceFwdOutIdeal.main_arg1)
          ∧ r.2.mem ((c.tc : Thread Cert.ReferenceFwdOutIdeal.nD Cert.ReferenceFwdOutIdeal.τ).loc Cert.ReferenceFwdOutIdeal.main_arg2) = m' ((c.tc : Thread Cert.ReferenceFwdOutIdeal.nD Cert.ReferenceFwdOutIdeal.τ).loc Cert.ReferenceFwdOutIdeal.main_arg2)
          ∧ r.2.mem ((c.tc : Thread Cert.ReferenceFwdOutIdeal.nD Cert.ReferenceFwdOutIdeal.τ).loc Cert.ReferenceFwdOutIdeal.main_arg3) = m' ((c.tc : Thread Cert.ReferenceFwdOutIdeal.nD Cert.ReferenceFwdOutIdeal.τ).loc Cert.ReferenceFwdOutIdeal.main_arg3)
          ∧ r.2.mem ((c.tc : Thread Cert.ReferenceFwdOutIdeal.nD Cert.ReferenceFwdOutIdeal.τ).loc Cert.ReferenceFwdOutIdeal.main_arg4) = m' ((c.tc : Thread Cert.ReferenceFwdOutIdeal.nD Cert.ReferenceFwdOutIdeal.τ).loc Cert.ReferenceFwdOutIdeal.main_arg4))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v50) = v0 c
          ∧ r.2.mem ((c.tc : Thread Cert.ReferenceLossIdeal.nD Cert.ReferenceLossIdeal.τ).loc Cert.ReferenceLossIdeal.main_v51) = v1 c
          ∧ r.2.mem ((c.tc : Thread Cert.ReferenceLossIdeal.nD Cert.ReferenceLossIdeal.τ).loc Cert.ReferenceLossIdeal.main_v52) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelAdamFfn_KernelAdamFfnIdeal : Prop :=
  True

def algebraic_KernelAdamFfnIdeal_ReferenceAdamFfnIdeal [hKernelAdamFfnIdeal : Cert.KernelAdamFfnIdeal.Facts] [hReferenceAdamFfnIdeal : Cert.ReferenceAdamFfnIdeal.Facts] : Prop :=
  ∀ (m : (ℓ : Loc Cert.KernelAdamFfnIdeal.nD Cert.KernelAdamFfnIdeal.τ Cert.KernelAdamFfnIdeal.sig) → Buf (Elt Ideal) ℓ) (g : Dev Cert.KernelAdamFfnIdeal.nD → PrngReg)
    (m' : (ℓ : Loc Cert.ReferenceAdamFfnIdeal.nD Cert.ReferenceAdamFfnIdeal.τ Cert.ReferenceAdamFfnIdeal.sig) → Buf (Elt Ideal) ℓ) (g' : Dev Cert.ReferenceAdamFfnIdeal.nD → PrngReg), Pre_KernelAdamFfnIdeal m →
    (∀ c : Dev Cert.KernelAdamFfnIdeal.nD,
      m' ((c.tc : Thread Cert.ReferenceAdamFfnIdeal.nD Cert.ReferenceAdamFfnIdeal.τ).loc Cert.ReferenceAdamFfnIdeal.main_arg0) = m ((c.tc : Thread Cert.KernelAdamFfnIdeal.nD Cert.KernelAdamFfnIdeal.τ).loc Cert.KernelAdamFfnIdeal.main_arg0)
      ∧ m' ((c.tc : Thread Cert.ReferenceAdamFfnIdeal.nD Cert.ReferenceAdamFfnIdeal.τ).loc Cert.ReferenceAdamFfnIdeal.main_arg1) = m ((c.tc : Thread Cert.KernelAdamFfnIdeal.nD Cert.KernelAdamFfnIdeal.τ).loc Cert.KernelAdamFfnIdeal.main_arg1)
      ∧ m' ((c.tc : Thread Cert.ReferenceAdamFfnIdeal.nD Cert.ReferenceAdamFfnIdeal.τ).loc Cert.ReferenceAdamFfnIdeal.main_arg2) = m ((c.tc : Thread Cert.KernelAdamFfnIdeal.nD Cert.KernelAdamFfnIdeal.τ).loc Cert.KernelAdamFfnIdeal.main_arg2)
      ∧ m' ((c.tc : Thread Cert.ReferenceAdamFfnIdeal.nD Cert.ReferenceAdamFfnIdeal.τ).loc Cert.ReferenceAdamFfnIdeal.main_arg3) = m ((c.tc : Thread Cert.KernelAdamFfnIdeal.nD Cert.KernelAdamFfnIdeal.τ).loc Cert.KernelAdamFfnIdeal.main_arg3)) →
    ∃ (v0 : (c : Dev Cert.KernelAdamFfnIdeal.nD) → Buf (Elt Ideal) ((c.tc : Thread Cert.KernelAdamFfnIdeal.nD Cert.KernelAdamFfnIdeal.τ).loc Cert.KernelAdamFfnIdeal.main_v1_0)) (v1 : (c : Dev Cert.KernelAdamFfnIdeal.nD) → Buf (Elt Ideal) ((c.tc : Thread Cert.KernelAdamFfnIdeal.nD Cert.KernelAdamFfnIdeal.τ).loc Cert.KernelAdamFfnIdeal.main_v1_1)) (v2 : (c : Dev Cert.KernelAdamFfnIdeal.nD) → Buf (Elt Ideal) ((c.tc : Thread Cert.KernelAdamFfnIdeal.nD Cert.KernelAdamFfnIdeal.τ).loc Cert.KernelAdamFfnIdeal.main_v1_2)) (v3 : (c : Dev Cert.KernelAdamFfnIdeal.nD) → Buf (Elt Ideal) ((c.tc : Thread Cert.KernelAdamFfnIdeal.nD Cert.KernelAdamFfnIdeal.τ).loc Cert.KernelAdamFfnIdeal.main_v1_3)),
      θ_run (Cert.KernelAdamFfnIdeal.defs (F := Ideal)) (onTc (τ := Cert.KernelAdamFfnIdeal.τ) (Cert.KernelAdamFfnIdeal.main (F := Ideal))) ⟨m, fun _ => 0, g⟩ (fun r => ∀ c : Dev Cert.KernelAdamFfnIdeal.nD,
          r.2.mem ((c.tc : Thread Cert.KernelAdamFfnIdeal.nD Cert.KernelAdamFfnIdeal.τ).loc Cert.KernelAdamFfnIdeal.main_v1_0) = v0 c
          ∧ r.2.mem ((c.tc : Thread Cert.KernelAdamFfnIdeal.nD Cert.KernelAdamFfnIdeal.τ).loc Cert.KernelAdamFfnIdeal.main_v1_1) = v1 c
          ∧ r.2.mem ((c.tc : Thread Cert.KernelAdamFfnIdeal.nD Cert.KernelAdamFfnIdeal.τ).loc Cert.KernelAdamFfnIdeal.main_v1_2) = v2 c
          ∧ r.2.mem ((c.tc : Thread Cert.KernelAdamFfnIdeal.nD Cert.KernelAdamFfnIdeal.τ).loc Cert.KernelAdamFfnIdeal.main_v1_3) = v3 c
          ∧ r.2.mem ((c.tc : Thread Cert.KernelAdamFfnIdeal.nD Cert.KernelAdamFfnIdeal.τ).loc Cert.KernelAdamFfnIdeal.main_arg0) = m ((c.tc : Thread Cert.KernelAdamFfnIdeal.nD Cert.KernelAdamFfnIdeal.τ).loc Cert.KernelAdamFfnIdeal.main_arg0)
          ∧ r.2.mem ((c.tc : Thread Cert.KernelAdamFfnIdeal.nD Cert.KernelAdamFfnIdeal.τ).loc Cert.KernelAdamFfnIdeal.main_arg1) = m ((c.tc : Thread Cert.KernelAdamFfnIdeal.nD Cert.KernelAdamFfnIdeal.τ).loc Cert.KernelAdamFfnIdeal.main_arg1)
          ∧ r.2.mem ((c.tc : Thread Cert.KernelAdamFfnIdeal.nD Cert.KernelAdamFfnIdeal.τ).loc Cert.KernelAdamFfnIdeal.main_arg2) = m ((c.tc : Thread Cert.KernelAdamFfnIdeal.nD Cert.KernelAdamFfnIdeal.τ).loc Cert.KernelAdamFfnIdeal.main_arg2)
          ∧ r.2.mem ((c.tc : Thread Cert.KernelAdamFfnIdeal.nD Cert.KernelAdamFfnIdeal.τ).loc Cert.KernelAdamFfnIdeal.main_arg3) = m ((c.tc : Thread Cert.KernelAdamFfnIdeal.nD Cert.KernelAdamFfnIdeal.τ).loc Cert.KernelAdamFfnIdeal.main_arg3))
      ∧ θ_run (Cert.ReferenceAdamFfnIdeal.defs (F := Ideal)) (onTc (τ := Cert.ReferenceAdamFfnIdeal.τ) (Cert.ReferenceAdamFfnIdeal.main (F := Ideal))) ⟨m', fun _ => 0, g'⟩ (fun r => ∀ c : Dev Cert.ReferenceAdamFfnIdeal.nD,
          r.2.mem ((c.tc : Thread Cert.ReferenceAdamFfnIdeal.nD Cert.ReferenceAdamFfnIdeal.τ).loc Cert.ReferenceAdamFfnIdeal.main_v23) = v0 c
          ∧ r.2.mem ((c.tc : Thread Cert.ReferenceAdamFfnIdeal.nD Cert.ReferenceAdamFfnIdeal.τ).loc Cert.ReferenceAdamFfnIdeal.main_v4) = v1 c
          ∧ r.2.mem ((c.tc : Thread Cert.ReferenceAdamFfnIdeal.nD Cert.ReferenceAdamFfnIdeal.τ).loc Cert.ReferenceAdamFfnIdeal.main_v10) = v2 c
          ∧ r.2.mem ((c.tc : Thread Cert.ReferenceAdamFfnIdeal.nD Cert.ReferenceAdamFfnIdeal.τ).loc Cert.ReferenceAdamFfnIdeal.main_arg1) = v3 c
          ∧ r.2.mem ((c.tc : Thread Cert.ReferenceAdamFfnIdeal.nD Cert.ReferenceAdamFfnIdeal.τ).loc Cert.ReferenceAdamFfnIdeal.main_arg0) = m' ((c.tc : Thread Cert.ReferenceAdamFfnIdeal.nD Cert.ReferenceAdamFfnIdeal.τ).loc Cert.ReferenceAdamFfnIdeal.main_arg0)
          ∧ r.2.mem ((c.tc : Thread Cert.ReferenceAdamFfnIdeal.nD Cert.ReferenceAdamFfnIdeal.τ).loc Cert.ReferenceAdamFfnIdeal.main_arg1) = m' ((c.tc : Thread Cert.ReferenceAdamFfnIdeal.nD Cert.ReferenceAdamFfnIdeal.τ).loc Cert.ReferenceAdamFfnIdeal.main_arg1)
          ∧ r.2.mem ((c.tc : Thread Cert.ReferenceAdamFfnIdeal.nD Cert.ReferenceAdamFfnIdeal.τ).loc Cert.ReferenceAdamFfnIdeal.main_arg2) = m' ((c.tc : Thread Cert.ReferenceAdamFfnIdeal.nD Cert.ReferenceAdamFfnIdeal.τ).loc Cert.ReferenceAdamFfnIdeal.main_arg2)
          ∧ r.2.mem ((c.tc : Thread Cert.ReferenceAdamFfnIdeal.nD Cert.ReferenceAdamFfnIdeal.τ).loc Cert.ReferenceAdamFfnIdeal.main_arg3) = m' ((c.tc : Thread Cert.ReferenceAdamFfnIdeal.nD Cert.ReferenceAdamFfnIdeal.τ).loc Cert.ReferenceAdamFfnIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v1_0)) (v1 : (c : Dev Cert.KernelAdamInIdeal.nD) → Buf (Elt Ideal) ((c.tc : Thread Cert.KernelAdamInIdeal.nD Cert.KernelAdamInIdeal.τ).loc Cert.KernelAdamInIdeal.main_v1_1)) (v2 : (c : Dev Cert.KernelAdamInIdeal.nD) → Buf (Elt Ideal) ((c.tc : Thread Cert.KernelAdamInIdeal.nD Cert.KernelAdamInIdeal.τ).loc Cert.KernelAdamInIdeal.main_v1_2)) (v3 : (c : Dev Cert.KernelAdamInIdeal.nD) → Buf (Elt Ideal) ((c.tc : Thread Cert.KernelAdamInIdeal.nD Cert.KernelAdamInIdeal.τ).loc Cert.KernelAdamInIdeal.main_v1_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v1_0) = v0 c
          ∧ r.2.mem ((c.tc : Thread Cert.KernelAdamInIdeal.nD Cert.KernelAdamInIdeal.τ).loc Cert.KernelAdamInIdeal.main_v1_1) = v1 c
          ∧ r.2.mem ((c.tc : Thread Cert.KernelAdamInIdeal.nD Cert.KernelAdamInIdeal.τ).loc Cert.KernelAdamInIdeal.main_v1_2) = v2 c
          ∧ r.2.mem ((c.tc : Thread Cert.KernelAdamInIdeal.nD Cert.KernelAdamInIdeal.τ).loc Cert.KernelAdamInIdeal.main_v1_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg1) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v1_0)) (v1 : (c : Dev Cert.KernelAdamOutIdeal.nD) → Buf (Elt Ideal) ((c.tc : Thread Cert.KernelAdamOutIdeal.nD Cert.KernelAdamOutIdeal.τ).loc Cert.KernelAdamOutIdeal.main_v1_1)) (v2 : (c : Dev Cert.KernelAdamOutIdeal.nD) → Buf (Elt Ideal) ((c.tc : Thread Cert.KernelAdamOutIdeal.nD Cert.KernelAdamOutIdeal.τ).loc Cert.KernelAdamOutIdeal.main_v1_2)) (v3 : (c : Dev Cert.KernelAdamOutIdeal.nD) → Buf (Elt Ideal) ((c.tc : Thread Cert.KernelAdamOutIdeal.nD Cert.KernelAdamOutIdeal.τ).loc Cert.KernelAdamOutIdeal.main_v1_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v1_0) = v0 c
          ∧ r.2.mem ((c.tc : Thread Cert.KernelAdamOutIdeal.nD Cert.KernelAdamOutIdeal.τ).loc Cert.KernelAdamOutIdeal.main_v1_1) = v1 c
          ∧ r.2.mem ((c.tc : Thread Cert.KernelAdamOutIdeal.nD Cert.KernelAdamOutIdeal.τ).loc Cert.KernelAdamOutIdeal.main_v1_2) = v2 c
          ∧ r.2.mem ((c.tc : Thread Cert.KernelAdamOutIdeal.nD Cert.KernelAdamOutIdeal.τ).loc Cert.KernelAdamOutIdeal.main_v1_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v23) = v0 c
          ∧ r.2.mem ((c.tc : Thread Cert.ReferenceAdamOutIdeal.nD Cert.ReferenceAdamOutIdeal.τ).loc Cert.ReferenceAdamOutIdeal.main_v4) = v1 c
          ∧ r.2.mem ((c.tc : Thread Cert.ReferenceAdamOutIdeal.nD Cert.ReferenceAdamOutIdeal.τ).loc Cert.ReferenceAdamOutIdeal.main_v10) = v2 c
          ∧ r.2.mem ((c.tc : Thread Cert.ReferenceAdamOutIdeal.nD Cert.ReferenceAdamOutIdeal.τ).loc Cert.ReferenceAdamOutIdeal.main_arg1) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)) (v3 : (c : Dev Cert.KernelAdamSmallIdeal.nD) → Buf (Elt Ideal) ((c.tc : Thread Cert.KernelAdamSmallIdeal.nD Cert.KernelAdamSmallIdeal.τ).loc Cert.KernelAdamSmallIdeal.main_v0_3)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_v0_3) = v3 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg1) = v3 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelSgu_KernelSguIdeal : Prop :=
  True

def algebraic_KernelSguIdeal_ReferenceSguIdeal_pre_finite_sgu [hKernelSguIdeal : Cert.KernelSguIdeal.Facts] [hReferenceSguIdeal : Cert.ReferenceSguIdeal.Facts] [hPre_finite_sgu : Cert.Pre_finite_sgu.Facts] : Prop :=
  ∀ (m : (ℓ : Loc Cert.KernelSguIdeal.nD Cert.KernelSguIdeal.τ Cert.KernelSguIdeal.sig) → Buf (Elt Ideal) ℓ) (g : Dev Cert.KernelSguIdeal.nD → PrngReg)
    (m' : (ℓ : Loc Cert.ReferenceSguIdeal.nD Cert.ReferenceSguIdeal.τ Cert.ReferenceSguIdeal.sig) → Buf (Elt Ideal) ℓ) (g' : Dev Cert.ReferenceSguIdeal.nD → PrngReg), Pre_KernelSguIdeal_finite_sgu m →
    (∀ c : Dev Cert.KernelSguIdeal.nD,
      m' ((c.tc : Thread Cert.ReferenceSguIdeal.nD Cert.ReferenceSguIdeal.τ).loc Cert.ReferenceSguIdeal.main_arg0) = m ((c.tc : Thread Cert.KernelSguIdeal.nD Cert.KernelSguIdeal.τ).loc Cert.KernelSguIdeal.main_arg0)
      ∧ m' ((c.tc : Thread Cert.ReferenceSguIdeal.nD Cert.ReferenceSguIdeal.τ).loc Cert.ReferenceSguIdeal.main_arg1) = m ((c.tc : Thread Cert.KernelSguIdeal.nD Cert.KernelSguIdeal.τ).loc Cert.KernelSguIdeal.main_arg1)
      ∧ m' ((c.tc : Thread Cert.ReferenceSguIdeal.nD Cert.ReferenceSguIdeal.τ).loc Cert.ReferenceSguIdeal.main_arg2) = m ((c.tc : Thread Cert.KernelSguIdeal.nD Cert.KernelSguIdeal.τ).loc Cert.KernelSguIdeal.main_arg2)
      ∧ m' ((c.tc : Thread Cert.ReferenceSguIdeal.nD Cert.ReferenceSguIdeal.τ).loc Cert.ReferenceSguIdeal.main_arg3) = m ((c.tc : Thread Cert.KernelSguIdeal.nD Cert.KernelSguIdeal.τ).loc Cert.KernelSguIdeal.main_arg3)) →
    ∃ (v0 : (c : Dev Cert.KernelSguIdeal.nD) → Buf (Elt Ideal) ((c.tc : Thread Cert.KernelSguIdeal.nD Cert.KernelSguIdeal.τ).loc Cert.KernelSguIdeal.main_v4)),
      θ_run (Cert.KernelSguIdeal.defs (F := Ideal)) (onTc (τ := Cert.KernelSguIdeal.τ) (Cert.KernelSguIdeal.main (F := Ideal))) ⟨m, fun _ => 0, g⟩ (fun r => ∀ c : Dev Cert.KernelSguIdeal.nD,
          r.2.mem ((c.tc : Thread Cert.KernelSguIdeal.nD Cert.KernelSguIdeal.τ).loc Cert.KernelSguIdeal.main_v4) = v0 c
          ∧ r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
          ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
          ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
          ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3))
      ∧ θ_run (Cert.ReferenceSguIdeal.defs (F := Ideal)) (onTc (τ := Cert.ReferenceSguIdeal.τ) (Cert.ReferenceSguIdeal.main (F := Ideal))) ⟨m', fun _ => 0, g'⟩ (fun r => ∀ c : Dev Cert.ReferenceSguIdeal.nD,
          r.2.mem ((c.tc : Thread Cert.ReferenceSguIdeal.nD Cert.ReferenceSguIdeal.τ).loc Cert.ReferenceSguIdeal.main_v76) = v0 c
          ∧ r.2.mem ((c.tc : Thread Cert.ReferenceSguIdeal.nD Cert.ReferenceSguIdeal.τ).loc Cert.ReferenceSguIdeal.main_arg0) = m' ((c.tc : Thread Cert.ReferenceSguIdeal.nD Cert.ReferenceSguIdeal.τ).loc Cert.ReferenceSguIdeal.main_arg0)
          ∧ r.2.mem ((c.tc : Thread Cert.ReferenceSguIdeal.nD Cert.ReferenceSguIdeal.τ).loc Cert.ReferenceSguIdeal.main_arg1) = m' ((c.tc : Thread Cert.ReferenceSguIdeal.nD Cert.ReferenceSguIdeal.τ).loc Cert.ReferenceSguIdeal.main_arg1)
          ∧ r.2.mem ((c.tc : Thread Cert.ReferenceSguIdeal.nD Cert.ReferenceSguIdeal.τ).loc Cert.ReferenceSguIdeal.main_arg2) = m' ((c.tc : Thread Cert.ReferenceSguIdeal.nD Cert.ReferenceSguIdeal.τ).loc Cert.ReferenceSguIdeal.main_arg2)
          ∧ r.2.mem ((c.tc : Thread Cert.ReferenceSguIdeal.nD Cert.ReferenceSguIdeal.τ).loc Cert.ReferenceSguIdeal.main_arg3) = m' ((c.tc : Thread Cert.ReferenceSguIdeal.nD Cert.ReferenceSguIdeal.τ).loc Cert.ReferenceSguIdeal.main_arg3))

def Claim : Prop :=
  ∃ (hKernel : Cert.Kernel.Facts) (hKernelIdeal : Cert.KernelIdeal.Facts) (hReferenceIdeal : Cert.ReferenceIdeal.Facts) (hKernelW : Cert.KernelW.Facts) (hKernelWIdeal : Cert.KernelWIdeal.Facts) (hReferenceWIdeal : Cert.ReferenceWIdeal.Facts) (hKernelIn : Cert.KernelIn.Facts) (hKernelInIdeal : Cert.KernelInIdeal.Facts) (hReferenceInIdeal : Cert.ReferenceInIdeal.Facts) (hKernelInW : Cert.KernelInW.Facts) (hKernelInWIdeal : Cert.KernelInWIdeal.Facts) (hReferenceInWIdeal : Cert.ReferenceInWIdeal.Facts) (hKernelOut : Cert.KernelOut.Facts) (hKernelOutIdeal : Cert.KernelOutIdeal.Facts) (hReferenceOutIdeal : Cert.ReferenceOutIdeal.Facts) (hKernelFwdIn : Cert.KernelFwdIn.Facts) (hKernelFwdInIdeal : Cert.KernelFwdInIdeal.Facts) (hReferenceFwdInIdeal : Cert.ReferenceFwdInIdeal.Facts) (hKernelFwdOut : Cert.KernelFwdOut.Facts) (hKernelFwdOutIdeal : Cert.KernelFwdOutIdeal.Facts) (hReferenceFwdOutIdeal : Cert.ReferenceFwdOutIdeal.Facts) (hKernelLoss : Cert.KernelLoss.Facts) (hKernelLossIdeal : Cert.KernelLossIdeal.Facts) (hReferenceLossIdeal : Cert.ReferenceLossIdeal.Facts) (hKernelAdamFfn : Cert.KernelAdamFfn.Facts) (hKernelAdamFfnIdeal : Cert.KernelAdamFfnIdeal.Facts) (hReferenceAdamFfnIdeal : Cert.ReferenceAdamFfnIdeal.Facts) (hKernelAdamIn : Cert.KernelAdamIn.Facts) (hKernelAdamInIdeal : Cert.KernelAdamInIdeal.Facts) (hReferenceAdamInIdeal : Cert.ReferenceAdamInIdeal.Facts) (hKernelAdamOut : Cert.KernelAdamOut.Facts) (hKernelAdamOutIdeal : Cert.KernelAdamOutIdeal.Facts) (hReferenceAdamOutIdeal : Cert.ReferenceAdamOutIdeal.Facts) (hKernelAdamSmall : Cert.KernelAdamSmall.Facts) (hKernelAdamSmallIdeal : Cert.KernelAdamSmallIdeal.Facts) (hReferenceAdamSmallIdeal : Cert.ReferenceAdamSmallIdeal.Facts) (hKernelSgu : Cert.KernelSgu.Facts) (hKernelSguIdeal : Cert.KernelSguIdeal.Facts) (hReferenceSguIdeal : Cert.ReferenceSguIdeal.Facts) (hPre_finite : Cert.Pre_finite.Facts) (hPre_finite_in : Cert.Pre_finite_in.Facts) (hPre_finite_loss : Cert.Pre_finite_loss.Facts) (hPre_finite_sgu : Cert.Pre_finite_sgu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelW (hKernelW := hKernelW)
    ∧ quiescent_KernelWIdeal (hKernelWIdeal := hKernelWIdeal)
    ∧ quiescent_ReferenceWIdeal (hReferenceWIdeal := hReferenceWIdeal)
    ∧ quiescent_KernelIn (hKernelIn := hKernelIn)
    ∧ quiescent_KernelInIdeal (hKernelInIdeal := hKernelInIdeal)
    ∧ quiescent_KernelInIdeal_pre_finite_in (hKernelInIdeal := hKernelInIdeal) (hPre_finite_in := hPre_finite_in)
    ∧ quiescent_ReferenceInIdeal (hReferenceInIdeal := hReferenceInIdeal)
    ∧ quiescent_ReferenceInIdeal_pre_finite_in (hReferenceInIdeal := hReferenceInIdeal) (hPre_finite_in := hPre_finite_in)
    ∧ quiescent_KernelInW (hKernelInW := hKernelInW)
    ∧ quiescent_KernelInWIdeal (hKernelInWIdeal := hKernelInWIdeal)
    ∧ quiescent_ReferenceInWIdeal (hReferenceInWIdeal := hReferenceInWIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelFwdIn (hKernelFwdIn := hKernelFwdIn)
    ∧ quiescent_KernelFwdInIdeal (hKernelFwdInIdeal := hKernelFwdInIdeal)
    ∧ quiescent_ReferenceFwdInIdeal (hReferenceFwdInIdeal := hReferenceFwdInIdeal)
    ∧ quiescent_KernelFwdOut (hKernelFwdOut := hKernelFwdOut)
    ∧ quiescent_KernelFwdOutIdeal (hKernelFwdOutIdeal := hKernelFwdOutIdeal)
    ∧ quiescent_ReferenceFwdOutIdeal (hReferenceFwdOutIdeal := hReferenceFwdOutIdeal)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelAdamFfn (hKernelAdamFfn := hKernelAdamFfn)
    ∧ quiescent_KernelAdamFfnIdeal (hKernelAdamFfnIdeal := hKernelAdamFfnIdeal)
    ∧ quiescent_ReferenceAdamFfnIdeal (hReferenceAdamFfnIdeal := hReferenceAdamFfnIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelSgu (hKernelSgu := hKernelSgu)
    ∧ quiescent_KernelSguIdeal (hKernelSguIdeal := hKernelSguIdeal)
    ∧ quiescent_KernelSguIdeal_pre_finite_sgu (hKernelSguIdeal := hKernelSguIdeal) (hPre_finite_sgu := hPre_finite_sgu)
    ∧ quiescent_ReferenceSguIdeal (hReferenceSguIdeal := hReferenceSguIdeal)
    ∧ quiescent_ReferenceSguIdeal_pre_finite_sgu (hReferenceSguIdeal := hReferenceSguIdeal) (hPre_finite_sgu := hPre_finite_sgu)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelW_KernelWIdeal
    ∧ algebraic_KernelWIdeal_ReferenceWIdeal (hKernelWIdeal := hKernelWIdeal) (hReferenceWIdeal := hReferenceWIdeal)
    ∧ preserves_KernelIn_KernelInIdeal
    ∧ algebraic_KernelInIdeal_ReferenceInIdeal_pre_finite_in (hKernelInIdeal := hKernelInIdeal) (hReferenceInIdeal := hReferenceInIdeal) (hPre_finite_in := hPre_finite_in)
    ∧ preserves_KernelInW_KernelInWIdeal
    ∧ algebraic_KernelInWIdeal_ReferenceInWIdeal (hKernelInWIdeal := hKernelInWIdeal) (hReferenceInWIdeal := hReferenceInWIdeal)
    ∧ preserves_KernelOut_KernelOutIdeal
    ∧ algebraic_KernelOutIdeal_ReferenceOutIdeal (hKernelOutIdeal := hKernelOutIdeal) (hReferenceOutIdeal := hReferenceOutIdeal)
    ∧ preserves_KernelFwdIn_KernelFwdInIdeal
    ∧ algebraic_KernelFwdInIdeal_ReferenceFwdInIdeal (hKernelFwdInIdeal := hKernelFwdInIdeal) (hReferenceFwdInIdeal := hReferenceFwdInIdeal)
    ∧ preserves_KernelFwdOut_KernelFwdOutIdeal
    ∧ algebraic_KernelFwdOutIdeal_ReferenceFwdOutIdeal (hKernelFwdOutIdeal := hKernelFwdOutIdeal) (hReferenceFwdOutIdeal := hReferenceFwdOutIdeal)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelAdamFfn_KernelAdamFfnIdeal
    ∧ algebraic_KernelAdamFfnIdeal_ReferenceAdamFfnIdeal (hKernelAdamFfnIdeal := hKernelAdamFfnIdeal) (hReferenceAdamFfnIdeal := hReferenceAdamFfnIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelSgu_KernelSguIdeal
    ∧ algebraic_KernelSguIdeal_ReferenceSguIdeal_pre_finite_sgu (hKernelSguIdeal := hKernelSguIdeal) (hReferenceSguIdeal := hReferenceSguIdeal) (hPre_finite_sgu := hPre_finite_sgu)
-- ==== Pre_finite.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S4096x1024 .f32) (main_arg3 : FVec F S1024x2816 .f32) (main_arg4 : FVec F S1024x2816 .f32) (main_arg5 : FVec F S2816x1024 .f32) : IVec S4096x1024 1 × IVec S1024 1 × IVec S4096x1024 1 × IVec S1024x2816 1 × IVec S1024x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_finite_in.lean ====
abbrev S4096x1024 : Shape := ⟨2, ![4096, 1024]⟩
abbrev S1024 : Shape := ⟨1, ![1024]⟩
abbrev S4096x3072 : Shape := ⟨2, ![4096, 3072]⟩
abbrev S1024x3072 : Shape := ⟨2, ![1024, 3072]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S4096x3072 : S_.BroadcastsInDim S4096x3072 (![] : Fin 0 → Fin S4096x3072.rank)
  bcast_S_S1024x3072 : S_.BroadcastsInDim S1024x3072 (![] : Fin 0 → Fin S1024x3072.rank)

variable [Facts]

def fn {F : FTy → Type} [FloatOps F] (main_arg0 : FVec F S4096x1024 .f32) (main_arg1 : FVec F S1024 .f32) (main_arg2 : FVec F S4096x1024 .f32) (main_arg3 : FVec F S4096x3072 .f32) (main_arg4 : FVec F S1024x3072 .f32) : IVec S4096x1024 1 × IVec S1024 1 × IVec S4096x1024 1 × IVec S4096x3072 1 × IVec S1024x3072 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x3072 .f32 := Host.absf main_arg3
  let main_cst_2 : FVec F S_ .f32 := constant S_ .f32 0x7F800000#32
  let main_v10 : FVec F S4096x3072 .f32 := broadcastInDim S4096x3072 ![] bcast_S_S4096x3072 main_cst_2
  let main_v11 : IVec S4096x3072 1 := cmpf .olt main_v9 main_v10
  let main_v12 : FVec F S1024x3072 .f32 := Host.absf main_arg4
  let main_cst_3 : FVec F S_ .f32 := constant S_ .f32 0x7F800000#32
  let main_v13 : FVec F S1024x3072 .f32 := broadcastInDim S1024x3072 ![] bcast_S_S1024x3072 main_cst_3
  let main_v14 : IVec S1024x3072 1 := cmpf .olt main_v12 main_v13
  (main_v2, main_v5, main_v8, main_v11, main_v14)
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_sgu.lean ====
abbrev S4096x3072 : Shape := ⟨2, ![4096, 3072]⟩
abbrev S4x128x128 : Shape := ⟨3, ![4, 128, 128]⟩
abbrev S4x128 : Shape := ⟨2, ![4, 128]⟩
abbrev S256 : Shape := ⟨1, ![256]⟩
abbrev S_ : Shape := ⟨0, ![]⟩

class Facts : Prop where
  bcast_S_S4096x3072 : S_.BroadcastsInDim S4096x3072 (![] : Fin 0 → Fin S4096x3072.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S256 : S_.BroadcastsInDim S256 (![] : Fin 0 → Fin S256.rank)

variable [Facts]

def fn {F : FTy → Type} [FloatOps F] (main_arg0 : FVec F S4096x3072 .f32) (main_arg1 : FVec F S4x128x128 .f32) (main_arg2 : FVec F S4x128 .f32) (main_arg3 : FVec F S256 .f32) : IVec S4096x3072 1 × IVec S4x128x128 1 × IVec S4x128 1 × IVec S256 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4x128x128 .f32 := Host.absf main_arg1
  let main_cst_0 : FVec F S_ .f32 := constant S_ .f32 0x7F800000#32
  let main_v4 : FVec F S4x128x128 .f32 := broadcastInDim S4x128x128 ![] bcast_S_S4x128x128 main_cst_0
  let main_v5 : IVec S4x128x128 1 := cmpf .olt main_v3 main_v4
  let main_v6 : FVec F S4x128 .f32 := Host.absf main_arg2
  let main_cst_1 : FVec F S_ .f32 := constant S_ .f32 0x7F800000#32
  let main_v7 : FVec F S4x128 .f32 := broadcastInDim S4x128 ![] bcast_S_S4x128 main_cst_1
  let main_v8 : IVec S4x128 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  (main_v2, main_v5, main_v8, main_v11)
-- ==== Kernel.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x1024 : Shape := ⟨2, ![1, 1024]⟩
abbrev S4x4096x704 : Shape := ⟨3, ![4, 4096, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S256x704 : Shape := ⟨2, ![256, 704]⟩
abbrev S1x256x704 : Shape := ⟨3, ![1, 256, 704]⟩

abbrev nBuf : Space → Nat
  | .hbm => 25
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S1x1024, .f32⟩
  | .hbm, ⟨15, _⟩ => ⟨S4096x1024, .f32⟩
  | .hbm, ⟨16, _⟩ => ⟨S4x4096x704, .bf16⟩
  | .hbm, ⟨17, _⟩ => ⟨S4x4096x704, .bf16⟩
  | .hbm, ⟨18, _⟩ => ⟨S1x1024, .f32⟩
  | .hbm, ⟨19, _⟩ => ⟨S4096x1024, .f32⟩
  | .hbm, ⟨20, _⟩ => ⟨S1x1024, .f32⟩
  | .hbm, ⟨21, _⟩ => ⟨S4x4096x704, .bf16⟩
  | .hbm, ⟨22, _⟩ => ⟨S4x4096x704, .bf16⟩
  | .hbm, ⟨23, _⟩ => ⟨S4096x1024, .bf16⟩
  | .hbm, ⟨24, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S4x704x1024, .bf16⟩
  | .local _ .vmem, ⟨22, _⟩ => ⟨S4x704x1024, .bf16⟩
  | .local _ .vmem, ⟨23, _⟩ => ⟨S4x704x1024, .bf16⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S4x256x704, .bf16⟩
  | .local _ .vmem, ⟨28, _⟩ => ⟨S4x256x704, .bf16⟩
  | .local _ .vmem, ⟨29, _⟩ => ⟨S4x256x704, .bf16⟩
  | .local _ .vmem, ⟨30, _⟩ => ⟨S4x256x704, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc1_stg13_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32
abbrev cc1_sem13_0 : DmaSem sig := 33
abbrev cc1_sem13_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x256x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x256x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S4x704x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x704x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x704x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4x256x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4x256x704 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x1024, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩

abbrev nD : Nat := 1
abbrev τ : Topo := Topo.v7x

variable {F : FTy → Type} [FloatOps F]
-- ==== KernelW.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 66
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S1024x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x1024, .bf16⟩
  | .hbm, ⟨50, _⟩ => ⟨S4096x1024, .bf16⟩
  | .hbm, ⟨51, _⟩ => ⟨S4096x4x704, .f32⟩
  | .hbm, ⟨52, _⟩ => ⟨S4x4096x704, .f32⟩
  | .hbm, ⟨53, _⟩ => ⟨S4x4096x704, .bf16⟩
  | .hbm, ⟨54, _⟩ => ⟨S4096x4x704, .f32⟩
  | .hbm, ⟨55, _⟩ => ⟨S4x4096x704, .f32⟩
  | .hbm, ⟨56, _⟩ => ⟨S4x4096x704, .bf16⟩
  | .hbm, ⟨57, _⟩ => ⟨S4096x4x704, .f32⟩
  | .hbm, ⟨58, _⟩ => ⟨S4x4096x704, .f32⟩
  | .hbm, ⟨59, _⟩ => ⟨S4x4096x704, .bf16⟩
  | .hbm, ⟨60, _⟩ => ⟨S4096x4x704, .f32⟩
  | .hbm, ⟨61, _⟩ => ⟨S4x4096x704, .f32⟩
  | .hbm, ⟨62, _⟩ => ⟨S4x4096x704, .bf16⟩
  | .hbm, ⟨63, _⟩ => ⟨S4x704x1024, .bf16⟩
  | .hbm, ⟨64, _⟩ => ⟨S4x704x1024, .bf16⟩
  | .hbm, ⟨65, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S704x1024, .f32⟩
  | .local _ .vmem, ⟨19, _⟩ => ⟨S704x1024, .f32⟩
  | .local _ .vmem, ⟨20, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38_0 : Ref sig .tc := ⟨.hbm, 63, rfl⟩
abbrev main_v38_1 : Ref sig .tc := ⟨.hbm, 64, rfl⟩
abbrev main_v38_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_30 : BitVec 32 := 0#32
  let v41 : BitVec 1 := Scalar.cmpi .ne v40 c0_i32_30
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceWIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4x704x1024 : Shape := ⟨3, ![4, 704, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S1024x2816, .f32⟩
  | .hbm, ⟨47, _⟩ => ⟨S2816x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S2816x1024, .f32⟩
  | .hbm, ⟨52, _⟩ => ⟨S1024x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S2816x1024, .f32⟩
  | .hbm, ⟨58, _⟩ => ⟨S1024x2816, .f32⟩
  | .hbm, ⟨59, _⟩ => ⟨S2816x1024, .f32⟩
  | .hbm, ⟨60, _⟩ => ⟨S4x704x1024, .f32⟩
  | .hbm, ⟨61, _⟩ => ⟨S4x704x1024, .bf16⟩
  | .hbm, ⟨62, _⟩ => ⟨S2816x1024, .f32⟩
  | .hbm, ⟨63, _⟩ => ⟨S4x704x1024, .f32⟩
  | .hbm, ⟨64, _⟩ => ⟨S4x704x1024, .bf16⟩
  | .hbm, ⟨65, _⟩ => ⟨S4x704x1024, .f32⟩
  | .hbm, ⟨66, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== KernelIn.lean ====
abbrev S4096x1024 : Shape := ⟨2, ![4096, 1024]⟩
abbrev S1024 : Shape := ⟨1, ![1024]⟩
abbrev S4096x3072 : Shape := ⟨2, ![4096, 3072]⟩
abbrev S1024x3072 : Shape := ⟨2, ![1024, 3072]⟩
abbrev S1x1024 : Shape := ⟨2, ![1, 1024]⟩
abbrev S1024x4x768 : Shape := ⟨3, ![1024, 4, 768]⟩
abbrev S4x1024x768 : Shape := ⟨3, ![4, 1024, 768]⟩
abbrev S512x1024 : Shape := ⟨2, ![512, 1024]⟩
abbrev S512x3072 : Shape := ⟨2, ![512, 3072]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x3072, .f32⟩
  | .hbm, ⟨4, _⟩ => ⟨S1024x3072, .f32⟩
  | .hbm, ⟨5, _⟩ => ⟨S1x1024, .f32⟩
  | .hbm, ⟨6, _⟩ => ⟨S4096x3072, .bf16⟩
  | .hbm, ⟨7, _⟩ => ⟨S1024x4x768, .f32⟩
  | .hbm, ⟨8, _⟩ => ⟨S4x1024x768, .f32⟩
  | .hbm, ⟨9, _⟩ => ⟨S4x1024x768, .bf16⟩
  | .hbm, ⟨10, _⟩ => ⟨S4096x1024, .f32⟩
  | .hbm, ⟨11, _⟩ => ⟨S1x1024, .f32⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x3072, .bf16⟩
  | .local _ .vmem, ⟨6, _⟩ => ⟨S512x3072, .bf16⟩
  | .local _ .vmem, ⟨7, _⟩ => ⟨S4x1024x768, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceInIdeal.lean ====
abbrev S4096x1024 : Shape := ⟨2, ![4096, 1024]⟩
abbrev S1024 : Shape := ⟨1, ![1024]⟩
abbrev S4096x3072 : Shape := ⟨2, ![4096, 3072]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x3072, .f32⟩
  | .hbm, ⟨4, _⟩ => ⟨S1024x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== KernelInW.lean ====
abbrev S4096x1024 : Shape := ⟨2, ![4096, 1024]⟩
abbrev S1024 : Shape := ⟨1, ![1024]⟩
abbrev S4096x3072 : Shape := ⟨2, ![4096, 3072]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x768 : Shape := ⟨3, ![4, 1024, 768]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 24
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x3072, .f32⟩
  | .hbm, ⟨4, _⟩ => ⟨S1024x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x3072, .bf16⟩
  | .hbm, ⟨23, _⟩ => ⟨S4x1024x768, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .bf16⟩
  | .local _ .vmem, ⟨4, _⟩ => ⟨S1x1024x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceInWIdeal.lean ====
abbrev S4096x1024 : Shape := ⟨2, ![4096, 1024]⟩
abbrev S1024 : Shape := ⟨1, ![1024]⟩
abbrev S4096x3072 : Shape := ⟨2, ![4096, 3072]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3072x1024 : Shape := ⟨2, ![3072, 1024]⟩
abbrev S1024x768 : Shape := ⟨2, ![1024, 768]⟩
abbrev S1x1024x768 : Shape := ⟨3, ![1, 1024, 768]⟩
abbrev S4x1024x768 : Shape := ⟨3, ![4, 1024, 768]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x3072, .f32⟩
  | .hbm, ⟨4, _⟩ => ⟨S1024x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x3072, .f32⟩
  | .hbm, ⟨22, _⟩ => ⟨S3072x1024, .f32⟩
  | .hbm, ⟨23, _⟩ => ⟨S1024x3072, .f32⟩
  | .hbm, ⟨24, _⟩ => ⟨S1024x768, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S1x1024x768, .f32⟩
  | .hbm, ⟨29, _⟩ => ⟨S1x1024x768, .f32⟩
  | .hbm, ⟨30, _⟩ => ⟨S1x1024x768, .f32⟩
  | .hbm, ⟨31, _⟩ => ⟨S1x1024x768, .f32⟩
  | .hbm, ⟨32, _⟩ => ⟨S4x1024x768, .f32⟩
  | .hbm, ⟨33, _⟩ => ⟨S4x1024x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== KernelOut.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S4x256x1024 : Shape := ⟨3, ![4, 256, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S1024x1024, .f32⟩
  | .hbm, ⟨5, _⟩ => ⟨S4096x512, .bf16⟩
  | .hbm, ⟨6, _⟩ => ⟨S4096x256, .bf16⟩
  | .hbm, ⟨7, _⟩ => ⟨S4096x256, .bf16⟩
  | .hbm, ⟨8, _⟩ => ⟨S4x256x1024, .f32⟩
  | .hbm, ⟨9, _⟩ => ⟨S4x256x1024, .bf16⟩
  | .hbm, ⟨10, _⟩ => ⟨S4096x512, .f32⟩
  | .hbm, ⟨11, _⟩ => ⟨S4096x256, .f32⟩
  | .hbm, ⟨12, _⟩ => ⟨S4096x256, .f32⟩
  | .hbm, ⟨13, _⟩ => ⟨S4x256x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S4x256x1024, .bf16⟩
  | .local _ .vmem, ⟨9, _⟩ => ⟨S512x512, .f32⟩
  | .local _ .vmem, ⟨10, _⟩ => ⟨S512x512, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S4x256x1024, .bf16⟩
  | .local _ .vmem, ⟨16, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v39 : BitVec 1 := Scalar.cmpi .eq arg0 c7_i32
  let v40 : BitVec 32 := Scalar.extui v39
  let c0_i32_30 : BitVec 32 := 0#32
  let v41 : BitVec 1 := Scalar.cmpi .ne v40 c0_i32_30
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceOutIdeal.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S4x256x1024 : Shape := ⟨3, ![4, 256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S4096x512, .f32⟩
  | .hbm, ⟨11, _⟩ => ⟨S4096x256, .f32⟩
  | .hbm, ⟨12, _⟩ => ⟨S4096x256, .f32⟩
  | .hbm, ⟨13, _⟩ => ⟨S4x256x1024, .f32⟩
  | .hbm, ⟨14, _⟩ => ⟨S4x256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelFwdIn.lean ====
abbrev S4096x1024 : Shape := ⟨2, ![4096, 1024]⟩
abbrev S1024 : Shape := ⟨1, ![1024]⟩
abbrev S1024x3072 : Shape := ⟨2, ![1024, 3072]⟩
abbrev S1x1024 : Shape := ⟨2, ![1, 1024]⟩
abbrev S1024x4x768 : Shape := ⟨3, ![1024, 4, 768]⟩
abbrev S4x1024x768 : Shape := ⟨3, ![4, 1024, 768]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x4x768, .f32⟩
  | .hbm, ⟨5, _⟩ => ⟨S4x1024x768, .f32⟩
  | .hbm, ⟨6, _⟩ => ⟨S4x1024x768, .bf16⟩
  | .hbm, ⟨7, _⟩ => ⟨S4096x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x3072, .f32⟩
  | .local _ .vmem, ⟨5, _⟩ => ⟨S512x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceFwdInIdeal.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelFwdOut.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S4x256x1024 : Shape := ⟨3, ![4, 256, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S1024x1024, .f32⟩
  | .hbm, ⟨5, _⟩ => ⟨S4096x512, .bf16⟩
  | .hbm, ⟨6, _⟩ => ⟨S4096x256, .bf16⟩
  | .hbm, ⟨7, _⟩ => ⟨S4096x256, .bf16⟩
  | .hbm, ⟨8, _⟩ => ⟨S4x256x1024, .f32⟩
  | .hbm, ⟨9, _⟩ => ⟨S4x256x1024, .bf16⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S4x256x1024, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFwdOutIdeal.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== KernelLoss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== KernelAdamFfn.lean ====
abbrev S2816x1024 : Shape := ⟨2, ![2816, 1024]⟩
abbrev S352x1024 : Shape := ⟨2, ![352, 1024]⟩

abbrev nBuf : Space → Nat
  | .hbm => 12
  | .vmem => 32
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .vmem, ⟨18, _⟩ => ⟨S352x1024, .f32⟩
  | .local _ .vmem, ⟨19, _⟩ => ⟨S352x1024, .f32⟩
  | .local _ .vmem, ⟨20, _⟩ => ⟨S352x1024, .f32⟩
  | .local _ .vmem, ⟨21, _⟩ => ⟨S352x1024, .f32⟩
  | .local _ .vmem, ⟨22, _⟩ => ⟨S352x1024, .f32⟩
  | .local _ .vmem, ⟨23, _⟩ => ⟨S352x1024, .f32⟩
  | .local _ .vmem, ⟨24, _⟩ => ⟨S352x1024, .f32⟩
  | .local _ .vmem, ⟨25, _⟩ => ⟨S352x1024, .f32⟩
  | .local _ .vmem, ⟨26, _⟩ => ⟨S352x1024, .f32⟩
  | .local _ .vmem, ⟨27, _⟩ => ⟨S352x1024, .f32⟩
  | .local _ .vmem, ⟨28, _⟩ => ⟨S352x1024, .f32⟩
  | .local _ .vmem, ⟨29, _⟩ => ⟨S352x1024, .f32⟩
  | .local _ .vmem, ⟨30, _⟩ => ⟨S352x1024, .f32⟩
  | .local _ .vmem, ⟨31, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_10 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_11 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 2 → Memref sig .tc .vmem S352x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelAdamFfnIdeal.lean ====
abbrev S2816x1024 : Shape := ⟨2, ![2816, 1024]⟩
abbrev S352x1024 : Shape := ⟨2, ![352, 1024]⟩

abbrev nBuf : Space → Nat
  | .hbm => 12
  | .vmem => 32
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .vmem, ⟨18, _⟩ => ⟨S352x1024, .f32⟩
  | .local _ .vmem, ⟨19, _⟩ => ⟨S352x1024, .f32⟩
  | .local _ .vmem, ⟨20, _⟩ => ⟨S352x1024, .f32⟩
  | .local _ .vmem, ⟨21, _⟩ => ⟨S352x1024, .f32⟩
  | .local _ .vmem, ⟨22, _⟩ => ⟨S352x1024, .f32⟩
  | .local _ .vmem, ⟨23, _⟩ => ⟨S352x1024, .f32⟩
  | .local _ .vmem, ⟨24, _⟩ => ⟨S352x1024, .f32⟩
  | .local _ .vmem, ⟨25, _⟩ => ⟨S352x1024, .f32⟩
  | .local _ .vmem, ⟨26, _⟩ => ⟨S352x1024, .f32⟩
  | .local _ .vmem, ⟨27, _⟩ => ⟨S352x1024, .f32⟩
  | .local _ .vmem, ⟨28, _⟩ => ⟨S352x1024, .f32⟩
  | .local _ .vmem, ⟨29, _⟩ => ⟨S352x1024, .f32⟩
  | .local _ .vmem, ⟨30, _⟩ => ⟨S352x1024, .f32⟩
  | .local _ .vmem, ⟨31, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_10 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_11 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 2 → Memref sig .tc .vmem S352x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S352x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S352x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S352x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S352x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S352x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S352x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceAdamFfnIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamIn.lean ====
abbrev S4096x768 : Shape := ⟨2, ![4096, 768]⟩
abbrev S512x768 : Shape := ⟨2, ![512, 768]⟩

abbrev nBuf : Space → Nat
  | .hbm => 12
  | .vmem => 32
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | .local _ .vmem, ⟨18, _⟩ => ⟨S512x768, .f32⟩
  | .local _ .vmem, ⟨19, _⟩ => ⟨S512x768, .f32⟩
  | .local _ .vmem, ⟨20, _⟩ => ⟨S512x768, .f32⟩
  | .local _ .vmem, ⟨21, _⟩ => ⟨S512x768, .f32⟩
  | .local _ .vmem, ⟨22, _⟩ => ⟨S512x768, .f32⟩
  | .local _ .vmem, ⟨23, _⟩ => ⟨S512x768, .f32⟩
  | .local _ .vmem, ⟨24, _⟩ => ⟨S512x768, .f32⟩
  | .local _ .vmem, ⟨25, _⟩ => ⟨S512x768, .f32⟩
  | .local _ .vmem, ⟨26, _⟩ => ⟨S512x768, .f32⟩
  | .local _ .vmem, ⟨27, _⟩ => ⟨S512x768, .f32⟩
  | .local _ .vmem, ⟨28, _⟩ => ⟨S512x768, .f32⟩
  | .local _ .vmem, ⟨29, _⟩ => ⟨S512x768, .f32⟩
  | .local _ .vmem, ⟨30, _⟩ => ⟨S512x768, .f32⟩
  | .local _ .vmem, ⟨31, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_10 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_11 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelAdamInIdeal.lean ====
abbrev S4096x768 : Shape := ⟨2, ![4096, 768]⟩
abbrev S512x768 : Shape := ⟨2, ![512, 768]⟩

abbrev nBuf : Space → Nat
  | .hbm => 12
  | .vmem => 32
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | .local _ .vmem, ⟨18, _⟩ => ⟨S512x768, .f32⟩
  | .local _ .vmem, ⟨19, _⟩ => ⟨S512x768, .f32⟩
  | .local _ .vmem, ⟨20, _⟩ => ⟨S512x768, .f32⟩
  | .local _ .vmem, ⟨21, _⟩ => ⟨S512x768, .f32⟩
  | .local _ .vmem, ⟨22, _⟩ => ⟨S512x768, .f32⟩
  | .local _ .vmem, ⟨23, _⟩ => ⟨S512x768, .f32⟩
  | .local _ .vmem, ⟨24, _⟩ => ⟨S512x768, .f32⟩
  | .local _ .vmem, ⟨25, _⟩ => ⟨S512x768, .f32⟩
  | .local _ .vmem, ⟨26, _⟩ => ⟨S512x768, .f32⟩
  | .local _ .vmem, ⟨27, _⟩ => ⟨S512x768, .f32⟩
  | .local _ .vmem, ⟨28, _⟩ => ⟨S512x768, .f32⟩
  | .local _ .vmem, ⟨29, _⟩ => ⟨S512x768, .f32⟩
  | .local _ .vmem, ⟨30, _⟩ => ⟨S512x768, .f32⟩
  | .local _ .vmem, ⟨31, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_10 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_11 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceAdamInIdeal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamOut.lean ====
abbrev S1024x1024 : Shape := ⟨2, ![1024, 1024]⟩
abbrev S256x1024 : Shape := ⟨2, ![256, 1024]⟩

abbrev nBuf : Space → Nat
  | .hbm => 12
  | .vmem => 24
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_8 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_10 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_11 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== ReferenceAdamOutIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamSmall.lean ====
abbrev S3280x128 : Shape := ⟨2, ![3280, 128]⟩

abbrev nBuf : Space → Nat
  | .hbm => 8
  | .vmem => 8
  | .smem => 0
  | _ => 0

abbrev bufTy : (tb : Table) → Fin (tcTables nBuf tb) → BufTy
  | .hbm, ⟨0, _⟩ => ⟨S3280x128, .f32⟩
  | .hbm, ⟨1, _⟩ => ⟨S3280x128, .f32⟩
  | .hbm, ⟨2, _⟩ => ⟨S3280x128, .f32⟩
  | .hbm, ⟨3, _⟩ => ⟨S3280x128, .f32⟩
  | .hbm, ⟨4, _⟩ => ⟨S3280x128, .f32⟩
  | .hbm, ⟨5, _⟩ => ⟨S3280x128, .f32⟩
  | .hbm, ⟨6, _⟩ => ⟨S3280x128, .f32⟩
  | .hbm, ⟨7, _⟩ => ⟨S3280x128, .f32⟩
  | .local _ .vmem, ⟨0, _⟩ => ⟨S3280x128, .f32⟩
  | .local _ .vmem, ⟨1, _⟩ => ⟨S3280x128, .f32⟩
  | .local _ .vmem, ⟨2, _⟩ => ⟨S3280x128, .f32⟩
  | .local _ .vmem, ⟨3, _⟩ => ⟨S3280x128, .f32⟩
  | .local _ .vmem, ⟨4, _⟩ => ⟨S3280x128, .f32⟩
  | .local _ .vmem, ⟨5, _⟩ => ⟨S3280x128, .f32⟩
  | .local _ .vmem, ⟨6, _⟩ => ⟨S3280x128, .f32⟩
  | .local _ .vmem, ⟨7, _⟩ => ⟨S3280x128, .f32⟩
  | _, _ => ⟨S3280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S3280x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3280x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3280x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamSmallIdeal.lean ====
abbrev S3280x128 : Shape := ⟨2, ![3280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3280x128, .f32⟩
  | .hbm, ⟨1, _⟩ => ⟨S3280x128, .f32⟩
  | .hbm, ⟨2, _⟩ => ⟨S3280x128, .f32⟩
  | .hbm, ⟨3, _⟩ => ⟨S3280x128, .f32⟩
  | .hbm, ⟨4, _⟩ => ⟨S_, .f32⟩
  | .hbm, ⟨5, _⟩ => ⟨S3280x128, .f32⟩
  | .hbm, ⟨6, _⟩ => ⟨S3280x128, .f32⟩
  | .hbm, ⟨7, _⟩ => ⟨S_, .f32⟩
  | .hbm, ⟨8, _⟩ => ⟨S3280x128, .f32⟩
  | .hbm, ⟨9, _⟩ => ⟨S3280x128, .f32⟩
  | .hbm, ⟨10, _⟩ => ⟨S3280x128, .f32⟩
  | .hbm, ⟨11, _⟩ => ⟨S_, .f32⟩
  | .hbm, ⟨12, _⟩ => ⟨S3280x128, .f32⟩
  | .hbm, ⟨13, _⟩ => ⟨S3280x128, .f32⟩
  | .hbm, ⟨14, _⟩ => ⟨S3280x128, .f32⟩
  | .hbm, ⟨15, _⟩ => ⟨S_, .f32⟩
  | .hbm, ⟨16, _⟩ => ⟨S3280x128, .f32⟩
  | .hbm, ⟨17, _⟩ => ⟨S3280x128, .f32⟩
  | .hbm, ⟨18, _⟩ => ⟨S3280x128, .f32⟩
  | .hbm, ⟨19, _⟩ => ⟨S_, .f32⟩
  | .hbm, ⟨20, _⟩ => ⟨S3280x128, .f32⟩
  | .hbm, ⟨21, _⟩ => ⟨S3280x128, .f32⟩
  | .hbm, ⟨22, _⟩ => ⟨S_, .f32⟩
  | .hbm, ⟨23, _⟩ => ⟨S3280x128, .f32⟩
  | .hbm, ⟨24, _⟩ => ⟨S3280x128, .f32⟩
  | .hbm, ⟨25, _⟩ => ⟨S3280x128, .f32⟩
  | .hbm, ⟨26, _⟩ => ⟨S_, .f32⟩
  | .hbm, ⟨27, _⟩ => ⟨S3280x128, .f32⟩
  | .hbm, ⟨28, _⟩ => ⟨S3280x128, .f32⟩
  | .hbm, ⟨29, _⟩ => ⟨S3280x128, .f32⟩
  | .hbm, ⟨30, _⟩ => ⟨S_, .f32⟩
  | .hbm, ⟨31, _⟩ => ⟨S3280x128, .f32⟩
  | .hbm, ⟨32, _⟩ => ⟨S3280x128, .f32⟩
  | .hbm, ⟨33, _⟩ => ⟨S3280x128, .f32⟩
  | .hbm, ⟨34, _⟩ => ⟨S_, .f32⟩
  | .hbm, ⟨35, _⟩ => ⟨S3280x128, .f32⟩
  | .hbm, ⟨36, _⟩ => ⟨S3280x128, .f32⟩
  | _, _ => ⟨S3280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelSgu.lean ====
abbrev S4096x3072 : Shape := ⟨2, ![4096, 3072]⟩
abbrev S4x128x128 : Shape := ⟨3, ![4, 128, 128]⟩
abbrev S4x128 : Shape := ⟨2, ![4, 128]⟩
abbrev S256 : Shape := ⟨1, ![256]⟩
abbrev S256x256 : Shape := ⟨2, ![256, 256]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S4096x256 : Shape := ⟨2, ![4096, 256]⟩
abbrev S1024x256 : Shape := ⟨2, ![1024, 256]⟩
abbrev S128x128 : Shape := ⟨2, ![128, 128]⟩
abbrev S1x128x128 : Shape := ⟨3, ![1, 128, 128]⟩

abbrev nBuf : Space → Nat
  | .hbm => 10
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S4x128x128, .f32⟩
  | .hbm, ⟨2, _⟩ => ⟨S4x128, .f32⟩
  | .hbm, ⟨3, _⟩ => ⟨S256, .f32⟩
  | .hbm, ⟨4, _⟩ => ⟨S256x256, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x256, .f32⟩
  | .hbm, ⟨9, _⟩ => ⟨S4096x256, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S4x128x128, .f32⟩
  | .local _ .vmem, ⟨5, _⟩ => ⟨S128x256, .f32⟩
  | .local _ .vmem, ⟨6, _⟩ => ⟨S1x256, .f32⟩
  | .local _ .vmem, ⟨7, _⟩ => ⟨S256x256, .f32⟩
  | .local _ .vmem, ⟨8, _⟩ => ⟨S1024x256, .bf16⟩
  | .local _ .vmem, ⟨9, _⟩ => ⟨S1024x256, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceSguIdeal.lean ====
abbrev S4096x3072 : Shape := ⟨2, ![4096, 3072]⟩
abbrev S4x128x128 : Shape := ⟨3, ![4, 128, 128]⟩
abbrev S4x128 : Shape := ⟨2, ![4, 128]⟩
abbrev S256 : Shape := ⟨1, ![256]⟩
abbrev S4096x256 : Shape := ⟨2, ![4096, 256]⟩
abbrev S_ : Shape := ⟨0, ![]⟩
abbrev S32x128x4x64 : Shape := ⟨4, ![32, 128, 4, 64]⟩
abbrev S32x128x4 : Shape := ⟨3, ![32, 128, 4]⟩
abbrev S32x128x4x1 : Shape := ⟨4, ![32, 128, 4, 1]⟩
abbrev S128x128 : Shape := ⟨2, ![128, 128]⟩
abbrev S1x128x128 : Shape := ⟨3, ![1, 128, 128]⟩
abbrev S4x32x64x128 : Shape := ⟨4, ![4, 32, 64, 128]⟩
abbrev S128x4 : Shape := ⟨2, ![128, 4]⟩
abbrev S128x4x1 : Shape := ⟨3, ![128, 4, 1]⟩
abbrev S1x128x4x1 : Shape := ⟨4, ![1, 128, 4, 1]⟩
abbrev S4096x4x64 : Shape := ⟨3, ![4096, 4, 64]⟩
abbrev S4096x4 : Shape := ⟨2, ![4096, 4]⟩
abbrev S4096x4x1 : Shape := ⟨3, ![4096, 4, 1]⟩
abbrev S1x256 : Shape := ⟨2, ![1, 256]⟩

abbrev nBuf : Space → Nat
  | .hbm => 106
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x128x128, .f32⟩
  | .hbm, ⟨2, _⟩ => ⟨S4x128, .f32⟩
  | .hbm, ⟨3, _⟩ => ⟨S256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S_, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S32x128x4x64, .f32⟩
  | .hbm, ⟨41, _⟩ => ⟨S_, .f32⟩
  | .hbm, ⟨42, _⟩ => ⟨S32x128x4, .f32⟩
  | .hbm, ⟨43, _⟩ => ⟨S32x128x4x1, .f32⟩
  | .hbm, ⟨44, _⟩ => ⟨S_, .f32⟩
  | .hbm, ⟨45, _⟩ => ⟨S32x128x4x1, .f32⟩
  | .hbm, ⟨46, _⟩ => ⟨S32x128x4x1, .f32⟩
  | .hbm, ⟨47, _⟩ => ⟨S32x128x4x64, .f32⟩
  | .hbm, ⟨48, _⟩ => ⟨S32x128x4x64, .f32⟩
  | .hbm, ⟨49, _⟩ => ⟨S32x128x4x64, .f32⟩
  | .hbm, ⟨50, _⟩ => ⟨S_, .f32⟩
  | .hbm, ⟨51, _⟩ => ⟨S32x128x4, .f32⟩
  | .hbm, ⟨52, _⟩ => ⟨S32x128x4x1, .f32⟩
  | .hbm, ⟨53, _⟩ => ⟨S_, .f32⟩
  | .hbm, ⟨54, _⟩ => ⟨S32x128x4x1, .f32⟩
  | .hbm, ⟨55, _⟩ => ⟨S32x128x4x1, .f32⟩
  | .hbm, ⟨56, _⟩ => ⟨S32x128x4x64, .f32⟩
  | .hbm, ⟨57, _⟩ => ⟨S32x128x4x64, .f32⟩
  | .hbm, ⟨58, _⟩ => ⟨S_, .f32⟩
  | .hbm, ⟨59, _⟩ => ⟨S32x128x4x1, .f32⟩
  | .hbm, ⟨60, _⟩ => ⟨S32x128x4x1, .f32⟩
  | .hbm, ⟨61, _⟩ => ⟨S32x128x4x1, .f32⟩
  | .hbm, ⟨62, _⟩ => ⟨S32x128x4x64, .f32⟩
  | .hbm, ⟨63, _⟩ => ⟨S32x128x4x64, .f32⟩
  | .hbm, ⟨64, _⟩ => ⟨S_, .f32⟩
  | .hbm, ⟨65, _⟩ => ⟨S128x128, .f32⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .f32⟩
  | .hbm, ⟨73, _⟩ => ⟨S128x128, .f32⟩
  | .hbm, ⟨74, _⟩ => ⟨S128x128, .f32⟩
  | .hbm, ⟨75, _⟩ => ⟨S1x128x128, .f32⟩
  | .hbm, ⟨76, _⟩ => ⟨S4x128x128, .f32⟩
  | .hbm, ⟨77, _⟩ => ⟨S4x128x128, .f32⟩
  | .hbm, ⟨78, _⟩ => ⟨S4x32x64x128, .f32⟩
  | .hbm, ⟨79, _⟩ => ⟨S32x128x4x64, .f32⟩
  | .hbm, ⟨80, _⟩ => ⟨S128x4, .f32⟩
  | .hbm, ⟨81, _⟩ => ⟨S128x4x1, .f32⟩
  | .hbm, ⟨82, _⟩ => ⟨S1x128x4x1, .f32⟩
  | .hbm, ⟨83, _⟩ => ⟨S32x128x4x64, .f32⟩
  | .hbm, ⟨84, _⟩ => ⟨S32x128x4x64, .f32⟩
  | .hbm, ⟨85, _⟩ => ⟨S4096x256, .f32⟩
  | .hbm, ⟨86, _⟩ => ⟨S4096x256, .f32⟩
  | .hbm, ⟨87, _⟩ => ⟨S4096x4x64, .f32⟩
  | .hbm, ⟨88, _⟩ => ⟨S4096x4x64, .f32⟩
  | .hbm, ⟨89, _⟩ => ⟨S_, .f32⟩
  | .hbm, ⟨90, _⟩ => ⟨S4096x4, .f32⟩
  | .hbm, ⟨91, _⟩ => ⟨S4096x4x1, .f32⟩
  | .hbm, ⟨92, _⟩ => ⟨S_, .f32⟩
  | .hbm, ⟨93, _⟩ => ⟨S4096x4x1, .f32⟩
  | .hbm, ⟨94, _⟩ => ⟨S4096x4x1, .f32⟩
  | .hbm, ⟨95, _⟩ => ⟨S_, .f32⟩
  | .hbm, ⟨96, _⟩ => ⟨S4096x4x1, .f32⟩
  | .hbm, ⟨97, _⟩ => ⟨S4096x4x1, .f32⟩
  | .hbm, ⟨98, _⟩ => ⟨S4096x4x1, .f32⟩
  | .hbm, ⟨99, _⟩ => ⟨S4096x4x64, .f32⟩
  | .hbm, ⟨100, _⟩ => ⟨S4096x4x64, .f32⟩
  | .hbm, ⟨101, _⟩ => ⟨S4096x256, .f32⟩
  | .hbm, ⟨102, _⟩ => ⟨S1x256, .f32⟩
  | .hbm, ⟨103, _⟩ => ⟨S4096x256, .f32⟩
  | .hbm, ⟨104, _⟩ => ⟨S4096x256, .f32⟩
  | .hbm, ⟨105, _⟩ => ⟨S4096x256, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_cst : Ref sig .tc := ⟨.hbm, 72, rfl⟩
abbrev main_call0_v5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]
-- ==== Proof.Reals.lean ====
/-
  The real numbers inside the extended reals: the operations of the idealized programs at finite values, and the
  constants the programs spell as float words.
-/
module

public import Idealize.ShloMosaic.Lib.Pointwise
public import Idealize.ShloMosaic.Init

@[expose] public section

noncomputable section

namespace Cert.Reals

open Idealize.ShloMosaic

/-- A sum of finite values is the real sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division of a finite value by a finite value that is not zero. -/
theorem div_coe_coe (x : ℝ) {y : ℝ} (hy : y ≠ 0) : Ideal.div (x : EReal) (y : EReal) = ((x / y : ℝ) : EReal) := by
  rw [Ideal.div_coe hy, ← EReal.coe_mul, mul_one_div]

/-- The logistic function over the reals. -/
def sig (x : ℝ) : ℝ := 1 / (1 + Real.exp (-x))

theorem one_add_exp_pos (x : ℝ) : 0 < 1 + Real.exp x := by have := Real.exp_pos x; linarith

theorem exp_coe (x : ℝ) : Ideal.exp (x : EReal) = ((Real.exp x : ℝ) : EReal) := rfl

theorem logistic_coe (x : ℝ) : Ideal.logistic (x : EReal) = ((sig x : ℝ) : EReal) := by
  unfold Ideal.logistic sig
  rw [← EReal.coe_neg, exp_coe, ← EReal.coe_one, ← EReal.coe_add, div_coe_coe _ (one_add_exp_pos _).ne']

theorem rsqrt_coe {x : ℝ} (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- The constant added under the root, as the float word both programs spell. -/
def eps : ℝ := ((2 ^ 23 + 407485 : ℕ) : ℝ) * (2 : ℝ) ^ (-43 : ℤ)

theorem eps_pos : 0 < eps := by unfold eps; positivity

theorem ofBits_eps : Ideal.ofBits .f32 0x358637BD#32 = ((eps : ℝ) : EReal) := by
  simp [Ideal.ofBits, Ideal.ieee, eps]
theorem ofBits_half : Ideal.ofBits .f32 0x3F000000#32 = (((1 / 2 : ℝ)) : EReal) := by
  simp [Ideal.ofBits, Ideal.ieee]; rw [← EReal.coe_mul]; norm_num
theorem ofBits_neg_half : Ideal.ofBits .f32 0xBF000000#32 = ((-(1 / 2 : ℝ)) : EReal) := by
  simp [Ideal.ofBits, Ideal.ieee]; rw [← EReal.coe_mul]; norm_num
theorem ofBits_one : Ideal.ofBits .f32 0x3F800000#32 = (((1 : ℝ)) : EReal) := by
  simp [Ideal.ofBits, Ideal.ieee]; rw [← EReal.coe_mul]; norm_num
theorem ofBits_1024 : Ideal.ofBits .f32 0x44800000#32 = (((1024 : ℝ)) : EReal) := by
  simp [Ideal.ofBits, Ideal.ieee]; rw [← EReal.coe_mul]; norm_num
theorem ofBits_top : Ideal.ofBits .f32 0x7F800000#32 = (⊤ : EReal) := by
  simp [Ideal.ofBits, Ideal.ieee]

/-- The root mean square of a row of length 1024, inverted. -/
def rms (h : Fin 1024 → ℝ) : ℝ := (Real.sqrt ((∑ d, h d * h d) / 1024 + eps))⁻¹

theorem ms_pos (h : Fin 1024 → ℝ) : 0 < (∑ d, h d * h d) / 1024 + eps := by
  have : 0 ≤ ∑ d, h d * h d := Finset.sum_nonneg fun d _ => mul_self_nonneg (h d)
  have := eps_pos
  positivity

theorem rsqrt_ms (h : Fin 1024 → ℝ) :
    Ideal.rsqrt (Ideal.div ((∑ d, h d * h d : ℝ) : EReal) ((1024 : ℝ) : EReal) + ((eps : ℝ) : EReal)) = ((rms h : ℝ) : EReal) := by
  rw [div_coe_coe _ (by norm_num), ← EReal.coe_add, rsqrt_coe (ms_pos h)]; rfl

/-- A value below the top in absolute value is a real number. -/
theorem real_of_abs_lt {x : EReal} (h : Ideal.cmp .olt (max x (-x)) ⊤ = 1#1) : x = ((x.toReal : ℝ) : EReal) := by
  have h' : max x (-x) < ⊤ := by
    by_contra hc
    simp [Ideal.cmp, hc] at h
  rw [max_lt_iff] at h'
  refine (EReal.coe_toReal h'.1.ne ?_).symm
  rintro rfl
  simp at h'

end Cert.Reals

end
-- ==== Proof.Spec.lean ====
/-
  One row of the feed-forward block and of its gradient, over the real numbers. The gate, up and down weights are
  given by shard `k` and row `j` inside the shard, as the kernel holds them.
-/
module

public import proofs.«01_k».proof.Proof.Reals

@[expose] public section

noncomputable section

namespace Cert.Spec

open Cert.Reals

/-- A row of 1024 numbers. -/
abbrev Row := Fin 1024 → ℝ
/-- A weight by shard, row inside the shard, and column. -/
abbrev Wt := Fin 4 → Fin 704 → Row

variable (A B C : Wt) (g h o : Row)

/-- The normalized row before its gain. -/
def xh (d : Fin 1024) : ℝ := h d * rms h
/-- The normalized row. -/
def xn (d : Fin 1024) : ℝ := xh h d * g d
/-- A product of the normalized row with a weight. -/
def proj (k : Fin 4) (j : Fin 704) : ℝ := ∑ d, xn g h d * A k j d
/-- The gated activation. -/
def act (k : Fin 4) (j : Fin 704) : ℝ := proj A g h k j * sig (proj A g h k j) * proj B g h k j
/-- The block's result. -/
def out (d : Fin 1024) : ℝ := h d + 1 / 2 * ∑ k, ∑ j, act A B g h k j * C k j d

/-- The cotangent of the activation. -/
def da (k : Fin 4) (j : Fin 704) : ℝ := ∑ d, 1 / 2 * o d * C k j d
/-- The cotangent of the gate product. -/
def dg (k : Fin 4) (j : Fin 704) : ℝ :=
  da C o k j * proj B g h k j * (sig (proj A g h k j) * (1 + proj A g h k j * (1 - sig (proj A g h k j))))
/-- The cotangent of the up product. -/
def du (k : Fin 4) (j : Fin 704) : ℝ := da C o k j * (proj A g h k j * sig (proj A g h k j))
/-- The cotangent of the normalized row. -/
def dxn (d : Fin 1024) : ℝ := ∑ k, ((∑ j, dg A B C g h o k j * A k j d) + ∑ j, du A C g h o k j * B k j d)
/-- The cotangent of the row. -/
def dh (d : Fin 1024) : ℝ :=
  o d + rms h * (dxn A B C g h o d * g d - xh h d * ((∑ e, dxn A B C g h o e * g e * xh h e) / 1024))

/-- The gain's cotangent: the sum over all rows. -/
def dgain (H O : Fin 4096 → Row) (d : Fin 1024) : ℝ := ∑ r, dxn A B C g (H r) (O r) d * xh (H r) d

open Idealize.ShloMosaic

/-- Row `j` of shard `k` among all 2816 rows. -/
def at4 (k : Fin 4) (j : Fin 704) : Fin 2816 := ⟨k.val * 704 + j.val, by omega⟩

/-- Six argument arrays hold these real numbers: the rows, the gain, the rows' cotangent, and the three weights. -/
structure Holds (X0 : Vec Ideal ⟨2, ![4096, 1024]⟩ .f32) (X1 : Vec Ideal ⟨1, ![1024]⟩ .f32)
    (X2 : Vec Ideal ⟨2, ![4096, 1024]⟩ .f32) (X3 X4 : Vec Ideal ⟨2, ![1024, 2816]⟩ .f32)
    (X5 : Vec Ideal ⟨2, ![2816, 1024]⟩ .f32) (H O : Fin 4096 → Row) : Prop where
  rows : ∀ r d, X0 (ix2 r d) = ((H r d : ℝ) : EReal)
  gain : ∀ d, X1 (ix1 d) = ((g d : ℝ) : EReal)
  cot : ∀ r d, X2 (ix2 r d) = ((O r d : ℝ) : EReal)
  gate : ∀ k j d, X3 (ix2 d (at4 k j)) = ((A k j d : ℝ) : EReal)
  up : ∀ k j d, X4 (ix2 d (at4 k j)) = ((B k j d : ℝ) : EReal)
  down : ∀ k j d, X5 (ix2 (at4 k j) d) = ((C k j d : ℝ) : EReal)

end Cert.Spec

end
-- ==== Proof.ForwardRows.lean ====
/-
  The forward region, one block of 512 rows at a time: what the body leaves of the block's result and of the gate and
  up products, at finite blocks, as the real functions of Proof/Spec.lean; then the three arrays after the region.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Forward

open Cert.KernelIdeal Cert.KernelIdeal.Gen Idealize.ShloMosaic Cert.Reals Cert.Spec

section Block

variable (x0 : Vec Ideal S512x1024 .f32) (x1 : Vec Ideal S1x1024 .f32) (x2 x3 x4 : Vec Ideal S4x704x1024 .bf16)
  (A B C : Wt) (H : Fin 512 → Row) (g : Row)
  (q0 : ∀ r d, x0 (ix2 r d) = ((H r d : ℝ) : EReal)) (q1 : ∀ d, x1 (ix2 0 d) = ((g d : ℝ) : EReal))
  (q2 : ∀ k j d, x2 (ix3 k j d) = ((A k j d : ℝ) : EReal))
  (q3 : ∀ k j d, x3 (ix3 k j d) = ((B k j d : ℝ) : EReal))
  (q4 : ∀ k j d, x4 (ix3 k j d) = ((C k j d : ℝ) : EReal))

include q0 q1 in
theorem xn0 (r : Fin 512) (d : Fin 1024) :
    k0_pay2 x0 x1 (ix2 r d) = ((xn g (H r) d : ℝ) : EReal) := by
  pointwise [k0_pay2]
  simp only [q0, q1, ofBits_eps, ofBits_1024, ← EReal.coe_mul, sum_coe, rsqrt_ms, xn, xh]

theorem row_ld : k0_pay2 (View.ld x0 r0_0) (View.ld x1 r0_1) = k0_pay2 x0 x1 := by
  rw [View.ld_unit_lit _ x0 (by decide), View.ld_unit_lit _ x1 (by decide)]

include q0 q1 q2 q3 q4 in
theorem out5 (r : Fin 512) (d : Fin 1024) :
    out0_5 x0 x1 x2 x3 x4 (ix2 r d) = ((Spec.out A B C g (H r) d : ℝ) : EReal) := by
  frame_out
  pointwise [k0_pay1, k0_pay18, k0_pay24, k0_pay12, k0_pay7, k0_pay26, k0_pay27, k0_pay25, k0_pay19, k0_pay20, k0_pay23,
    k0_pay3, k0_pay4, k0_pay8, k0_pay9, k0_pay13, k0_pay14, k0_pay15]
  simp only [row_ld, xn0 _ _ _ _ q0 q1, q0, q1, q2, q3, q4, logistic_coe, ofBits_half, ← EReal.coe_mul, sum_coe,
    ← EReal.coe_add, Spec.out, act, proj, Fin.sum_univ_four]

include q0 q1 in
/-- A product of the normalized block with a weight shard, at an index given by its coordinates. -/
theorem proj_at (w : Vec Ideal S4x704x1024 .bf16) (W : Wt) (qw : ∀ k j d, w (ix3 k j d) = ((W k j d : ℝ) : EReal))
    (k k' : Fin 4) (r r' : Fin 512) (j j' : Fin 704) (hk : (k : ℕ) = k') (hr : (r : ℕ) = r') (hj : (j : ℕ) = j') :
    (∑ d, k0_pay2 x0 x1 (ix2 r' d) * w (ix3 k' j' d) : EReal) = ((proj W g (H r) k j : ℝ) : EReal) := by
  obtain rfl := Fin.ext hk; obtain rfl := Fin.ext hr; obtain rfl := Fin.ext hj
  simp only [xn0 _ _ _ _ q0 q1, qw, ← EReal.coe_mul, sum_coe, proj]

include q0 q1 q2 in
/-- The first block of gate products. -/
theorem out6 (k : Fin 4) (r : Fin 512) (j : Fin 704) :
    out0_6 x0 x1 x2 x3 x4 (ix3 k r j) = ((proj A g (H r) k j : ℝ) : EReal) := by
  canon_tiles y h using Gen.cover0_6 ..
  all_goals idx_vars y
  all_goals pointwise [k0_pay24, k0_pay21, k0_pay19, k0_pay16, k0_pay26, k0_pay13, k0_pay10, k0_pay8, k0_pay5, k0_pay3]
  all_goals rw [row_ld]
  all_goals exact proj_at x0 x1 H g q0 q1 x2 A q2 _ _ _ _ _ _ (by simp; omega) h1 h2

include q0 q1 q3 in
/-- The first block of up products. -/
theorem out7 (k : Fin 4) (r : Fin 512) (j : Fin 704) :
    out0_7 x0 x1 x2 x3 x4 (ix3 k r j) = ((proj B g (H r) k j : ℝ) : EReal) := by
  canon_tiles y h using Gen.cover0_7 ..
  all_goals idx_vars y
  all_goals pointwise [k0_pay24, k0_pay22, k0_pay20, k0_pay17, k0_pay25, k0_pay27, k0_pay14, k0_pay15, k0_pay11, k0_pay9,
    k0_pay6, k0_pay4]
  all_goals rw [row_ld]
  all_goals exact proj_at x0 x1 H g q0 q1 x3 B q3 _ _ _ _ _ _ (by simp; omega) h1 h2

end Block

variable (V : (c : Dev nD) → (b : Ref sig .tc) → Buf (Elt Ideal) (c.tc.loc b)) (c : Dev nD)
  (A B C : Wt) (H : Fin 4096 → Row) (g : Row)
  (v0 : ∀ r d, V c main_arg0 (ix2 r d) = ((H r d : ℝ) : EReal))
  (v1 : ∀ d, V c main_v8 (ix2 0 d) = ((g d : ℝ) : EReal))
  (v2 : ∀ k j d, V c main_v2 (ix3 k j d) = ((A k j d : ℝ) : EReal))
  (v3 : ∀ k j d, V c main_v5 (ix3 k j d) = ((B k j d : ℝ) : EReal))
  (v4 : ∀ k j d, V c main_v7 (ix3 k j d) = ((C k j d : ℝ) : EReal))

/-- Where each window's block lies at a grid point. -/
theorem idx : ∀ t : Fin cfg0.N, win0_0.index t = ![t.val, 0] ∧ win0_1.index t = ![0, 0] ∧
    win0_2.index t = ![0, 0, 0] ∧ win0_3.index t = ![0, 0, 0] ∧ win0_4.index t = ![0, 0, 0] ∧
    win0_5.index t = ![t.val, 0] ∧ win0_6.index t = ![0, t.val, 0] ∧ win0_7.index t = ![0, t.val, 0] :=
  (by decide +kernel : ∀ t : Fin grid0.N, _)

theorem row_lt (t : Fin cfg0.N) (r : Fin 512) : t.val * 512 + r.val < 4096 := by
  have h : t.val < 8 := lt_of_lt_of_eq t.isLt N_0
  omega

/-- The rows of a grid point. -/
def rows (t : Fin cfg0.N) (r : Fin 512) : Row := H ⟨t.val * 512 + r.val, row_lt t r⟩

include v0 in
theorem blk0 (t : Fin cfg0.N) (r : Fin 512) (d : Fin 1024) : iblk0 V c 0 t (ix2 r d) = ((rows H t r d : ℝ) : EReal) := by
  rw [rows, ← v0]
  blk_ext [iblk0, idx t]

include v1 in
theorem blk1 (t : Fin cfg0.N) (d : Fin 1024) : iblk0 V c 1 t (ix2 0 d) = ((g d : ℝ) : EReal) := by
  rw [← v1]
  blk_ext [iblk0, idx t]

include v2 in
theorem blk2 (t : Fin cfg0.N) (k : Fin 4) (j : Fin 704) (d : Fin 1024) : iblk0 V c 2 t (ix3 k j d) = ((A k j d : ℝ) : EReal) := by
  rw [← v2]
  blk_ext [iblk0, idx t]

include v3 in
theorem blk3 (t : Fin cfg0.N) (k : Fin 4) (j : Fin 704) (d : Fin 1024) : iblk0 V c 3 t (ix3 k j d) = ((B k j d : ℝ) : EReal) := by
  rw [← v3]
  blk_ext [iblk0, idx t]

include v4 in
theorem blk4 (t : Fin cfg0.N) (k : Fin 4) (j : Fin 704) (d : Fin 1024) : iblk0 V c 4 t (ix3 k j d) = ((C k j d : ℝ) : EReal) := by
  rw [← v4]
  blk_ext [iblk0, idx t]

include v0 v1 v2 v3 v4 in
theorem final5 : (dat0 V c).arrAt 5 cfg0.N = fun i => ((Spec.out A B C g (H (i 0)) (i 1) : ℝ) : EReal) := by
  refine (dat0 V c).arrAt_eq_of_covers 5 _ (by decide +kernel) fun t _ y => ?_
  idx_vars y
  blk_simp
  rw [after0_5, out5 _ _ _ _ _ A B C (rows H t) g (blk0 V c H v0 t) (blk1 V c g v1 t) (blk2 V c A v2 t) (blk3 V c B v3 t)
    (blk4 V c C v4 t)]
  refine congrArg Real.toEReal (congr (congrArg (Spec.out A B C g) (congrArg H (Fin.ext ?_))) (Fin.ext ?_)) <;>
    blk_simp [idx t]

include v0 v1 v2 in
theorem final6 : (dat0 V c).arrAt 6 cfg0.N = fun i => ((proj A g (H (i 1)) (i 0) (i 2) : ℝ) : EReal) := by
  refine (dat0 V c).arrAt_eq_of_covers 6 _ (by decide +kernel) fun t _ y => ?_
  idx_vars y
  blk_simp
  rw [after0_6, out6 _ _ _ _ _ A (rows H t) g (blk0 V c H v0 t) (blk1 V c g v1 t) (blk2 V c A v2 t)]
  refine congrArg Real.toEReal (congr (congr (congrArg (proj A g) (congrArg H (Fin.ext ?_))) (Fin.ext ?_)) (Fin.ext ?_)) <;>
    blk_simp [idx t]

include v0 v1 v3 in
theorem final7 : (dat0 V c).arrAt 7 cfg0.N = fun i => ((proj B g (H (i 1)) (i 0) (i 2) : ℝ) : EReal) := by
  refine (dat0 V c).arrAt_eq_of_covers 7 _ (by decide +kernel) fun t _ y => ?_
  idx_vars y
  blk_simp
  rw [after0_7, out7 _ _ _ _ _ B (rows H t) g (blk0 V c H v0 t) (blk1 V c g v1 t) (blk3 V c B v3 t)]
  refine congrArg Real.toEReal (congr (congr (congrArg (proj B g) (congrArg H (Fin.ext ?_))) (Fin.ext ?_)) (Fin.ext ?_)) <;>
    blk_simp [idx t]

end Cert.KernelIdeal.Forward

end
-- ==== Proof.BackRows.lean ====
/-
  The gradient region, one block of 256 rows at a time: what the body leaves of the rows' cotangent and what it adds
  to the gain's, at finite blocks, as the real functions of Proof/Spec.lean.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Back

open Cert.KernelIdeal Cert.KernelIdeal.Gen Idealize.ShloMosaic Cert.Reals Cert.Spec

section Block

variable (x0 : Vec Ideal S256x1024 .f32) (x1 : Vec Ideal S1x1024 .f32) (x2 : Vec Ideal S256x1024 .f32)
  (x3 x4 : Vec Ideal S4x256x704 .bf16) (x5 x6 x7 : Vec Ideal S4x704x1024 .bf16)
  (A B C : Wt) (H O : Fin 256 → Row) (g : Row)
  (q0 : ∀ r d, x0 (ix2 r d) = ((H r d : ℝ) : EReal)) (q1 : ∀ d, x1 (ix2 0 d) = ((g d : ℝ) : EReal))
  (q2 : ∀ r d, x2 (ix2 r d) = ((O r d : ℝ) : EReal))
  (q3 : ∀ k r j, x3 (ix3 k r j) = ((proj A g (H r) k j : ℝ) : EReal))
  (q4 : ∀ k r j, x4 (ix3 k r j) = ((proj B g (H r) k j : ℝ) : EReal))
  (q5 : ∀ k j d, x5 (ix3 k j d) = ((A k j d : ℝ) : EReal)) (q6 : ∀ k j d, x6 (ix3 k j d) = ((B k j d : ℝ) : EReal))
  (q7 : ∀ k j d, x7 (ix3 k j d) = ((C k j d : ℝ) : EReal))

/-- The cotangent of the normalized block, as the body builds it over the four shards. -/
def acc : FVec Ideal S256x1024 .f32 :=
  k1_pay40 (k1_pay7 x2)
    (k1_pay32
      (k1_pay24
        (k1_pay15
          (k1_pay8 x2 (View.ld x7 (Rect.unit ![0, 0, 0] S1x704x1024.size inb_S4x704x1024_S1x704x1024_0_0_0)))
          (k1_pay9 (View.ld x3 (Rect.unit ![0, 0, 0] S1x256x704.size inb_S4x256x704_S1x256x704_0_0_0)))
          (View.ld x4 (Rect.unit ![0, 0, 0] S1x256x704.size inb_S4x256x704_S1x256x704_0_0_0))
          (View.ld x5 (Rect.unit ![0, 0, 0] S1x704x1024.size inb_S4x704x1024_S1x704x1024_0_0_0))
          (View.ld x6 (Rect.unit ![0, 0, 0] S1x704x1024.size inb_S4x704x1024_S1x704x1024_0_0_0)))
        (k1_pay16 (k1_pay7 x2)
          (View.ld x7 (Rect.unit ![1, 0, 0] S1x704x1024.size inb_S4x704x1024_S1x704x1024_1_0_0)))
        (k1_pay17 (View.ld x3 (Rect.unit ![1, 0, 0] S1x256x704.size inb_S4x256x704_S1x256x704_1_0_0)))
        (View.ld x4 (Rect.unit ![1, 0, 0] S1x256x704.size inb_S4x256x704_S1x256x704_1_0_0))
        (View.ld x5 (Rect.unit ![1, 0, 0] S1x704x1024.size inb_S4x704x1024_S1x704x1024_1_0_0))
        (View.ld x6 (Rect.unit ![1, 0, 0] S1x704x1024.size inb_S4x704x1024_S1x704x1024_1_0_0)))
      (k1_pay25 (k1_pay7 x2)
        (View.ld x7 (Rect.unit ![2, 0, 0] S1x704x1024.size inb_S4x704x1024_S1x704x1024_2_0_0)))
      (View.ld x3 (Rect.unit ![2, 0, 0] S1x256x704.size inb_S4x256x704_S1x256x704_2_0_0))
      (View.ld x4 (Rect.unit ![2, 0, 0] S1x256x704.size inb_S4x256x704_S1x256x704_2_0_0))
      (View.ld x5 (Rect.unit ![2, 0, 0] S1x704x1024.size inb_S4x704x1024_S1x704x1024_2_0_0))
      (View.ld x6 (Rect.unit ![2, 0, 0] S1x704x1024.size inb_S4x704x1024_S1x704x1024_2_0_0)))
    (View.ld x7 (Rect.unit ![3, 0, 0] S1x704x1024.size inb_S4x704x1024_S1x704x1024_3_0_0))
    (View.ld x3 (Rect.unit ![3, 0, 0] S1x256x704.size inb_S4x256x704_S1x256x704_3_0_0))
    (View.ld x4 (Rect.unit ![3, 0, 0] S1x256x704.size inb_S4x256x704_S1x256x704_3_0_0))
    (View.ld x5 (Rect.unit ![3, 0, 0] S1x704x1024.size inb_S4x704x1024_S1x704x1024_3_0_0))
    (View.ld x6 (Rect.unit ![3, 0, 0] S1x704x1024.size inb_S4x704x1024_S1x704x1024_3_0_0))

include q2 q3 q4 q5 q6 q7 in
theorem acc_at (r : Fin 256) (d : Fin 1024) :
    acc x2 x3 x4 x5 x6 x7 (ix2 r d) = ((dxn A B C g (H r) (O r) d : ℝ) : EReal) := by
  pointwise [acc, k1_pay7, k1_pay8, k1_pay9, k1_pay10, k1_pay11, k1_pay12, k1_pay15, k1_pay16, k1_pay17, k1_pay18,
    k1_pay19, k1_pay20, k1_pay21, k1_pay24, k1_pay25, k1_pay26, k1_pay27, k1_pay28, k1_pay29, k1_pay32, k1_pay33,
    k1_pay34, k1_pay35, k1_pay36, k1_pay37, k1_pay40]
  simp only [q2, q3, q4, q5, q6, q7, logistic_coe, ofBits_half, ← EReal.coe_one, ← EReal.coe_mul, sum_coe, ← EReal.coe_sub,
    ← EReal.coe_add]
  simp only [dxn, dg, du, da, Fin.sum_univ_four]

theorem xh_at (q0 : ∀ r d, x0 (ix2 r d) = ((H r d : ℝ) : EReal)) (r : Fin 256) (d : Fin 1024) :
    k1_pay5 x0 (ix2 r d) = ((xh (H r) d : ℝ) : EReal) := by
  pointwise [k1_pay5, k1_pay4]
  simp only [q0, ofBits_eps, ofBits_1024, ← EReal.coe_mul, sum_coe, rsqrt_ms, xh]

include q0 q1 q2 q3 q4 q5 q6 q7 in
theorem dh_at (r : Fin 256) (d : Fin 1024) :
    k1_pay2 (k1_pay4 x0) (k1_pay5 x0) x2 (acc x2 x3 x4 x5 x6 x7) x1 (ix2 r d)
      = ((dh A B C g (H r) (O r) d : ℝ) : EReal) := by
  pointwise [k1_pay2, k1_pay4]
  simp only [acc_at x2 x3 x4 x5 x6 x7 A B C H O g q2 q3 q4 q5 q6 q7, xh_at x0 H q0, q0, q1, q2, ofBits_eps, ofBits_1024,
    ← EReal.coe_mul, sum_coe, rsqrt_ms]
  simp only [div_coe_coe _ (by norm_num : (1024 : ℝ) ≠ 0), ← EReal.coe_mul, ← EReal.coe_sub, ← EReal.coe_add, dh]

end Block

variable (V : (c : Dev nD) → (b : Ref sig .tc) → Buf (Elt Ideal) (c.tc.loc b)) (c : Dev nD)

/-- The rows' cotangent that a grid point leaves. -/
theorem dh_pay (t : Fin cfg1.N) :
    (outsAt1 V c t.val t.isLt).1 = k1_pay2 (k1_pay4 (iblk1 V c 0 t)) (k1_pay5 (iblk1 V c 0 t)) (iblk1 V c 2 t)
      (acc (iblk1 V c 2 t) (iblk1 V c 3 t) (iblk1 V c 4 t) (iblk1 V c 5 t) (iblk1 V c 6 t) (iblk1 V c 7 t))
      (iblk1 V c 1 t) := by
  by_cases ht : t.val % 16 = 0
  · rw [outsAt1_A V c t ht]
    frame_out
    rfl
  · rw [outsAt1_B V c t ht]
    frame_out
    rfl

/-- The gain's cotangent after the first grid point. -/
theorem dgain_first (t : Fin cfg1.N) (ht : t.val % 16 = 0) :
    (outsAt1 V c t.val t.isLt).2.1 = k1_pay1 (k1_pay5 (iblk1 V c 0 t))
      (acc (iblk1 V c 2 t) (iblk1 V c 3 t) (iblk1 V c 4 t) (iblk1 V c 5 t) (iblk1 V c 6 t) (iblk1 V c 7 t))
      (k1_pay3 (F := Ideal)) := by
  rw [outsAt1_A V c t ht]
  frame_out
  rfl

/-- The gain's cotangent after a later grid point. -/
theorem dgain_next (t : Fin cfg1.N) (ht : ¬ t.val % 16 = 0) :
    (outsAt1 V c t.val t.isLt).2.1 = k1_pay1 (k1_pay5 (iblk1 V c 0 t))
      (acc (iblk1 V c 2 t) (iblk1 V c 3 t) (iblk1 V c 4 t) (iblk1 V c 5 t) (iblk1 V c 6 t) (iblk1 V c 7 t))
      (outsAt1 V c (t.val - 1) (Nat.lt_of_le_of_lt (Nat.sub_le _ _) t.isLt)).2.1 := by
  rw [outsAt1_B V c t ht]
  frame_out
  rfl

/-- One grid point adds its rows' part of the gain's cotangent. -/
theorem dgain_step (x u : FVec Ideal S256x1024 .f32) (y : Vec Ideal S1x1024 .f32) (i : S1x1024.Idx) :
    k1_pay1 x u y i = y i + ∑ r : Fin 256, u (ix2 r (i 1)) * x (ix2 r (i 1)) := by
  idx_vars i
  pointwise [k1_pay1]

theorem dgain_zero (i : S1x1024.Idx) : k1_pay3 (F := Ideal) i = 0 := by
  pointwise [k1_pay3]

variable (A B C : Wt) (H O : Fin 4096 → Row) (g : Row)
  (v0 : ∀ r d, V c main_arg0 (ix2 r d) = ((H r d : ℝ) : EReal))
  (v1 : ∀ d, V c main_v10 (ix2 0 d) = ((g d : ℝ) : EReal))
  (v2 : ∀ r d, V c main_arg2 (ix2 r d) = ((O r d : ℝ) : EReal))
  (v3 : ∀ k r j, V c main_v9_1 (ix3 k r j) = ((proj A g (H r) k j : ℝ) : EReal))
  (v4 : ∀ k r j, V c main_v9_2 (ix3 k r j) = ((proj B g (H r) k j : ℝ) : EReal))
  (v5 : ∀ k j d, V c main_v2 (ix3 k j d) = ((A k j d : ℝ) : EReal))
  (v6 : ∀ k j d, V c main_v5 (ix3 k j d) = ((B k j d : ℝ) : EReal))
  (v7 : ∀ k j d, V c main_v7 (ix3 k j d) = ((C k j d : ℝ) : EReal))

/-- Where each window's block lies at a grid point. -/
theorem idx : ∀ t : Fin cfg1.N, win1_0.index t = ![t.val, 0] ∧ win1_1.index t = ![0, 0] ∧ win1_2.index t = ![t.val, 0] ∧
    win1_3.index t = ![0, t.val, 0] ∧ win1_4.index t = ![0, t.val, 0] ∧
    win1_5.index t = ![0, 0, 0] ∧ win1_6.index t = ![0, 0, 0] ∧ win1_7.index t = ![0, 0, 0] ∧
    win1_8.index t = ![t.val, 0] ∧ win1_9.index t = ![0, 0] :=
  (by decide +kernel : ∀ t : Fin grid1.N, _)

theorem row_lt (t : Fin cfg1.N) (r : Fin 256) : t.val * 256 + r.val < 4096 := by
  have h : t.val < 16 := lt_of_lt_of_eq t.isLt N_1
  omega

/-- The rows of a grid point. -/
def rows (t : Fin cfg1.N) (r : Fin 256) : Row := H ⟨t.val * 256 + r.val, row_lt t r⟩

include v0 in
theorem blk0 (t : Fin cfg1.N) (r : Fin 256) (d : Fin 1024) : iblk1 V c 0 t (ix2 r d) = ((rows H t r d : ℝ) : EReal) := by
  rw [rows, ← v0]
  blk_ext [iblk1, idx t]

include v1 in
theorem blk1 (t : Fin cfg1.N) (d : Fin 1024) : iblk1 V c 1 t (ix2 0 d) = ((g d : ℝ) : EReal) := by
  rw [← v1]
  blk_ext [iblk1, idx t]

include v2 in
theorem blk2 (t : Fin cfg1.N) (r : Fin 256) (d : Fin 1024) : iblk1 V c 2 t (ix2 r d) = ((rows O t r d : ℝ) : EReal) := by
  rw [rows, ← v2]
  blk_ext [iblk1, idx t]

include v3 in
theorem blk3 (t : Fin cfg1.N) (k : Fin 4) (r : Fin 256) (j : Fin 704) :
    iblk1 V c 3 t (ix3 k r j) = ((proj A g (rows H t r) k j : ℝ) : EReal) := by
  rw [rows, ← v3]
  blk_ext [iblk1, idx t]

include v4 in
theorem blk4 (t : Fin cfg1.N) (k : Fin 4) (r : Fin 256) (j : Fin 704) :
    iblk1 V c 4 t (ix3 k r j) = ((proj B g (rows H t r) k j : ℝ) : EReal) := by
  rw [rows, ← v4]
  blk_ext [iblk1, idx t]

include v5 in
theorem blk5 (t : Fin cfg1.N) (k : Fin 4) (j : Fin 704) (d : Fin 1024) : iblk1 V c 5 t (ix3 k j d) = ((A k j d : ℝ) : EReal) := by
  rw [← v5]
  blk_ext [iblk1, idx t]

include v6 in
theorem blk6 (t : Fin cfg1.N) (k : Fin 4) (j : Fin 704) (d : Fin 1024) : iblk1 V c 6 t (ix3 k j d) = ((B k j d : ℝ) : EReal) := by
  rw [← v6]
  blk_ext [iblk1, idx t]

include v7 in
theorem blk7 (t : Fin cfg1.N) (k : Fin 4) (j : Fin 704) (d : Fin 1024) : iblk1 V c 7 t (ix3 k j d) = ((C k j d : ℝ) : EReal) := by
  rw [← v7]
  blk_ext [iblk1, idx t]

include v0 v1 v2 v3 v4 v5 v6 v7 in
/-- The rows' cotangent after the region. -/
theorem final8 : (dat1 V c).arrAt 8 cfg1.N = fun i => ((dh A B C g (H (i 0)) (O (i 0)) (i 1) : ℝ) : EReal) := by
  refine (dat1 V c).arrAt_eq_of_covers 8 _ (by decide +kernel) fun t _ y => ?_
  idx_vars y
  blk_simp
  rw [after1_8, dh_pay, dh_at _ _ _ _ _ _ _ _ A B C (rows H t) (rows O t) g (blk0 V c H v0 t) (blk1 V c g v1 t)
    (blk2 V c O v2 t) (blk3 V c A H g v3 t) (blk4 V c B H g v4 t) (blk5 V c A v5 t) (blk6 V c B v6 t) (blk7 V c C v7 t)]
  have e : ∀ i : Fin 4096, (i : ℕ) = t.val * 256 + y0.val → rows H t y0 = H i ∧ rows O t y0 = O i := fun i h =>
    ⟨congrArg H (Fin.ext h.symm), congrArg O (Fin.ext h.symm)⟩
  rw [(e _ (by blk_simp [idx t] : (((win1_8.blk t).view.emb (ix2 y0 y1) 0 : Fin 4096) : ℕ) = t.val * 256 + y0.val)).1,
    (e _ (by blk_simp [idx t] : (((win1_8.blk t).view.emb (ix2 y0 y1) 0 : Fin 4096) : ℕ) = t.val * 256 + y0.val)).2]
  refine congrArg Real.toEReal (congrArg (dh A B C g _ _) (Fin.ext ?_))
  blk_simp [idx t]

include v0 v1 v2 v3 v4 v5 v6 v7 in
/-- The gain's cotangent after the region: the sum over all rows. -/
theorem final9 : (dat1 V c).arrAt 9 cfg1.N =
    fun i => ((∑ r : Fin 4096, dxn A B C g (H r) (O r) (i 1) * xh (H r) (i 1) : ℝ) : EReal) := by
  refine (dat1 V c).arrAt_eq_of_after_last 9 t1_15 (by decide +kernel) _ fun j => ?_
  blk_simp
  rw [after1_9, Pipeline.eq_sum_fin_of_reset_step_apply_last (fun n h => (outsAt1 V c n h).2.1) 16 (fun _ => 0) _
    (fun t h j => by rw [dgain_first V c t h, dgain_step, dgain_zero])
    (fun t h j => by rw [dgain_next V c t h, dgain_step])
    (le_of_eq N_1) t1_15 rfl j, zero_add, ← sum_coe]
  refine Fin.sum_mul_add_congr fun p r h => ?_
  exact (congrArg₂ (· * ·) (acc_at _ _ _ _ _ _ A B C (rows H p) (rows O p) g (blk2 V c O v2 p) (blk3 V c A H g v3 p)
    (blk4 V c B H g v4 p) (blk5 V c A v5 p) (blk6 V c B v6 p) (blk7 V c C v7 p) r (j 1))
    (xh_at _ (rows H p) (blk0 V c H v0 p) r (j 1))).trans (EReal.coe_mul _ _).symm

end Cert.KernelIdeal.Back

end
-- ==== Proof.RunTwo.lean ====
/-
  The launch of the two-region program, at any float instance: every buffer the devices share ends at the contents the
  second region leaves. The segments and their proofs are the generated frame's; the final state is read further.
-/
module

public import proofs.«01_k».proof.Proof.Gen.KernelIdeal.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the three results and the six arguments at the last boundary's contents. -/
theorem run_all : θ_run defs (onTc (τ := τ) (main (F := F))) ⟨m, fun _ => 0, ρ⟩ (fun r => ∀ c : Dev nD,
    ∀ b ∈ [main_v9_0, main_v11_0, main_v11_1, main_arg0, main_arg1, main_arg2, main_arg3, main_arg4, main_arg5],
      r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c b hb => h c _ (mem_uc b (ListAll.forall_mem_of_all_decide
      (p := fun b : Ref sig .tc => ¬ (Proc.devRef .tc b : DevRef τ sig).isScoped) (by decide +kernel) b hb)))

end Cert.KernelIdeal.Whole

end
-- ==== Proof.Whole.lean ====
/-
  The two-region program over the real numbers: the arrays its regions read, the three result arrays, and the run.
-/
module

public import proofs.«01_k».proof.Proof.ForwardRows
public import proofs.«01_k».proof.Proof.BackRows
public import proofs.«01_k».proof.Proof.RunTwo
public import Idealize.ShloMosaic.Lib.Claim

@[expose] public section

set_option maxRecDepth 16384

noncomputable section

namespace Cert.KernelIdeal.Whole

open Cert.KernelIdeal Cert.KernelIdeal.Gen Idealize.ShloMosaic Idealize.SL.Sem Cert.Reals Cert.Spec

variable (m : (ℓ : Loc nD τ sig) → Buf (Elt Ideal) ℓ) (ρ : Dev nD → PrngReg) (c : Dev nD)
  (A B C : Wt) (H O : Fin 4096 → Row) (g : Row)

  (hm : Holds A B C g (m (c.tc.loc main_arg0)) (m (c.tc.loc main_arg1)) (m (c.tc.loc main_arg2)) (m (c.tc.loc main_arg3))
    (m (c.tc.loc main_arg4)) (m (c.tc.loc main_arg5)) H O)

include hm in
theorem h_read (r : Fin 4096) (d : Fin 1024) : V1 m ρ c main_arg0 (ix2 r d) = ((H r d : ℝ) : EReal) := by
  rw [← hm.rows]; exact congrFun (W1_args m ρ c main_arg0 (by decide)) _

include hm in
theorem gain_read (d : Fin 1024) : V1 m ρ c main_v8 (ix2 0 d) = ((g d : ℝ) : EReal) := by
  rw [← hm.gain]
  show StableHlo.after hostOps0 (fun b => m (c, b)) (Proc.devRef .tc main_v8) _ = _
  entry_read
  pointwise []

include hm in
theorem gate_read (k : Fin 4) (j : Fin 704) (d : Fin 1024) : V1 m ρ c main_v2 (ix3 k j d) = ((A k j d : ℝ) : EReal) := by
  rw [← hm.gate]
  show StableHlo.after hostOps0 (fun b => m (c, b)) (Proc.devRef .tc main_v2) _ = _
  entry_read
  pointwise []
  rfl

include hm in
theorem up_read (k : Fin 4) (j : Fin 704) (d : Fin 1024) : V1 m ρ c main_v5 (ix3 k j d) = ((B k j d : ℝ) : EReal) := by
  rw [← hm.up]
  show StableHlo.after hostOps0 (fun b => m (c, b)) (Proc.devRef .tc main_v5) _ = _
  entry_read
  pointwise []
  rfl

include hm in
theorem down_read (k : Fin 4) (j : Fin 704) (d : Fin 1024) : V1 m ρ c main_v7 (ix3 k j d) = ((C k j d : ℝ) : EReal) := by
  rw [← hm.down]
  show StableHlo.after hostOps0 (fun b => m (c, b)) (Proc.devRef .tc main_v7) _ = _
  entry_read
  pointwise []
  rfl

/-- A buffer that neither the first region nor the host line after it writes reaches the second region unchanged. -/
theorem carried (b : Ref sig .tc) (hb : b ∉ hostOps1_W)
    (hw : ∀ w : Fin cfg0.W, Pipeline.arrRef spec0 w = b → (cfg0.win w).isOut = false) : V3 m ρ c b = V1 m ρ c b :=
  (W3_of m ρ c b hb).trans (W2_of m ρ c b hw)

include hm in
theorem gain_read' (d : Fin 1024) : V3 m ρ c main_v10 (ix2 0 d) = ((g d : ℝ) : EReal) := by
  rw [← hm.gain, ← W2_args m ρ c main_arg1 (by decide)]
  show StableHlo.after hostOps1 (W2 m ρ c) (Proc.devRef .tc main_v10) _ = _
  entry_read
  pointwise []

include hm in
/-- The gate products as the second region reads them. -/
theorem gs_read (k : Fin 4) (r : Fin 4096) (j : Fin 704) :
    V3 m ρ c main_v9_1 (ix3 k r j) = ((proj A g (H r) k j : ℝ) : EReal) :=
  congrFun ((W3_of m ρ c main_v9_1 (by decide)).trans ((W2_arr m ρ c 6).trans
    (Forward.final6 (V1 m ρ) c A H g (h_read m ρ c A B C H O g hm) (gain_read m ρ c A B C H O g hm)
      (gate_read m ρ c A B C H O g hm)))) (ix3 k r j)

include hm in
/-- The up products as the second region reads them. -/
theorem us_read (k : Fin 4) (r : Fin 4096) (j : Fin 704) :
    V3 m ρ c main_v9_2 (ix3 k r j) = ((proj B g (H r) k j : ℝ) : EReal) :=
  congrFun ((W3_of m ρ c main_v9_2 (by decide)).trans ((W2_arr m ρ c 7).trans
    (Forward.final7 (V1 m ρ) c B H g (h_read m ρ c A B C H O g hm) (gain_read m ρ c A B C H O g hm)
      (up_read m ρ c A B C H O g hm)))) (ix3 k r j)

include hm in
/-- The block's result at the end. -/
theorem out_final : W4 m ρ c (Proc.devRef .tc main_v9_0)
    = fun i => ((Spec.out A B C g (H (i 0)) (i 1) : ℝ) : EReal) :=
  (W4_of m ρ c main_v9_0 (by decide +kernel)).trans ((W3_of m ρ c main_v9_0 (by decide)).trans ((W2_arr m ρ c 5).trans
    (Forward.final5 (V1 m ρ) c A B C H g (h_read m ρ c A B C H O g hm) (gain_read m ρ c A B C H O g hm)
      (gate_read m ρ c A B C H O g hm) (up_read m ρ c A B C H O g hm) (down_read m ρ c A B C H O g hm))))

include hm in
theorem cot_read (r : Fin 4096) (d : Fin 1024) : V3 m ρ c main_arg2 (ix2 r d) = ((O r d : ℝ) : EReal) := by
  rw [← hm.cot]; exact congrFun (W3_args m ρ c main_arg2 (by decide)) _

include hm in
theorem h_read' (r : Fin 4096) (d : Fin 1024) : V3 m ρ c main_arg0 (ix2 r d) = ((H r d : ℝ) : EReal) := by
  rw [← hm.rows]; exact congrFun (W3_args m ρ c main_arg0 (by decide)) _

include hm in
theorem gate_read' (k : Fin 4) (j : Fin 704) (d : Fin 1024) : V3 m ρ c main_v2 (ix3 k j d) = ((A k j d : ℝ) : EReal) :=
  (congrFun (carried m ρ c main_v2 (by decide) (by decide +kernel)) _).trans (gate_read m ρ c A B C H O g hm k j d)

include hm in
theorem up_read' (k : Fin 4) (j : Fin 704) (d : Fin 1024) : V3 m ρ c main_v5 (ix3 k j d) = ((B k j d : ℝ) : EReal) :=
  (congrFun (carried m ρ c main_v5 (by decide) (by decide +kernel)) _).trans (up_read m ρ c A B C H O g hm k j d)

include hm in
theorem down_read' (k : Fin 4) (j : Fin 704) (d : Fin 1024) : V3 m ρ c main_v7 (ix3 k j d) = ((C k j d : ℝ) : EReal) :=
  (congrFun (carried m ρ c main_v7 (by decide) (by decide +kernel)) _).trans (down_read m ρ c A B C H O g hm k j d)

include hm in
/-- The rows' cotangent at the end. -/
theorem dh_final : W4 m ρ c (Proc.devRef .tc main_v11_0)
    = fun i => ((dh A B C g (H (i 0)) (O (i 0)) (i 1) : ℝ) : EReal) :=
  (W4_arr m ρ c 8).trans (Back.final8 (V3 m ρ) c A B C H O g (h_read' m ρ c A B C H O g hm) (gain_read' m ρ c A B C H O g hm)
    (cot_read m ρ c A B C H O g hm) (gs_read m ρ c A B C H O g hm) (us_read m ρ c A B C H O g hm)
    (gate_read' m ρ c A B C H O g hm) (up_read' m ρ c A B C H O g hm) (down_read' m ρ c A B C H O g hm))

include hm in
/-- The gain's cotangent at the end. -/
theorem dgain_final : W4 m ρ c (Proc.devRef .tc main_v11_1)
    = fun i => ((dgain A B C g H O (i 1) : ℝ) : EReal) :=
  (W4_arr m ρ c 9).trans (Back.final9 (V3 m ρ) c A B C H O g (h_read' m ρ c A B C H O g hm) (gain_read' m ρ c A B C H O g hm)
    (cot_read m ρ c A B C H O g hm) (gs_read m ρ c A B C H O g hm) (us_read m ρ c A B C H O g hm)
    (gate_read' m ρ c A B C H O g hm) (up_read' m ρ c A B C H O g hm) (down_read' m ρ c A B C H O g hm))

end Cert.KernelIdeal.Whole
end
-- ==== Proof.RefRows.lean ====
/-
  The plain reference over the real numbers: its three results are the numbers of `Spec`, when the six arguments hold
  real numbers.
-/
module

public import proofs.«01_k».proof.Proof.Spec
public import proofs.«01_k».proof.Proof.Gen.ReferenceIdeal.Read

@[expose] public section

noncomputable section

namespace Cert.RefRows

open Cert.ReferenceIdeal Cert.ReferenceIdeal.Read Idealize.ShloMosaic Cert.Reals Cert.Spec

/-- The shard of a row among all 2816. -/
def sh (p : Fin 2816) : Fin 4 := ⟨p.val / 704, by omega⟩
/-- The row inside its shard. -/
def ro (p : Fin 2816) : Fin 704 := ⟨p.val % 704, by omega⟩

theorem at4_sh_ro (p : Fin 2816) : at4 (sh p) (ro p) = p := Fin.ext (by simp only [at4, sh, ro]; omega)
theorem sh_at4 (k : Fin 4) (j : Fin 704) : sh (at4 k j) = k := Fin.ext (by simp only [at4, sh]; omega)
theorem ro_at4 (k : Fin 4) (j : Fin 704) : ro (at4 k j) = j := Fin.ext (by simp only [at4, ro]; omega)

/-- A sum over all 2816 rows, shard by shard. -/
theorem sum_shards (f : Fin 4 → Fin 704 → ℝ) : ∑ p, f (sh p) (ro p) = ∑ k, ∑ j, f k j := by
  rw [Fin.sum_univ_tiles 4 704 rfl]
  refine Finset.sum_congr rfl fun k _ => Finset.sum_congr rfl fun j _ => ?_
  exact congrArg₂ f (sh_at4 k j) (ro_at4 k j)

/-- The root's inverse, squared, times the mean square is one. -/
theorem rms_sq (h : Row) : rms h * rms h * ((∑ d, h d * h d) / 1024 + eps) = 1 := by
  have hp := ms_pos h
  have hs := Real.mul_self_sqrt hp.le
  have hn : Real.sqrt ((∑ d, h d * h d) / 1024 + eps) ≠ 0 := (Real.sqrt_pos.mpr hp).ne'
  unfold rms
  generalize Real.sqrt ((∑ d, h d * h d) / 1024 + eps) = q at hs hn
  rw [← hs]
  field_simp

theorem rms_cube (h : Row) : rms h / ((∑ d, h d * h d) / 1024 + eps) = rms h * rms h * rms h := by
  rw [div_eq_iff (ms_pos h).ne']
  linear_combination (-rms h) * rms_sq h

variable {x0 x2 : (⟨S4096x1024, .f32⟩ : BufTy).Contents (Elt Ideal)} {x1 : (⟨S1024, .f32⟩ : BufTy).Contents (Elt Ideal)}
  {x3 x4 : (⟨S1024x2816, .f32⟩ : BufTy).Contents (Elt Ideal)} {x5 : (⟨S2816x1024, .f32⟩ : BufTy).Contents (Elt Ideal)}
  {A B C : Wt} {H O : Fin 4096 → Row} {g : Row}
  (hm : Holds A B C g x0 x1 x2 x3 x4 x5 H O)

include hm

theorem at_row (i : S4096x1024.Idx) : x0 i = ((H (i 0) (i 1) : ℝ) : EReal) := by
  refine Eq.trans (congrArg x0 (funext fun a => ?_)) (hm.rows (i 0) (i 1))
  match a with
  | ⟨0, _⟩ => rfl
  | ⟨1, _⟩ => rfl
theorem at_cot (i : S4096x1024.Idx) : x2 i = ((O (i 0) (i 1) : ℝ) : EReal) := by
  refine Eq.trans (congrArg x2 (funext fun a => ?_)) (hm.cot (i 0) (i 1))
  match a with
  | ⟨0, _⟩ => rfl
  | ⟨1, _⟩ => rfl
theorem at_gain (i : S1024.Idx) : x1 i = ((g (i 0) : ℝ) : EReal) := by
  refine Eq.trans (congrArg x1 (funext fun a => ?_)) (hm.gain (i 0))
  match a with
  | ⟨0, _⟩ => rfl
theorem at_gate (i : S1024x2816.Idx) : x3 i = ((A (sh (i 1)) (ro (i 1)) (i 0) : ℝ) : EReal) := by
  refine Eq.trans (congrArg x3 (funext fun a => ?_)) (hm.gate (sh (i 1)) (ro (i 1)) (i 0))
  match a with
  | ⟨0, _⟩ => rfl
  | ⟨1, _⟩ => exact (at4_sh_ro (i 1)).symm
theorem at_up (i : S1024x2816.Idx) : x4 i = ((B (sh (i 1)) (ro (i 1)) (i 0) : ℝ) : EReal) := by
  refine Eq.trans (congrArg x4 (funext fun a => ?_)) (hm.up (sh (i 1)) (ro (i 1)) (i 0))
  match a with
  | ⟨0, _⟩ => rfl
  | ⟨1, _⟩ => exact (at4_sh_ro (i 1)).symm
theorem at_down (i : S2816x1024.Idx) : x5 i = ((C (sh (i 0)) (ro (i 0)) (i 1) : ℝ) : EReal) := by
  refine Eq.trans (congrArg x5 (funext fun a => ?_)) (hm.down (sh (i 0)) (ro (i 0)) (i 1))
  match a with
  | ⟨0, _⟩ => exact (at4_sh_ro (i 0)).symm
  | ⟨1, _⟩ => rfl

theorem at_ms (i : S4096x1.Idx) :
    val_main_v6 (F := Ideal) x0 i = (((∑ d, H (i 0) d * H (i 0) d) / 1024 + eps : ℝ) : EReal) := by
  rw [val_main_v6_apply, val_main_v4_apply, val_main_v2_apply, val_main_v1_apply, val_main_v3_apply, val_main_cst_0_apply,
    val_main_v5_apply, val_main_cst_1_apply, val_main_cst_apply]
  simp only [val_main_v0_apply, at_row hm, Ideal.addf_def, Ideal.mulf_def, Ideal.hostDivf_def, Ideal.ofBits_def,
    Ideal.ofBits_zero_f32, zero_add, ofBits_1024, ofBits_eps, ← EReal.coe_mul, sum_coe]
  rw [div_coe_coe _ (by norm_num : (1024 : ℝ) ≠ 0), ← EReal.coe_add]
  rfl

theorem at_rms (i : S4096x1.Idx) : val_main_v7 (F := Ideal) x0 i = ((rms (H (i 0)) : ℝ) : EReal) := by
  rw [val_main_v7_apply, at_ms hm]
  exact rsqrt_coe (ms_pos _)

theorem at_xh (i : S4096x1024.Idx) : val_main_v12 (F := Ideal) x0 i = ((xh (H (i 0)) (i 1) : ℝ) : EReal) := by
  rw [val_main_v12_apply, val_main_v11_apply, at_rms hm, at_row hm]
  rfl

theorem at_xn (i : S4096x1024.Idx) : val_main_v15 (F := Ideal) x0 x1 i = ((xn g (H (i 0)) (i 1) : ℝ) : EReal) := by
  rw [val_main_v15_apply, val_main_v14_apply, val_main_v13_apply, at_xh hm, at_gain hm, Ideal.mulf_def, ← EReal.coe_mul]
  rfl

theorem at_gate_product (i : S4096x2816.Idx) :
    val_main_v16 (F := Ideal) x0 x1 x3 i = ((proj A g (H (i 0)) (sh (i 1)) (ro (i 1)) : ℝ) : EReal) := by
  rw [val_main_v16_apply]
  simp only [at_xn hm, at_gate hm, ← EReal.coe_mul, sum_coe]
  rfl

theorem at_up_product (i : S4096x2816.Idx) :
    val_main_v18 (F := Ideal) x0 x1 x4 i = ((proj B g (H (i 0)) (sh (i 1)) (ro (i 1)) : ℝ) : EReal) := by
  rw [val_main_v18_apply]
  simp only [at_xn hm, at_up hm, ← EReal.coe_mul, sum_coe]
  rfl

theorem at_sig (i : S4096x2816.Idx) :
    val_main_v17_2 (F := Ideal) x0 x1 x3 i = ((sig (proj A g (H (i 0)) (sh (i 1)) (ro (i 1))) : ℝ) : EReal) := by
  rw [val_main_v17_2_apply, val_main_call0_v4_apply, val_main_call0_cst_0_apply, val_main_call0_v3_apply,
    val_main_call0_v2_apply, val_main_call0_cst_apply, val_main_call0_v1_apply, val_main_call0_v0_apply, at_gate_product hm]
  simp only [Ideal.addf_def, Ideal.hostDivf_def, Ideal.ofBits_def, ofBits_one]
  rw [← logistic_coe, EReal.coe_one]
  rfl

theorem at_act (i : S4096x2816.Idx) :
    val_main_v19 (F := Ideal) x0 x1 x3 x4 i = ((act A B g (H (i 0)) (sh (i 1)) (ro (i 1)) : ℝ) : EReal) := by
  rw [val_main_v19_apply, val_main_v17_0_apply, at_sig hm, at_gate_product hm, at_up_product hm]
  simp only [Ideal.mulf_def, ← EReal.coe_mul]
  rfl

/-- The reference's first result. -/
theorem at_out (i : S4096x1024.Idx) :
    val_main_v23 (F := Ideal) x0 x1 x3 x4 x5 i = ((out A B C g (H (i 0)) (i 1) : ℝ) : EReal) := by
  rw [val_main_v23_apply, val_main_v22_apply, val_main_v21_apply, val_main_cst_3_apply, val_main_v20_apply, at_row hm]
  simp only [at_act hm, at_down hm, Ideal.addf_def, Ideal.mulf_def, Ideal.ofBits_def, ofBits_half, ← EReal.coe_mul, sum_coe,
    ← EReal.coe_add]
  refine congrArg Real.toEReal (congrArg (fun s => H (i 0) (i 1) + 1 / 2 * s) ?_)
  exact sum_shards fun k j => act A B g (H (i 0)) k j * C k j (i 1)

theorem at_da (i : S4096x2816.Idx) :
    val_main_v27 (F := Ideal) x2 x5 i = ((da C (O (i 0)) (sh (i 1)) (ro (i 1)) : ℝ) : EReal) := by
  rw [val_main_v27_apply]
  simp only [val_main_v26_apply, val_main_v25_apply, val_main_cst_4_apply, val_main_v24_apply, at_cot hm, at_down hm,
    Ideal.mulf_def, Ideal.ofBits_def, ofBits_half, ← EReal.coe_mul, sum_coe]
  refine congrArg Real.toEReal (Finset.sum_congr rfl fun d _ => ?_)
  refine congrArg₂ (fun r e => 1 / 2 * O r e * C (sh (i 1)) (ro (i 1)) d) (Fin.ext ?_) (Fin.ext ?_)
  · have := d.isLt; show ((i 0).val * 1024 + d.val) / 1024 = (i 0).val; omega
  · have := d.isLt; show ((i 0).val * 1024 + d.val) % 1024 = d.val; omega

theorem at_du (i : S4096x2816.Idx) :
    val_main_v28 (F := Ideal) x0 x1 x2 x3 x5 i = ((du A C g (H (i 0)) (O (i 0)) (sh (i 1)) (ro (i 1)) : ℝ) : EReal) := by
  rw [val_main_v28_apply, val_main_v17_0_apply, at_sig hm, at_gate_product hm, at_da hm]
  simp only [Ideal.mulf_def, ← EReal.coe_mul]
  exact congrArg Real.toEReal (mul_comm _ _)

theorem at_dg (i : S4096x2816.Idx) :
    val_main_v31 (F := Ideal) x0 x1 x2 x3 x4 x5 i
      = ((dg A B C g (H (i 0)) (O (i 0)) (sh (i 1)) (ro (i 1)) : ℝ) : EReal) := by
  rw [val_main_v31_apply, val_main_call1_v2_apply, val_main_call1_v1_apply, val_main_call1_v0_apply, val_main_v29_apply,
    val_main_v17_1_apply, val_main_call0_v7_apply, val_main_call0_v6_apply, val_main_call0_cst_1_apply, at_sig hm,
    at_gate_product hm, at_up_product hm, at_da hm]
  simp only [Ideal.addf_def, Ideal.subf_def, Ideal.mulf_def, Ideal.ofBits_def, ofBits_one, ← EReal.coe_mul, ← EReal.coe_sub,
    ← EReal.coe_add]
  refine congrArg Real.toEReal ?_
  unfold dg
  ring

theorem at_dxn (i : S4096x1024.Idx) :
    val_main_v33 (F := Ideal) x0 x1 x2 x3 x4 x5 i = ((dxn A B C g (H (i 0)) (O (i 0)) (i 1) : ℝ) : EReal) := by
  rw [val_main_v33_apply, val_main_v30_apply, val_main_v32_apply]
  simp only [at_du hm, at_dg hm, at_gate hm, at_up hm, Ideal.addf_def, ← EReal.coe_mul, sum_coe, ← EReal.coe_add]
  refine congrArg Real.toEReal ?_
  refine (add_comm _ _).trans (Eq.trans ?_ Finset.sum_add_distrib.symm)
  exact congrArg₂ (· + ·) (sum_shards fun k j => dg A B C g (H (i 0)) (O (i 0)) k j * A k j (i 1))
    (sum_shards fun k j => du A C g (H (i 0)) (O (i 0)) k j * B k j (i 1))

/-- The reference's third result. -/
theorem at_dgain (i : S1x1024.Idx) :
    val_main_v55 (F := Ideal) x0 x1 x2 x3 x4 x5 i = ((dgain A B C g H O (i 1) : ℝ) : EReal) := by
  rw [val_main_v55_apply, val_main_v39_apply, Fin.sum_univ_one, val_main_v36_apply, val_main_v35_apply, val_main_cst_5_apply,
    val_main_cst_6_apply]
  simp only [val_main_v34_apply, at_xh hm, at_dxn hm, Ideal.mulf_def, Ideal.ofBits_def, Ideal.ofBits_zero_f32, zero_add,
    ← EReal.coe_mul, sum_coe]
  have hc : (idx_main_v36 (idx_main_v39 (idx_main_v55 i) 0) 0 : Fin 1024) = i 1 := Fin.ext (by
    show 0 * 1024 + (i 1).val = (i 1).val; omega)
  refine congrArg Real.toEReal (Finset.sum_congr rfl fun r _ => Eq.trans ?_
    (mul_comm (xh (H r) (i 1)) (dxn A B C g (H r) (O r) (i 1))))
  exact congrArg (fun d => xh (H r) d * dxn A B C g (H r) (O r) d) hc

theorem at_dy (i : S4096x1024.Idx) :
    val_main_v38 (F := Ideal) x0 x1 x2 x3 x4 x5 i = ((dxn A B C g (H (i 0)) (O (i 0)) (i 1) * g (i 1) : ℝ) : EReal) := by
  rw [val_main_v38_apply, val_main_v37_apply, val_main_v13_apply, at_dxn hm, at_gain hm, Ideal.mulf_def, ← EReal.coe_mul]
  rfl

theorem at_mean (i : S4096.Idx) :
    val_main_v49 (F := Ideal) x0 x1 x2 x3 x4 x5 i
      = (((∑ e, H (i 0) e * (dxn A B C g (H (i 0)) (O (i 0)) e * g e))
          * (-(1 / 2) * (rms (H (i 0)) * rms (H (i 0)) * rms (H (i 0)))) / 1024 : ℝ) : EReal) := by
  rw [val_main_v49_apply, Fin.sum_univ_one, val_main_cst_9_apply, val_main_v48_apply, val_main_v47_apply, val_main_cst_8_apply,
    val_main_v46_apply, val_main_v42_apply, val_main_v41_apply, val_main_cst_7_apply, val_main_v10_apply, val_main_v9_apply,
    val_main_cst_2_apply, val_main_v8_apply, at_rms hm, at_ms hm]
  simp only [val_main_v40_apply, at_row hm, at_dy hm, Ideal.mulf_def, Ideal.ofBits_def, Ideal.ofBits_zero_f32, zero_add,
    Ideal.hostDivf_def, ofBits_1024, ofBits_neg_half, ← EReal.coe_mul, sum_coe]
  rw [div_coe_coe _ (ms_pos _).ne', rms_cube]
  simp only [← EReal.coe_neg, ← EReal.coe_mul]
  rw [div_coe_coe _ (by norm_num : (1024 : ℝ) ≠ 0)]
  have hc : (idx_main_v42 (idx_main_v49 i 0) 0 : Fin 4096) = i 0 := Fin.ext (by
    show (i 0).val * 1 + 0 = (i 0).val; omega)
  exact congrArg (fun r => (((∑ e, H r e * (dxn A B C g (H r) (O r) e * g e))
    * (-(1 / 2) * (rms (H (i 0)) * rms (H (i 0)) * rms (H (i 0)))) / 1024 : ℝ) : EReal)) hc

/-- The reference's second result. -/
theorem at_dh (i : S4096x1024.Idx) :
    val_main_v54 (F := Ideal) x0 x1 x2 x3 x4 x5 i = ((dh A B C g (H (i 0)) (O (i 0)) (i 1) : ℝ) : EReal) := by
  rw [val_main_v54_apply, val_main_v53_apply, val_main_v52_apply, val_main_v51_apply, val_main_v50_apply, val_main_v45_apply,
    val_main_v44_apply, val_main_v43_apply, at_mean hm, at_row hm, at_cot hm, at_dy hm, at_rms hm]
  simp only [Ideal.mulf_def, Ideal.addf_def, ← EReal.coe_mul, ← EReal.coe_add]
  refine congrArg Real.toEReal ?_
  have hs : ∑ e, dxn A B C g (H (i 0)) (O (i 0)) e * g e * xh (H (i 0)) e
      = rms (H (i 0)) * ∑ e, H (i 0) e * (dxn A B C g (H (i 0)) (O (i 0)) e * g e) := by
    rw [Finset.mul_sum]
    exact Finset.sum_congr rfl fun e _ => by unfold xh; ring
  unfold dh
  rw [hs]
  unfold xh
  show O (i 0) (i 1) + dxn A B C g (H (i 0)) (O (i 0)) (i 1) * g (i 1) * rms (H (i 0))
      + H (i 0) (i 1) * ((∑ e, H (i 0) e * (dxn A B C g (H (i 0)) (O (i 0)) e * g e))
        * (-(1 / 2) * (rms (H (i 0)) * rms (H (i 0)) * rms (H (i 0)))) / 1024)
      + (∑ e, H (i 0) e * (dxn A B C g (H (i 0)) (O (i 0)) e * g e))
        * (-(1 / 2) * (rms (H (i 0)) * rms (H (i 0)) * rms (H (i 0)))) / 1024 * H (i 0) (i 1) = _
  generalize (∑ e, H (i 0) e * (dxn A B C g (H (i 0)) (O (i 0)) e * g e)) = s
  ring

end Cert.RefRows

end
-- ==== Proof.Algebra.lean ====
/-
  The feed-forward block's forward pass and row gradient: for finite arguments the kernel's program and the plain
  reference end with the same three results.
-/
module

public import proofs.«01_k».proof.Defs
public import proofs.«01_k».proof.Proof.Gen.Pre_finite
public import proofs.«01_k».proof.Proof.Gen.ReferenceIdeal.Run
public import proofs.«01_k».proof.Proof.Whole
public import proofs.«01_k».proof.Proof.RefRows

@[expose] public section

noncomputable section

namespace Cert.Algebra

open Idealize.ShloMosaic Idealize.SL.Sem Cert.Reals Cert.Spec

/-- Where the precondition's mask is one, the array holds a real number. -/
theorem real_of_mask {s : Shape} (x : FVec Ideal s .f32) (h : (⟨0, ![]⟩ : Shape).BroadcastsInDim s (![] : Fin 0 → Fin s.rank))
    (hx : cmpf .olt (Host.absf x) (broadcastInDim s ![] h (constant (F := Ideal) ⟨0, ![]⟩ .f32 0x7F800000#32)) = fun _ => 1#1)
    (i : s.Idx) : x i = (((x i).toReal : ℝ) : EReal) := by
  have hi : Ideal.cmp .olt (max (x i) (-(x i)))
      (broadcastInDim s ![] h (constant (F := Ideal) ⟨0, ![]⟩ .f32 0x7F800000#32) i) = 1#1 := congrFun hx i
  rw [broadcastInDim_apply _ h _ i (fun a => a.elim0) (fun a => a.elim0)] at hi
  exact real_of_abs_lt ((congrArg (Ideal.cmp .olt _) ofBits_top.symm).trans hi)

section
variable [Cert.Pre_finite.Facts]
  {x0 : Vec Ideal ⟨2, ![4096, 1024]⟩ .f32} {x1 : Vec Ideal ⟨1, ![1024]⟩ .f32} {x2 : Vec Ideal ⟨2, ![4096, 1024]⟩ .f32}
  {x3 x4 : Vec Ideal ⟨2, ![1024, 2816]⟩ .f32} {x5 : Vec Ideal ⟨2, ![2816, 1024]⟩ .f32}

/-- Finite arguments hold the real numbers they are. -/
theorem holds_of_finite (h0 : (Cert.Pre_finite.fn (F := Ideal) x0 x1 x2 x3 x4 x5).1 = fun _ => 1#1)
    (h1 : (Cert.Pre_finite.fn (F := Ideal) x0 x1 x2 x3 x4 x5).2.1 = fun _ => 1#1)
    (h2 : (Cert.Pre_finite.fn (F := Ideal) x0 x1 x2 x3 x4 x5).2.2.1 = fun _ => 1#1)
    (h3 : (Cert.Pre_finite.fn (F := Ideal) x0 x1 x2 x3 x4 x5).2.2.2.1 = fun _ => 1#1)
    (h4 : (Cert.Pre_finite.fn (F := Ideal) x0 x1 x2 x3 x4 x5).2.2.2.2.1 = fun _ => 1#1)
    (h5 : (Cert.Pre_finite.fn (F := Ideal) x0 x1 x2 x3 x4 x5).2.2.2.2.2 = fun _ => 1#1) :
    ∃ (A B C : Wt) (g : Row) (H O : Fin 4096 → Row), Holds A B C g x0 x1 x2 x3 x4 x5 H O :=
  ⟨fun k j d => (x3 (ix2 d (at4 k j))).toReal, fun k j d => (x4 (ix2 d (at4 k j))).toReal,
    fun k j d => (x5 (ix2 (at4 k j) d)).toReal, fun d => (x1 (ix1 d)).toReal,
    fun r d => (x0 (ix2 r d)).toReal, fun r d => (x2 (ix2 r d)).toReal,
    { rows := fun _ _ => real_of_mask x0 _ h0 _
      gain := fun _ => real_of_mask x1 _ h1 _
      cot := fun _ _ => real_of_mask x2 _ h2 _
      gate := fun _ _ _ => real_of_mask x3 _ h3 _
      up := fun _ _ _ => real_of_mask x4 _ h4 _
      down := fun _ _ _ => real_of_mask x5 _ h5 _ }⟩

end

open Cert.KernelIdeal.Gen in
theorem algebraic : Cert.algebraic_KernelIdeal_ReferenceIdeal_pre_finite := by
  intro m ρ m' ρ' hp hag
  choose A B C g H O hk using fun c =>
    holds_of_finite (hp c).1 (hp c).2.1 (hp c).2.2.1 (hp c).2.2.2.1 (hp c).2.2.2.2.1 (hp c).2.2.2.2.2
  have hr := fun c : Dev Cert.KernelIdeal.nD => by
    have := hk c
    rw [← (hag c).1, ← (hag c).2.1, ← (hag c).2.2.1, ← (hag c).2.2.2.1, ← (hag c).2.2.2.2.1, ← (hag c).2.2.2.2.2] at this
    exact this
  refine ⟨fun c => W4 m ρ c (Proc.devRef .tc Cert.KernelIdeal.main_v9_0), fun c => W4 m ρ c (Proc.devRef .tc Cert.KernelIdeal.main_v11_0),
    fun c => W4 m ρ c (Proc.devRef .tc Cert.KernelIdeal.main_v11_1),
    (θ_run _ _ _).mono (fun r h c => ⟨h c _ (by decide), h c _ (by decide), h c _ (by decide),
      (h c _ (by decide)).trans (W4_main_arg0 m ρ c), (h c _ (by decide)).trans (W4_main_arg1 m ρ c),
      (h c _ (by decide)).trans (W4_main_arg2 m ρ c), (h c _ (by decide)).trans (W4_main_arg3 m ρ c),
      (h c _ (by decide)).trans (W4_main_arg4 m ρ c), (h c _ (by decide)).trans (W4_main_arg5 m ρ c)⟩)
      (Cert.KernelIdeal.Whole.run_all m ρ),
    (θ_run _ _ _).mono (fun r h c => ⟨(h c).1.trans ?_, (h c).2.1.trans ?_, (h c).2.2.1.trans ?_, (h c).2.2.2⟩)
      (Cert.ReferenceIdeal.Value.run m' ρ')⟩
  · refine (Cert.ReferenceIdeal.Read.val_main_v23_eq _ _ _ _ _).trans ?_
    refine Eq.trans (funext fun i => RefRows.at_out (hr c) i) (Cert.KernelIdeal.Whole.out_final m ρ c (A c) (B c) (C c) (H c) (O c) (g c) (hk c)).symm
  · refine (Cert.ReferenceIdeal.Read.val_main_v54_eq m' c).trans ?_
    refine Eq.trans (funext fun i => RefRows.at_dh (hr c) i) (Cert.KernelIdeal.Whole.dh_final m ρ c (A c) (B c) (C c) (H c) (O c) (g c) (hk c)).symm
  · refine (Cert.ReferenceIdeal.Read.val_main_v55_eq m' c).trans ?_
    refine Eq.trans (funext fun i => RefRows.at_dgain (hr c) i) (Cert.KernelIdeal.Whole.dgain_final m ρ c (A c) (B c) (C c) (H c) (O c) (g c) (hk c)).symm

end Cert.Algebra

end
-- ==== Proof.WeightRows.lean ====
/-
  The weights' gradient, shard by shard: each output slab is a product summed over all rows, which the region adds up
  over four blocks of 1024 rows in its scratch buffers and writes back after the last.
-/
module

public import proofs.«01_k».proof.Proof.Gen.KernelWIdeal.Value
public import Idealize.ShloMosaic.Lib.Pipeline.ValueKit
public import Idealize.ShloMosaic.Lib.Pipeline.ReadBack

@[expose] public section

set_option maxRecDepth 16384

noncomputable section

namespace Cert.KernelWIdeal.Weights

open Cert.KernelWIdeal Cert.KernelWIdeal.Gen Idealize.ShloMosaic

/-- A block's part of a weight gradient: the product of the block's cotangents with the block's rows. -/
def part (x : Vec Ideal S1024x1024 .bf16) (y : Vec Ideal S1x1024x704 .bf16) (i : S704x1024.Idx) : EReal :=
  ∑ r : Fin 1024, y (ix3 0 r (i 0)) * x (ix2 r (i 1))

/-- A block's part of the down weight's gradient: the product of the block's activations with the block's cotangents. -/
def partDown (x : Vec Ideal S1024x1024 .bf16) (a b : Vec Ideal S1x1024x704 .bf16) (i : S704x1024.Idx) : EReal :=
  ∑ r : Fin 1024, a (ix3 0 r (i 0)) * Ideal.logistic (a (ix3 0 r (i 0))) * b (ix3 0 r (i 0)) * x (ix2 r (i 1))

theorem gate_pay (x : Vec Ideal S1024x1024 .bf16) (z : Vec Ideal S704x1024 .f32) (y : Vec Ideal S1x1024x704 .bf16)
    (i : S704x1024.Idx) : k0_pay9 x z y i = z i + part x y i := by
  idx_vars i
  pointwise [k0_pay9, k0_pay8, part]
  try rfl

theorem up_pay (x : Vec Ideal S1024x1024 .bf16) (z : Vec Ideal S704x1024 .f32) (y : Vec Ideal S1x1024x704 .bf16)
    (i : S704x1024.Idx) : k0_pay10 x z y i = z i + part x y i := by
  idx_vars i
  pointwise [k0_pay10, k0_pay8, part]
  try rfl

theorem down_pay (x : Vec Ideal S1024x1024 .bf16) (z : Vec Ideal S704x1024 .f32) (a b : Vec Ideal S1x1024x704 .bf16)
    (i : S704x1024.Idx) : k0_pay1 (k0_pay11 a) (k0_pay12 b) z x i = z i + partDown x a b i := by
  idx_vars i
  pointwise [k0_pay1, k0_pay11, k0_pay12, partDown]
  try rfl

theorem zero_gate (i : S704x1024.Idx) : k0_pay5 (F := Ideal) i = 0 := by pointwise [k0_pay5]
theorem zero_up (i : S704x1024.Idx) : k0_pay6 (F := Ideal) i = 0 := by pointwise [k0_pay6]
theorem zero_down (i : S704x1024.Idx) : k0_pay7 (F := Ideal) i = 0 := by pointwise [k0_pay7]

variable (m : (ℓ : Loc nD τ sig) → Buf (Elt Ideal) ℓ) (c : Dev nD)

/-- The three scratch buffers after the first block of a shard. -/
theorem first (t : Fin cfg0.N) (h : t.val % 4 = 0) :
    (outsAt0 m c t.val t.isLt).2.2.2 = (k0_pay9 (iblk m c 0 t) (k0_pay5 (F := Ideal)) (iblk m c 4 t),
      k0_pay10 (iblk m c 0 t) (k0_pay6 (F := Ideal)) (iblk m c 5 t),
      k0_pay1 (k0_pay11 (iblk m c 2 t)) (k0_pay12 (iblk m c 3 t)) (k0_pay7 (F := Ideal)) (iblk m c 1 t)) := by
  rw [outsAt0_A m c t h (by omega)]
  frame_out

/-- The three scratch buffers after a later block. -/
theorem next (t : Fin cfg0.N) (h : ¬ t.val % 4 = 0) :
    (outsAt0 m c t.val t.isLt).2.2.2
      = (k0_pay9 (iblk m c 0 t) (outsAt0 m c (t.val - 1) (Nat.lt_of_le_of_lt (Nat.sub_le _ _) t.isLt)).2.2.2.1 (iblk m c 4 t),
      k0_pay10 (iblk m c 0 t) (outsAt0 m c (t.val - 1) (Nat.lt_of_le_of_lt (Nat.sub_le _ _) t.isLt)).2.2.2.2.1 (iblk m c 5 t),
      k0_pay1 (k0_pay11 (iblk m c 2 t)) (k0_pay12 (iblk m c 3 t))
        (outsAt0 m c (t.val - 1) (Nat.lt_of_le_of_lt (Nat.sub_le _ _) t.isLt)).2.2.2.2.2 (iblk m c 1 t)) := by
  by_cases h1 : t.val % 4 = 3
  · rw [outsAt0_C m c t h h1]
    frame_out
    rw [read_unread_whole, read_unread_whole, read_unread_whole]
  · rw [outsAt0_B m c t h h1]
    frame_out
    rw [read_unread_whole, read_unread_whole, read_unread_whole]

/-- The three output blocks after the last block of a shard: the scratch buffers. -/
theorem last (t : Fin cfg0.N) (h1 : t.val % 4 = 3) :
    ((outsAt0 m c t.val t.isLt).1, (outsAt0 m c t.val t.isLt).2.1, (outsAt0 m c t.val t.isLt).2.2.1)
      = (k0_pay2 (outsAt0 m c t.val t.isLt).2.2.2.1, k0_pay3 (outsAt0 m c t.val t.isLt).2.2.2.2.1,
        k0_pay4 (outsAt0 m c t.val t.isLt).2.2.2.2.2) := by
  rw [outsAt0_C m c t (by omega) h1]
  frame_out

/-- Where each window's block lies at a grid point. -/
theorem idx : ∀ t : Fin cfg0.N, win0_0.index t = ![t.val % 4, 0] ∧ win0_1.index t = ![t.val % 4, 0] ∧
    win0_2.index t = ![t.val / 4, t.val % 4, 0] ∧ win0_3.index t = ![t.val / 4, t.val % 4, 0] ∧
    win0_4.index t = ![t.val / 4, t.val % 4, 0] ∧ win0_5.index t = ![t.val / 4, t.val % 4, 0] ∧
    win0_6.index t = ![t.val / 4, 0, 0] ∧ win0_7.index t = ![t.val / 4, 0, 0] ∧ win0_8.index t = ![t.val / 4, 0, 0] :=
  (by decide +kernel : ∀ t : Fin grid0.N, _)

variable (xn hd : Fin 4096 → Fin 1024 → EReal) (gt up dg du : Fin 4 → Fin 4096 → Fin 704 → EReal)
  (v0 : ∀ r d, V m c main_v24 (ix2 r d) = xn r d) (v1 : ∀ r d, V m c main_v25 (ix2 r d) = hd r d)
  (v2 : ∀ k r j, V m c main_v28 (ix3 k r j) = gt k r j) (v3 : ∀ k r j, V m c main_v31 (ix3 k r j) = up k r j)
  (v4 : ∀ k r j, V m c main_v34 (ix3 k r j) = dg k r j) (v5 : ∀ k r j, V m c main_v37 (ix3 k r j) = du k r j)

theorem point_lt (t : Fin cfg0.N) : t.val < 16 := lt_of_lt_of_eq t.isLt N_0

/-- Row `r` of the block that a grid point reads. -/
def rowAt (t : Fin cfg0.N) (r : Fin 1024) : Fin 4096 := ⟨t.val % 4 * 1024 + r.val, by omega⟩
/-- The shard of a grid point. -/
def shardAt (t : Fin cfg0.N) : Fin 4 := ⟨t.val / 4, by have := point_lt t; omega⟩

include v0 in
theorem blk0 (t : Fin cfg0.N) (r : Fin 1024) (d : Fin 1024) : iblk m c 0 t (ix2 r d) = xn (rowAt t r) d := by
  rw [← v0]
  blk_ext [iblk, rowAt, idx t]
include v1 in
theorem blk1 (t : Fin cfg0.N) (r : Fin 1024) (d : Fin 1024) : iblk m c 1 t (ix2 r d) = hd (rowAt t r) d := by
  rw [← v1]
  blk_ext [iblk, rowAt, idx t]
include v2 in
theorem blk2 (t : Fin cfg0.N) (r : Fin 1024) (j : Fin 704) : iblk m c 2 t (ix3 0 r j) = gt (shardAt t) (rowAt t r) j := by
  rw [← v2]
  blk_ext [iblk, rowAt, shardAt, idx t]
include v3 in
theorem blk3 (t : Fin cfg0.N) (r : Fin 1024) (j : Fin 704) : iblk m c 3 t (ix3 0 r j) = up (shardAt t) (rowAt t r) j := by
  rw [← v3]
  blk_ext [iblk, rowAt, shardAt, idx t]
include v4 in
theorem blk4 (t : Fin cfg0.N) (r : Fin 1024) (j : Fin 704) : iblk m c 4 t (ix3 0 r j) = dg (shardAt t) (rowAt t r) j := by
  rw [← v4]
  blk_ext [iblk, rowAt, shardAt, idx t]
include v5 in
theorem blk5 (t : Fin cfg0.N) (r : Fin 1024) (j : Fin 704) : iblk m c 5 t (ix3 0 r j) = du (shardAt t) (rowAt t r) j := by
  rw [← v5]
  blk_ext [iblk, rowAt, shardAt, idx t]

/-- A gate or up weight's gradient at a shard, a hidden column and a model column. -/
def slab (y : Fin 4 → Fin 4096 → Fin 704 → EReal) (x : Fin 4096 → Fin 1024 → EReal) (k : Fin 4) (j : Fin 704) (d : Fin 1024) : EReal :=
  ∑ r, y k r j * x r d

/-- The activation of a gate and an up projection. -/
def act (a b : Fin 4 → Fin 4096 → Fin 704 → EReal) (k : Fin 4) (r : Fin 4096) (j : Fin 704) : EReal :=
  a k r j * Ideal.logistic (a k r j) * b k r j

/-- An array at the shard and row that the block `p` of a point's shard reads. -/
theorem shard_row (y : Fin 4 → Fin 4096 → Fin 704 → EReal) (t : Fin cfg0.N) (p : Fin 4) (q : 4 * (t.val / 4) + p.val < cfg0.N)
    (r : Fin 1024) (h : p.val * 1024 + r.val < 4096) (j : Fin 704) :
    y (shardAt ⟨4 * (t.val / 4) + p.val, q⟩) (rowAt ⟨4 * (t.val / 4) + p.val, q⟩ r) j = y (shardAt t) ⟨p.val * 1024 + r.val, h⟩ j := by
  have e : (4 * (t.val / 4) + p.val) / 4 = t.val / 4 := by omega
  have f : (4 * (t.val / 4) + p.val) % 4 = p.val := by omega
  simp only [shardAt, rowAt, e, f]

/-- An array at the row that the block `p` of a point's shard reads. -/
theorem row (x : Fin 4096 → Fin 1024 → EReal) (t : Fin cfg0.N) (p : Fin 4) (q : 4 * (t.val / 4) + p.val < cfg0.N)
    (r : Fin 1024) (h : p.val * 1024 + r.val < 4096) (d : Fin 1024) :
    x (rowAt ⟨4 * (t.val / 4) + p.val, q⟩ r) d = x ⟨p.val * 1024 + r.val, h⟩ d := by
  have f : (4 * (t.val / 4) + p.val) % 4 = p.val := by omega
  simp only [rowAt, f]

include v0 v4 in
/-- The gate weight's gradient after the region. -/
theorem final6 : (dats m 0 c).arrAt 6 cfg0.N = fun i => slab dg xn (i 0) (i 1) (i 2) := by
  refine (dats m 0 c).arrAt_eq_of_covers 6 _ (by decide +kernel) fun t hf y => ?_
  have ht := (flush0_6 t).mp hf
  idx_vars y
  blk_simp
  rw [after0_6, congrArg Prod.fst (last m c t ht)]
  pointwise [k0_pay2]
  rw [Pipeline.eq_sum_fin_of_reset_step_apply_of_flush (fun n h => (outsAt0 m c n h).2.2.2.1) 4 (fun _ => 0)
    (fun t i => part (iblk m c 0 t) (iblk m c 4 t) i)
    (fun t h i => (congrFun (congrArg Prod.fst (first m c t h)) i).trans ((gate_pay _ _ _ i).trans (congrArg (· + _) (zero_gate i))))
    (fun t h i => (congrFun (congrArg Prod.fst (next m c t h)) i).trans (gate_pay _ _ _ i)) t ht, zero_add]
  exact Eq.trans (b := slab dg xn (shardAt t) y1 y2)
    (Fin.sum_mul_add_congr fun p r h => congr (congrArg HMul.hMul ((blk4 m c dg v4 _ r y1).trans (shard_row dg t p _ r h y1)))
      ((blk0 m c xn v0 _ r y2).trans (row xn t p _ r h y2)))
    (congr (congr (congrArg (slab dg xn) (Fin.ext (by blk_simp [idx t, shardAt]))) (Fin.ext (by blk_simp [idx t])))
      (Fin.ext (by blk_simp [idx t])))

include v0 v5 in
/-- The up weight's gradient after the region. -/
theorem final7 : (dats m 0 c).arrAt 7 cfg0.N = fun i => slab du xn (i 0) (i 1) (i 2) := by
  refine (dats m 0 c).arrAt_eq_of_covers 7 _ (by decide +kernel) fun t hf y => ?_
  have ht := (flush0_7 t).mp hf
  idx_vars y
  blk_simp
  rw [after0_7, congrArg (·.2.1) (last m c t ht)]
  pointwise [k0_pay3]
  rw [Pipeline.eq_sum_fin_of_reset_step_apply_of_flush (fun n h => (outsAt0 m c n h).2.2.2.2.1) 4 (fun _ => 0)
    (fun t i => part (iblk m c 0 t) (iblk m c 5 t) i)
    (fun t h i => (congrFun (congrArg (·.2.1) (first m c t h)) i).trans ((up_pay _ _ _ i).trans (congrArg (· + _) (zero_up i))))
    (fun t h i => (congrFun (congrArg (·.2.1) (next m c t h)) i).trans (up_pay _ _ _ i)) t ht, zero_add]
  exact Eq.trans (b := slab du xn (shardAt t) y1 y2)
    (Fin.sum_mul_add_congr fun p r h => congr (congrArg HMul.hMul ((blk5 m c du v5 _ r y1).trans (shard_row du t p _ r h y1)))
      ((blk0 m c xn v0 _ r y2).trans (row xn t p _ r h y2)))
    (congr (congr (congrArg (slab du xn) (Fin.ext (by blk_simp [idx t, shardAt]))) (Fin.ext (by blk_simp [idx t])))
      (Fin.ext (by blk_simp [idx t])))

include v1 v2 v3 in
/-- The down weight's gradient after the region. -/
theorem final8 : (dats m 0 c).arrAt 8 cfg0.N = fun i => slab (act gt up) hd (i 0) (i 1) (i 2) := by
  refine (dats m 0 c).arrAt_eq_of_covers 8 _ (by decide +kernel) fun t hf y => ?_
  have ht := (flush0_8 t).mp hf
  idx_vars y
  blk_simp
  rw [after0_8, show (outsAt0 m c t.val t.isLt).2.2.1 = _ from congrArg (·.2.2) (last m c t ht)]
  pointwise [k0_pay4]
  rw [Pipeline.eq_sum_fin_of_reset_step_apply_of_flush (fun n h => (outsAt0 m c n h).2.2.2.2.2) 4 (fun _ => 0)
    (fun t i => partDown (iblk m c 1 t) (iblk m c 2 t) (iblk m c 3 t) i)
    (fun t h i => (congrFun (congrArg (·.2.2) (first m c t h)) i).trans ((down_pay _ _ _ _ i).trans (congrArg (· + _) (zero_down i))))
    (fun t h i => (congrFun (congrArg (·.2.2) (next m c t h)) i).trans (down_pay _ _ _ _ i)) t ht, zero_add]
  exact Eq.trans (b := slab (act gt up) hd (shardAt t) y1 y2)
    (Fin.sum_mul_add_congr fun p r h => congr (congrArg HMul.hMul
      (congr (congrArg HMul.hMul (congrArg (fun e => e * Ideal.logistic e) ((blk2 m c gt v2 _ r y1).trans (shard_row gt t p _ r h y1))))
        ((blk3 m c up v3 _ r y1).trans (shard_row up t p _ r h y1))))
      ((blk1 m c hd v1 _ r y2).trans (row hd t p _ r h y2)))
    (congr (congr (congrArg (slab (act gt up) hd) (Fin.ext (by blk_simp [idx t, shardAt]))) (Fin.ext (by blk_simp [idx t])))
      (Fin.ext (by blk_simp [idx t])))

end Cert.KernelWIdeal.Weights

end
-- ==== Proof.WeightEntry.lean ====
/-
  The arrays that the weight-gradient region reads, as the reference's own stages laid out by shards.
-/
module

public import proofs.«01_k».proof.Proof.WeightRows
public import proofs.«01_k».proof.Proof.RefRows
public import proofs.«01_k».proof.Proof.Gen.ReferenceWIdeal.Read
public import Idealize.ShloMosaic.Lib.Claim

@[expose] public section

set_option maxRecDepth 16384

noncomputable section

namespace Cert.KernelWIdeal.Weights

open Cert.KernelWIdeal Cert.KernelWIdeal.Gen Idealize.ShloMosaic Cert.ReferenceWIdeal.Read Cert.Reals Cert.Spec

/-- The cotangent of the activation, computed against the down weight transposed first, is the reference's. -/
theorem dact_eq (x2 : FVec Ideal S4096x1024 .f32) (x5 : FVec Ideal S2816x1024 .f32) :
    (Host.dotGeneral dot_S4096x1024_S1024x2816_S4096x2816_1_0_0_1_n_n none
      (mulf (broadcastInDim S4096x1024 ![] bcast_S_S4096x1024 (constant (F := Ideal) S_ .f32 0x3F000000#32)) x2)
      (transpose S1024x2816 [1, 0] x5 transposes_S2816x1024_S1024x2816_1_0) : FVec Ideal S4096x2816 .f32)
      = val_main_v25 (F := Ideal) x2 x5 := by
  funext i
  idx_vars i
  rw [val_main_v25_apply]
  pointwise [val_main_v22, val_main_v21, val_main_cst_3]
  have el (k : Fin 1024) : lidx_main_v25 (ix2 i0 i1) k = ix2 i0 k := funext fun a => by fin_cases a <;> rfl
  have er (k : Fin 1024) : ridx_main_v25 (ix2 i0 i1) k = ix2 i1 k := funext fun a => by fin_cases a <;> rfl
  exact Finset.sum_congr rfl fun k _ => by rw [el, er]

/-- An array of hidden columns laid out by shards. -/
def byShard (x : FVec Ideal S4096x2816 .f32) : FVec Ideal S4x4096x704 .bf16 :=
  truncf .bf16 (transpose S4x4096x704 [1, 0, 2] (shapeCast S4096x4x704 x shapeCasts_S4096x2816_S4096x4x704)
      transposes_S4096x4x704_S4x4096x704_1_0_2) bitsLt_bf16_f32

theorem byShard_at (x : FVec Ideal S4096x2816 .f32) (k : Fin 4) (r : Fin 4096) (j : Fin 704) :
    byShard x (ix3 k r j) = x (ix2 r (at4 k j)) := by
  pointwise [byShard]
  rfl

variable (m : (ℓ : Loc nD τ sig) → Buf (Elt Ideal) ℓ) (c : Dev nD)

/-- The arrays that the region reads. -/
theorem entries : V m c main_v24 = val_main_v12 (F := Ideal) (m (c.tc.loc main_arg0)) (m (c.tc.loc main_arg1))
    ∧ V m c main_v25 = val_main_v22 (F := Ideal) (m (c.tc.loc main_arg2))
    ∧ V m c main_v28 = byShard (val_main_v13 (F := Ideal) (m (c.tc.loc main_arg0)) (m (c.tc.loc main_arg1)) (m (c.tc.loc main_arg3)))
    ∧ V m c main_v31 = byShard (val_main_v15 (F := Ideal) (m (c.tc.loc main_arg0)) (m (c.tc.loc main_arg1)) (m (c.tc.loc main_arg4)))
    ∧ V m c main_v34 = byShard (val_main_v30 (F := Ideal) (m (c.tc.loc main_arg0)) (m (c.tc.loc main_arg1))
        (m (c.tc.loc main_arg2)) (m (c.tc.loc main_arg3)) (m (c.tc.loc main_arg4)) (m (c.tc.loc main_arg5)))
    ∧ V m c main_v37 = byShard (val_main_v26 (F := Ideal) (m (c.tc.loc main_arg0)) (m (c.tc.loc main_arg1))
        (m (c.tc.loc main_arg2)) (m (c.tc.loc main_arg3)) (m (c.tc.loc main_arg5))) := by
  refine ⟨?_, ?_, ?_, ?_, ?_, ?_⟩ <;>
    (simp only [V, hostOps0, hostOps0_1, hostOps0_2, hostOps0_3, hostOps0_4, List.flatten_cons, List.flatten_nil,
      List.append_nil, List.cons_append, List.nil_append, StableHlo.TRef.binary, StableHlo.TRef.nullary,
      StableHlo.TRef.unary, StableHlo.TRef.toBuf, StableHlo.TRef.ofBuf, cast_eq]
     after_results_simp)
  · rfl
  · rfl
  · rfl
  · rfl
  · rw [dact_eq]
    rfl
  · rw [dact_eq]
    rfl

end Cert.KernelWIdeal.Weights

end
-- ==== Proof.WeightAlgebra.lean ====
/-
  The weights' gradients of the feed-forward block: the kernel's program and the plain reference end with the same three
  results, whatever the arguments.
-/
module

public import proofs.«01_k».proof.Defs
public import proofs.«01_k».proof.Proof.Gen.ReferenceWIdeal.Run
public import proofs.«01_k».proof.Proof.WeightEntry

@[expose] public section

set_option maxRecDepth 16384

noncomputable section

namespace Cert.WeightAlgebra

open Cert.ReferenceWIdeal Cert.ReferenceWIdeal.Read Cert.KernelWIdeal.Weights Idealize.ShloMosaic Idealize.SL.Sem Cert.Reals Cert.Spec

section
variable (x0 : FVec Ideal S4096x1024 .f32) (x1 : FVec Ideal S1024 .f32) (x2 : FVec Ideal S4096x1024 .f32)
  (x3 x4 : FVec Ideal S1024x2816 .f32) (x5 : FVec Ideal S2816x1024 .f32)

/-- A matrix of the reference by row and column. -/
abbrev mat (x : FVec Ideal S4096x1024 .f32) (r : Fin 4096) (d : Fin 1024) : EReal := x (ix2 r d)

/-- An array of hidden columns of the reference by shard, row and column of the shard. -/
abbrev cols (x : FVec Ideal S4096x2816 .f32) (k : Fin 4) (r : Fin 4096) (j : Fin 704) : EReal := x (ix2 r (at4 k j))

/-- Row-major position of a shard's row: the reshape into shards reads it back. -/
theorem unpack (k : Fin 4) (j : Fin 704) (d : Fin 1024) : idx_main_v34 (ix3 k j d) = ix2 (at4 k j) d := by
  funext a
  fin_cases a
  · exact Fin.ext (by show ((k.val * 704 + j.val) * 1024 + d.val) / 1024 = k.val * 704 + j.val; omega)
  · exact Fin.ext (by show ((k.val * 704 + j.val) * 1024 + d.val) % 1024 = d.val; omega)

theorem gate_at (i : S4x704x1024.Idx) : val_main_v35 (F := Ideal) x0 x1 x2 x3 x4 x5 i
    = slab (cols (val_main_v30 (F := Ideal) x0 x1 x2 x3 x4 x5)) (mat (val_main_v12 (F := Ideal) x0 x1)) (i 0) (i 1) (i 2) := by
  idx_vars i
  refine (val_main_v34_apply ..).trans ((congrArg _ (unpack ..)).trans ((val_main_v33_apply ..).trans
    ((val_main_v32_apply ..).trans ((val_main_v31_apply ..).trans (Finset.sum_congr rfl fun r _ => ?_)))))
  exact congr (congrArg HMul.hMul (congrArg (val_main_v30 (F := Ideal) x0 x1 x2 x3 x4 x5) (funext fun a => by fin_cases a <;> rfl)))
    (congrArg (val_main_v12 (F := Ideal) x0 x1) (funext fun a => by fin_cases a <;> rfl))

theorem up_at (i : S4x704x1024.Idx) : val_main_v38 (F := Ideal) x0 x1 x2 x3 x5 i
    = slab (cols (val_main_v26 (F := Ideal) x0 x1 x2 x3 x5)) (mat (val_main_v12 (F := Ideal) x0 x1)) (i 0) (i 1) (i 2) := by
  idx_vars i
  refine (val_main_v37_apply ..).trans ((congrArg _ (unpack ..)).trans ((val_main_v36_apply ..).trans
    ((val_main_v29_apply ..).trans ((val_main_v28_apply ..).trans (Finset.sum_congr rfl fun r _ => ?_)))))
  exact congr (congrArg HMul.hMul (congrArg (val_main_v26 (F := Ideal) x0 x1 x2 x3 x5) (funext fun a => by fin_cases a <;> rfl)))
    (congrArg (val_main_v12 (F := Ideal) x0 x1) (funext fun a => by fin_cases a <;> rfl))

/-- The reference's activation at an index. -/
theorem act_at (i : S4096x2816.Idx) : val_main_v16 (F := Ideal) x0 x1 x3 x4 i
    = val_main_v13 (F := Ideal) x0 x1 x3 i * Ideal.logistic (val_main_v13 (F := Ideal) x0 x1 x3 i)
      * val_main_v15 (F := Ideal) x0 x1 x4 i := by
  rw [val_main_v16_apply, val_main_v14_0_apply, val_main_v14_2_apply, val_main_call0_v4_apply, val_main_call0_v3_apply,
    val_main_call0_v2_apply, val_main_call0_v1_apply, val_main_call0_v0_apply, val_main_call0_cst_apply, val_main_call0_cst_0_apply]
  exact congrArg (_ * · * _) (by rw [show (FloatOps.ofBits .f32 1065353216#32 : Ideal .f32) = 1 from ofBits_one]; rfl)

theorem down_at (i : S4x704x1024.Idx) : val_main_v40 (F := Ideal) x0 x1 x2 x3 x4 i
    = slab (act (cols (val_main_v13 (F := Ideal) x0 x1 x3)) (cols (val_main_v15 (F := Ideal) x0 x1 x4)))
      (mat (val_main_v22 (F := Ideal) x2)) (i 0) (i 1) (i 2) := by
  idx_vars i
  refine (val_main_v39_apply ..).trans ((congrArg _ (unpack ..)).trans ((val_main_v24_apply ..).trans
    ((val_main_v23_apply ..).trans (Finset.sum_congr rfl fun r _ => ?_))))
  refine (mul_comm _ _).trans (congr (congrArg HMul.hMul ((congrArg (val_main_v16 (F := Ideal) x0 x1 x3 x4)
    (funext fun a => ?_ : _ = ix2 r (at4 i0 i1))).trans (act_at x0 x1 x3 x4 _)))
    (congrArg (val_main_v22 (F := Ideal) x2) (funext fun a => ?_)))
  · fin_cases a <;> rfl
  · fin_cases a <;> rfl

end

theorem algebraic : Cert.algebraic_KernelWIdeal_ReferenceWIdeal := by
  intro m ρ m' ρ' _ hag
  have e := fun c => Cert.KernelWIdeal.Weights.entries m c
  have g : ∀ c, _ := fun c => final6 m c (mat (val_main_v12 (F := Ideal) _ _)) (cols (val_main_v30 (F := Ideal) _ _ _ _ _ _))
    (fun r d => congrFun (e c).1 (ix2 r d)) (fun k r j => (congrFun (e c).2.2.2.2.1 (ix3 k r j)).trans (byShard_at _ k r j))
  have u : ∀ c, _ := fun c => final7 m c (mat (val_main_v12 (F := Ideal) _ _)) (cols (val_main_v26 (F := Ideal) _ _ _ _ _))
    (fun r d => congrFun (e c).1 (ix2 r d)) (fun k r j => (congrFun (e c).2.2.2.2.2 (ix3 k r j)).trans (byShard_at _ k r j))
  have d : ∀ c, _ := fun c => final8 m c (mat (val_main_v22 (F := Ideal) _)) (cols (val_main_v13 (F := Ideal) _ _ _))
    (cols (val_main_v15 (F := Ideal) _ _ _)) (fun r d => congrFun (e c).2.1 (ix2 r d))
    (fun k r j => (congrFun (e c).2.2.1 (ix3 k r j)).trans (byShard_at _ k r j))
    (fun k r j => (congrFun (e c).2.2.2.1 (ix3 k r j)).trans (byShard_at _ k r j))
  refine ⟨_, _, _, Cert.KernelWIdeal.Value.run_blocks m ρ,
    (θ_run _ _ _).mono (fun r h c => ⟨(h c).1.trans ?_, (h c).2.1.trans ?_, (h c).2.2.1.trans ?_, (h c).2.2.2⟩)
      (Cert.ReferenceWIdeal.Value.run m' ρ')⟩
  · refine (val_main_v35_eq m' c).trans ?_
    rw [(hag c).1, (hag c).2.1, (hag c).2.2.1, (hag c).2.2.2.1, (hag c).2.2.2.2.1, (hag c).2.2.2.2.2]
    exact (funext fun i => gate_at _ _ _ _ _ _ i).trans (g c).symm
  · refine (val_main_v38_eq _ _ _ _ _).trans ?_
    rw [(hag c).1, (hag c).2.1, (hag c).2.2.1, (hag c).2.2.2.1, (hag c).2.2.2.2.2]
    exact (funext fun i => up_at _ _ _ _ _ i).trans (u c).symm
  · refine (val_main_v40_eq _ _ _ _ _).trans ?_
    rw [(hag c).1, (hag c).2.1, (hag c).2.2.1, (hag c).2.2.2.1, (hag c).2.2.2.2.1]
    exact (funext fun i => down_at _ _ _ _ _ i).trans (d c).symm

end Cert.WeightAlgebra

end
-- ==== Proof.Norm.lean ====
/-
  The row normalization at any extended reals, as the idealized programs compute it.
-/
module

public import Idealize.ShloMosaic.Lib.Pointwise
public import Idealize.ShloMosaic.Init

@[expose] public section

noncomputable section

namespace Cert.Norm

open Idealize.ShloMosaic

/-- The inverted root mean square of a row. -/
def inv (h : Fin 1024 → EReal) : EReal :=
  Ideal.rsqrt (Ideal.div (∑ d, h d * h d) (Ideal.ofBits .f32 0x44800000#32) + Ideal.ofBits .f32 0x358637BD#32)

/-- The normalized row under its gain. -/
def nrm (g h : Fin 1024 → EReal) (d : Fin 1024) : EReal := h d * inv h * g d

/-- Column `j` of slab `p` among all 3072. -/
def col (p : Fin 4) (j : Fin 768) : Fin 3072 := ⟨p.val * 768 + j.val, by omega⟩

end Cert.Norm

end
-- ==== Proof.InRows.lean ====
/-
  The input projection's row gradient, one block of 512 rows at a time: what the body leaves of the rows' cotangent and
  of the normalized rows, and what it adds to the gain's cotangent, at finite blocks.
-/
module

public import proofs.«01_k».proof.Proof.Spec
public import proofs.«01_k».proof.Proof.Norm
public import proofs.«01_k».proof.Proof.Gen.KernelInIdeal.Value
public import Idealize.ShloMosaic.Lib.Pipeline.ValueKit

@[expose] public section

set_option maxRecDepth 16384

noncomputable section

namespace Cert.InRows

open Cert.KernelInIdeal Cert.KernelInIdeal.Gen Idealize.ShloMosaic Cert.Reals Cert.Spec Cert.Norm

/-- A row of the projection's cotangent. -/
abbrev Wide := Fin 3072 → ℝ

/-- The cotangent of the normalized row. -/
def dx (W : Fin 1024 → Wide) (z : Wide) (d : Fin 1024) : ℝ := ∑ e, z e * W d e
/-- The cotangent of the row, from the normalized row's. -/
def dr (g h o y : Row) (d : Fin 1024) : ℝ := o d + rms h * (y d * g d - xh h d * ((∑ e, y e * g e * xh h e) / 1024))

/-- The same sum, slab by slab. -/
theorem dx_slabs (W : Fin 1024 → Wide) (z : Wide) (d : Fin 1024) : dx W z d
    = (∑ j, z (col 0 j) * W d (col 0 j)) + (∑ j, z (col 1 j) * W d (col 1 j)) + (∑ j, z (col 2 j) * W d (col 2 j))
      + ∑ j, z (col 3 j) * W d (col 3 j) := by
  rw [dx, Fin.sum_univ_tiles 4 768 rfl, Fin.sum_univ_four]
  rfl

section Block

variable (x0 : Vec Ideal S512x1024 .f32) (x1 : Vec Ideal S1x1024 .f32) (x2 : Vec Ideal S512x1024 .f32)
  (x3 : Vec Ideal S512x3072 .bf16) (x4 : Vec Ideal S4x1024x768 .bf16)
  (W : Fin 1024 → Wide) (H O : Fin 512 → Row) (Z : Fin 512 → Wide) (g : Row)
  (q0 : ∀ r d, x0 (ix2 r d) = ((H r d : ℝ) : EReal)) (q1 : ∀ d, x1 (ix2 0 d) = ((g d : ℝ) : EReal))
  (q2 : ∀ r d, x2 (ix2 r d) = ((O r d : ℝ) : EReal)) (q3 : ∀ r p j, x3 (ix2 r (col p j)) = ((Z r (col p j) : ℝ) : EReal))
  (q4 : ∀ p d j, x4 (ix3 p d j) = ((W d (col p j) : ℝ) : EReal))

/-- The cotangent of the normalized block, as the body builds it over the four slabs. -/
def acc : FVec Ideal S512x1024 .f32 :=
  k0_pay2 (View.ld x3 (Rect.unit ![0, 0] S512x768.size inb_S512x3072_S512x768_0_0))
    (View.ld x4 (Rect.unit ![0, 0, 0] S1x1024x768.size inb_S4x1024x768_S1x1024x768_0_0_0))
    (View.ld x3 (Rect.unit ![0, 768] S512x768.size inb_S512x3072_S512x768_0_768))
    (View.ld x4 (Rect.unit ![1, 0, 0] S1x1024x768.size inb_S4x1024x768_S1x1024x768_1_0_0))
    (View.ld x3 (Rect.unit ![0, 1536] S512x768.size inb_S512x3072_S512x768_0_1536))
    (View.ld x4 (Rect.unit ![2, 0, 0] S1x1024x768.size inb_S4x1024x768_S1x1024x768_2_0_0))
    (View.ld x3 (Rect.unit ![0, 2304] S512x768.size inb_S512x3072_S512x768_0_2304))
    (View.ld x4 (Rect.unit ![3, 0, 0] S1x1024x768.size inb_S4x1024x768_S1x1024x768_3_0_0))

include q3 in
/-- The cotangent's block at a column given by its number. -/
theorem wide_at (r : Fin 512) (p : Fin 4) (j : Fin 768) (e : Fin 3072) (he : (e : ℕ) = p.val * 768 + j.val) :
    x3 (ix2 r e) = ((Z r (col p j) : ℝ) : EReal) := by
  obtain rfl : e = col p j := Fin.ext he
  exact q3 r p j

include q3 q4 in
theorem acc_at (r : Fin 512) (d : Fin 1024) : acc x3 x4 (ix2 r d) = ((dx W (Z r) d : ℝ) : EReal) := by
  unfold acc
  pointwise [k0_pay2]
  rw [dx_slabs]
  simp only [q4, EReal.coe_add, ← sum_coe, EReal.coe_mul]
  refine congrArg₂ (· + ·) (congrArg₂ (· + ·) (congrArg₂ (· + ·) ?_ ?_) ?_) ?_
  all_goals refine Finset.sum_congr rfl fun j _ => congrArg (· * _) (wide_at x3 Z q3 r _ j _ ?_)
  all_goals (simp; try omega)

include q0 in
theorem xh_at (r : Fin 512) (d : Fin 1024) : k0_pay5 x0 (k0_pay3 x0) (ix2 r d) = ((xh (H r) d : ℝ) : EReal) := by
  pointwise [k0_pay5, k0_pay4, k0_pay3]
  simp only [q0, ofBits_eps, ofBits_1024, ← EReal.coe_mul, sum_coe, rsqrt_ms, xh]

include q0 q1 in
theorem xn_at (r : Fin 512) (d : Fin 1024) : k0_pay6 x0 (k0_pay3 x0) x1 (ix2 r d) = ((xn g (H r) d : ℝ) : EReal) := by
  pointwise [k0_pay6]
  rw [xh_at x0 H q0, q1, ← EReal.coe_mul]
  rfl

include q0 q1 q2 q3 q4 in
theorem dr_at (r : Fin 512) (d : Fin 1024) : k0_pay8 (acc x3 x4) x0 (k0_pay3 x0) x1 x2 (ix2 r d)
    = ((dr g (H r) (O r) (dx W (Z r)) d : ℝ) : EReal) := by
  pointwise [k0_pay8, k0_pay5, k0_pay4, k0_pay3]
  simp only [acc_at x3 x4 W Z q3 q4, q0, q1, q2, ofBits_eps, ofBits_1024, ← EReal.coe_mul, sum_coe, rsqrt_ms]
  simp only [div_coe_coe _ (by norm_num : (1024 : ℝ) ≠ 0), ← EReal.coe_mul, ← EReal.coe_sub, ← EReal.coe_add, dr, xh]

end Block

variable (m : (ℓ : Loc nD τ sig) → Buf (Elt Ideal) ℓ) (c : Dev nD)

/-- What a grid point leaves of the rows' cotangent and of the normalized rows. -/
theorem rows_pay (t : Fin cfg0.N) :
    (outsAt0 m c t.val t.isLt).1 = k0_pay8 (acc (iblk m c 3 t) (iblk m c 4 t)) (iblk m c 0 t) (k0_pay3 (iblk m c 0 t))
      (iblk m c 1 t) (iblk m c 2 t)
    ∧ (outsAt0 m c t.val t.isLt).2.2 = k0_pay6 (iblk m c 0 t) (k0_pay3 (iblk m c 0 t)) (iblk m c 1 t) := by
  by_cases ht : t.val % 8 = 0
  · rw [outsAt0_A m c t ht]
    constructor <;> (frame_out <;> rfl)
  · rw [outsAt0_B m c t ht]
    constructor <;> (frame_out <;> rfl)

/-- The gain's cotangent after the first grid point. -/
theorem gain_first (t : Fin cfg0.N) (ht : t.val % 8 = 0) :
    (outsAt0 m c t.val t.isLt).2.1 = k0_pay7 (acc (iblk m c 3 t) (iblk m c 4 t)) (iblk m c 0 t) (k0_pay3 (iblk m c 0 t))
      (k0_pay1 (F := Ideal)) := by
  rw [outsAt0_A m c t ht]
  frame_out
  rfl

/-- The gain's cotangent after a later grid point. -/
theorem gain_next (t : Fin cfg0.N) (ht : ¬ t.val % 8 = 0) :
    (outsAt0 m c t.val t.isLt).2.1 = k0_pay7 (acc (iblk m c 3 t) (iblk m c 4 t)) (iblk m c 0 t) (k0_pay3 (iblk m c 0 t))
      (outsAt0 m c (t.val - 1) (Nat.lt_of_le_of_lt (Nat.sub_le _ _) t.isLt)).2.1 := by
  rw [outsAt0_B m c t ht]
  frame_out
  rfl

/-- One grid point adds its rows' part of the gain's cotangent. -/
theorem gain_step (u x : FVec Ideal S512x1024 .f32) (v : FVec Ideal S512 .f32) (y : Vec Ideal S1x1024 .f32) (i : S1x1024.Idx) :
    k0_pay7 u x v y i = y i + ∑ r : Fin 512, u (ix2 r (i 1)) * k0_pay5 x v (ix2 r (i 1)) := by
  idx_vars i
  pointwise [k0_pay7]

theorem gain_zero (i : S1x1024.Idx) : k0_pay1 (F := Ideal) i = 0 := by
  pointwise [k0_pay1]

/-- Where each window's block lies at a grid point. -/
theorem idx : ∀ t : Fin cfg0.N, win0_0.index t = ![t.val, 0] ∧ win0_1.index t = ![0, 0] ∧ win0_2.index t = ![t.val, 0] ∧
    win0_3.index t = ![t.val, 0] ∧ win0_4.index t = ![0, 0, 0] ∧ win0_5.index t = ![t.val, 0] ∧ win0_6.index t = ![0, 0] ∧
    win0_7.index t = ![t.val, 0] :=
  (by decide +kernel : ∀ t : Fin grid0.N, _)

theorem row_lt (t : Fin cfg0.N) (r : Fin 512) : t.val * 512 + r.val < 4096 := by
  have h : t.val < 8 := lt_of_lt_of_eq t.isLt N_0
  omega

/-- A row of a grid point's block among all rows. -/
def rowAt (t : Fin cfg0.N) (r : Fin 512) : Fin 4096 := ⟨t.val * 512 + r.val, row_lt t r⟩

variable (W : Fin 1024 → Wide) (H O : Fin 4096 → Row) (Z : Fin 4096 → Wide) (g : Row)
  (v0 : ∀ r d, m (c.tc.loc main_arg0) (ix2 r d) = ((H r d : ℝ) : EReal))
  (v1 : ∀ d, m (c.tc.loc main_arg1) (ix1 d) = ((g d : ℝ) : EReal))
  (v2 : ∀ r d, m (c.tc.loc main_arg2) (ix2 r d) = ((O r d : ℝ) : EReal))
  (v3 : ∀ r e, m (c.tc.loc main_arg3) (ix2 r e) = ((Z r e : ℝ) : EReal))
  (v4 : ∀ d e, m (c.tc.loc main_arg4) (ix2 d e) = ((W d e : ℝ) : EReal))

include v0 in
theorem blk0 (t : Fin cfg0.N) (r : Fin 512) (d : Fin 1024) : iblk m c 0 t (ix2 r d) = ((H (rowAt t r) d : ℝ) : EReal) :=
  (Eq.trans (b := V m c main_arg0 (ix2 (rowAt t r) d)) (by blk_ext [iblk, rowAt, idx t])
    (congrFun (V_main_arg0 m c) _)).trans (v0 _ _)
include v1 in
theorem blk1 (t : Fin cfg0.N) (d : Fin 1024) : iblk m c 1 t (ix2 0 d) = ((g d : ℝ) : EReal) := by
  refine Eq.trans (b := V m c main_v0 (ix2 0 d)) (by blk_ext [iblk, idx t]) (Eq.trans ?_ (v1 d))
  entry_read
  pointwise []
include v2 in
theorem blk2 (t : Fin cfg0.N) (r : Fin 512) (d : Fin 1024) : iblk m c 2 t (ix2 r d) = ((O (rowAt t r) d : ℝ) : EReal) :=
  (Eq.trans (b := V m c main_arg2 (ix2 (rowAt t r) d)) (by blk_ext [iblk, rowAt, idx t])
    (congrFun (V_main_arg2 m c) _)).trans (v2 _ _)
include v3 in
theorem blk3 (t : Fin cfg0.N) (r : Fin 512) (p : Fin 4) (j : Fin 768) :
    iblk m c 3 t (ix2 r (col p j)) = ((Z (rowAt t r) (col p j) : ℝ) : EReal) := by
  refine Eq.trans (b := V m c main_v1 (ix2 (rowAt t r) (col p j))) (by blk_ext [iblk, rowAt, idx t]) (Eq.trans ?_ (v3 _ _))
  entry_read
  rfl
include v4 in
theorem blk4 (t : Fin cfg0.N) (p : Fin 4) (d : Fin 1024) (j : Fin 768) :
    iblk m c 4 t (ix3 p d j) = ((W d (col p j) : ℝ) : EReal) := by
  refine Eq.trans (b := V m c main_v4 (ix3 p d j)) (by blk_ext [iblk, idx t]) (Eq.trans ?_ (v4 _ _))
  entry_read
  pointwise []
  rfl

/-- The rows' cotangent after the region. -/
def rowsRes (r : Fin 4096) (d : Fin 1024) : EReal := ((dr g (H r) (O r) (dx W (Z r)) d : ℝ) : EReal)
/-- The normalized rows after the region. -/
def normRes (r : Fin 4096) (d : Fin 1024) : EReal := ((xn g (H r) d : ℝ) : EReal)

include v0 v1 v2 v3 v4 in
theorem final5 : (dats m 0 c).arrAt 5 cfg0.N = fun i => rowsRes W H O Z g (i 0) (i 1) := by
  refine (dats m 0 c).arrAt_eq_of_covers 5 _ (by decide +kernel) fun t _ y => ?_
  idx_vars y
  blk_simp
  rw [after0_5, (rows_pay m c t).1, dr_at _ _ _ _ _ W (fun r => H (rowAt t r)) (fun r => O (rowAt t r)) (fun r => Z (rowAt t r)) g
    (blk0 m c H v0 t) (blk1 m c g v1 t) (blk2 m c O v2 t) (blk3 m c Z v3 t) (blk4 m c W v4 t)]
  exact Eq.trans (b := rowsRes W H O Z g (rowAt t y0) y1) rfl
    (congr (congrArg (rowsRes W H O Z g) (Fin.ext (by blk_simp [idx t, rowAt]))) (Fin.ext (by blk_simp [idx t])))

include v0 v1 in
theorem final7 : (dats m 0 c).arrAt 7 cfg0.N = fun i => normRes H g (i 0) (i 1) := by
  refine (dats m 0 c).arrAt_eq_of_covers 7 _ (by decide +kernel) fun t _ y => ?_
  idx_vars y
  blk_simp
  rw [after0_7, (rows_pay m c t).2, xn_at _ _ (fun r => H (rowAt t r)) g (blk0 m c H v0 t) (blk1 m c g v1 t)]
  exact Eq.trans (b := normRes H g (rowAt t y0) y1) rfl
    (congr (congrArg (normRes H g) (Fin.ext (by blk_simp [idx t, rowAt]))) (Fin.ext (by blk_simp [idx t])))

include v0 v3 v4 in
/-- The gain's cotangent after the region: the sum over all rows. -/
theorem final6 : (dats m 0 c).arrAt 6 cfg0.N =
    fun i => ((∑ r : Fin 4096, dx W (Z r) (i 1) * xh (H r) (i 1) : ℝ) : EReal) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (fun t h j => by rw [gain_first m c t h, gain_step, gain_zero])
    (fun t h j => by rw [gain_next m c t h, gain_step])
    (le_of_eq N_0) t0_7 rfl j, zero_add, ← sum_coe]
  refine Fin.sum_mul_add_congr fun p r h => ?_
  exact (congrArg₂ (· * ·) (acc_at _ _ W (fun r => Z (rowAt p r)) (blk3 m c Z v3 p) (blk4 m c W v4 p) r (j 1))
    (xh_at _ (fun r => H (rowAt p r)) (blk0 m c H v0 p) r (j 1))).trans (EReal.coe_mul _ _).symm

end Cert.InRows

end
-- ==== Proof.InAlgebra.lean ====
/-
  The input projection's row gradient: for finite arguments the kernel's program and the plain reference end with the
  same three results.
-/
module

public import proofs.«01_k».proof.Defs
public import proofs.«01_k».proof.Proof.Gen.Pre_finite_in
public import proofs.«01_k».proof.Proof.Gen.ReferenceInIdeal.Run
public import proofs.«01_k».proof.Proof.Gen.ReferenceInIdeal.Read
public import proofs.«01_k».proof.Proof.Algebra
public import proofs.«01_k».proof.Proof.InRows

@[expose] public section

noncomputable section

namespace Cert.InAlgebra

open Cert.ReferenceInIdeal Cert.ReferenceInIdeal.Read Idealize.ShloMosaic Idealize.SL.Sem Cert.Reals Cert.Spec Cert.InRows

/-- Five argument arrays hold these real numbers: the rows, the gain, the rows' cotangent, the projection's cotangent and
the weight. -/
structure Holds (W : Fin 1024 → Wide) (H O : Fin 4096 → Row) (Z : Fin 4096 → Wide) (g : Row) (X0 : FVec Ideal S4096x1024 .f32)
    (X1 : FVec Ideal S1024 .f32) (X2 : FVec Ideal S4096x1024 .f32) (X3 : FVec Ideal S4096x3072 .f32)
    (X4 : FVec Ideal S1024x3072 .f32) : Prop where
  rows : ∀ r d, X0 (ix2 r d) = ((H r d : ℝ) : EReal)
  gain : ∀ d, X1 (ix1 d) = ((g d : ℝ) : EReal)
  cot : ∀ r d, X2 (ix2 r d) = ((O r d : ℝ) : EReal)
  wide : ∀ r e, X3 (ix2 r e) = ((Z r e : ℝ) : EReal)
  weight : ∀ d e, X4 (ix2 d e) = ((W d e : ℝ) : EReal)

section
variable {x0 x2 : FVec Ideal S4096x1024 .f32} {x1 : FVec Ideal S1024 .f32} {x3 : FVec Ideal S4096x3072 .f32}
  {x4 : FVec Ideal S1024x3072 .f32} {W : Fin 1024 → Wide} {H O : Fin 4096 → Row} {Z : Fin 4096 → Wide} {g : Row}
  (hm : Holds W H O Z g x0 x1 x2 x3 x4)

include hm

theorem at_row (i : S4096x1024.Idx) : x0 i = ((H (i 0) (i 1) : ℝ) : EReal) := by
  idx_vars i; exact hm.rows i0 i1
theorem at_gain (i : S1024.Idx) : x1 i = ((g (i 0) : ℝ) : EReal) := by
  idx_vars i; exact hm.gain i0
theorem at_cot (i : S4096x1024.Idx) : x2 i = ((O (i 0) (i 1) : ℝ) : EReal) := by
  idx_vars i; exact hm.cot i0 i1
theorem at_wide (i : S4096x3072.Idx) : x3 i = ((Z (i 0) (i 1) : ℝ) : EReal) := by
  idx_vars i; exact hm.wide i0 i1
theorem at_weight (i : S1024x3072.Idx) : x4 i = ((W (i 0) (i 1) : ℝ) : EReal) := by
  idx_vars i; exact hm.weight i0 i1

theorem at_ms (i : S4096x1.Idx) :
    val_main_v6 (F := Ideal) x0 i = (((∑ d, H (i 0) d * H (i 0) d) / 1024 + eps : ℝ) : EReal) := by
  rw [val_main_v6_apply, val_main_v4_apply, val_main_v2_apply, val_main_v1_apply, val_main_v3_apply, val_main_cst_0_apply,
    val_main_v5_apply, val_main_cst_1_apply, val_main_cst_apply]
  simp only [val_main_v0_apply, at_row hm, Ideal.addf_def, Ideal.mulf_def, Ideal.hostDivf_def, Ideal.ofBits_def,
    Ideal.ofBits_zero_f32, zero_add, ofBits_1024, ofBits_eps, ← EReal.coe_mul, sum_coe]
  rw [div_coe_coe _ (by norm_num : (1024 : ℝ) ≠ 0), ← EReal.coe_add]
  rfl

theorem at_rms (i : S4096x1.Idx) : val_main_v7 (F := Ideal) x0 i = ((rms (H (i 0)) : ℝ) : EReal) := by
  rw [val_main_v7_apply, at_ms hm]
  exact rsqrt_coe (ms_pos _)

theorem at_xh (i : S4096x1024.Idx) : val_main_v12 (F := Ideal) x0 i = ((xh (H (i 0)) (i 1) : ℝ) : EReal) := by
  rw [val_main_v12_apply, val_main_v11_apply, at_rms hm, at_row hm]
  rfl

/-- The reference's third result. -/
theorem at_xn (i : S4096x1024.Idx) : val_main_v53 (F := Ideal) x0 x1 i = normRes H g (i 0) (i 1) := by
  have h : val_main_v49 (F := Ideal) x0 = val_main_v12 (F := Ideal) x0 := rfl
  rw [val_main_v53_apply, val_main_v52_apply, val_main_v51_apply, val_main_v50_apply, h, at_xh hm, at_gain hm, Ideal.mulf_def,
    ← EReal.coe_mul]
  rfl

theorem at_dx (i : S4096x1024.Idx) : val_main_v17 (F := Ideal) x3 x4 i = ((dx W (Z (i 0)) (i 1) : ℝ) : EReal) := by
  rw [val_main_v17_apply]
  simp only [at_wide hm, at_weight hm, ← EReal.coe_mul, sum_coe]
  rfl

/-- The reference's second result. -/
theorem at_dgain (i : S1x1024.Idx) : val_main_v39 (F := Ideal) x0 x3 x4 i
    = ((∑ r : Fin 4096, dx W (Z r) (i 1) * xh (H r) (i 1) : ℝ) : EReal) := by
  rw [val_main_v39_apply, val_main_v23_apply, Fin.sum_univ_one, val_main_v20_apply, val_main_v19_apply, val_main_cst_3_apply,
    val_main_cst_4_apply]
  simp only [val_main_v18_apply, at_xh hm, at_dx hm, Ideal.mulf_def, Ideal.ofBits_def, Ideal.ofBits_zero_f32, zero_add,
    ← EReal.coe_mul, sum_coe]
  have hc : (idx_main_v20 (idx_main_v23 (idx_main_v39 i) 0) 0 : Fin 1024) = i 1 := Fin.ext (by
    show 0 * 1024 + (i 1).val = (i 1).val; omega)
  refine congrArg Real.toEReal (Finset.sum_congr rfl fun r _ => Eq.trans ?_
    (mul_comm (xh (H r) (i 1)) (dx W (Z r) (i 1))))
  exact congrArg (fun d => xh (H r) d * dx W (Z r) d) hc

theorem at_dy (i : S4096x1024.Idx) : val_main_v22 (F := Ideal) x1 x3 x4 i
    = ((dx W (Z (i 0)) (i 1) * g (i 1) : ℝ) : EReal) := by
  rw [val_main_v22_apply, val_main_v21_apply, val_main_v13_apply, at_dx hm, at_gain hm, Ideal.mulf_def, ← EReal.coe_mul]
  rfl

theorem at_mean (i : S4096.Idx) : val_main_v33 (F := Ideal) x0 x1 x3 x4 i
    = (((∑ e, H (i 0) e * (dx W (Z (i 0)) e * g e)) * (-(1 / 2) * (rms (H (i 0)) * rms (H (i 0)) * rms (H (i 0)))) / 1024 : ℝ)
      : EReal) := by
  rw [val_main_v33_apply, Fin.sum_univ_one, val_main_cst_7_apply, val_main_v32_apply, val_main_v31_apply, val_main_cst_6_apply,
    val_main_v30_apply, val_main_v26_apply, val_main_v25_apply, val_main_cst_5_apply, val_main_v10_apply, val_main_v9_apply,
    val_main_cst_2_apply, val_main_v8_apply, at_rms hm, at_ms hm]
  simp only [val_main_v24_apply, at_row hm, at_dy hm, Ideal.mulf_def, Ideal.ofBits_def, Ideal.ofBits_zero_f32, zero_add,
    Ideal.hostDivf_def, ofBits_1024, ofBits_neg_half, ← EReal.coe_mul, sum_coe]
  rw [div_coe_coe _ (ms_pos _).ne', RefRows.rms_cube]
  simp only [← EReal.coe_neg, ← EReal.coe_mul]
  rw [div_coe_coe _ (by norm_num : (1024 : ℝ) ≠ 0)]
  have hc : (idx_main_v26 (idx_main_v33 i 0) 0 : Fin 4096) = i 0 := Fin.ext (by
    show (i 0).val * 1 + 0 = (i 0).val; omega)
  exact congrArg (fun r => (((∑ e, H r e * (dx W (Z r) e * g e))
    * (-(1 / 2) * (rms (H (i 0)) * rms (H (i 0)) * rms (H (i 0)))) / 1024 : ℝ) : EReal)) hc

/-- The reference's first result. -/
theorem at_dr (i : S4096x1024.Idx) : val_main_v38 (F := Ideal) x0 x1 x2 x3 x4 i = rowsRes W H O Z g (i 0) (i 1) := by
  rw [val_main_v38_apply, val_main_v37_apply, val_main_v36_apply, val_main_v35_apply, val_main_v34_apply, val_main_v29_apply,
    val_main_v28_apply, val_main_v27_apply, at_mean hm, at_row hm, at_cot hm, at_dy hm, at_rms hm]
  simp only [Ideal.mulf_def, Ideal.addf_def, ← EReal.coe_mul, ← EReal.coe_add]
  refine congrArg Real.toEReal ?_
  have hs : ∑ e, dx W (Z (i 0)) e * g e * xh (H (i 0)) e = rms (H (i 0)) * ∑ e, H (i 0) e * (dx W (Z (i 0)) e * g e) := by
    rw [Finset.mul_sum]
    exact Finset.sum_congr rfl fun e _ => by unfold xh; ring
  unfold dr
  rw [hs]
  unfold xh
  show O (i 0) (i 1) + dx W (Z (i 0)) (i 1) * g (i 1) * rms (H (i 0))
      + H (i 0) (i 1) * ((∑ e, H (i 0) e * (dx W (Z (i 0)) e * g e))
        * (-(1 / 2) * (rms (H (i 0)) * rms (H (i 0)) * rms (H (i 0)))) / 1024)
      + (∑ e, H (i 0) e * (dx W (Z (i 0)) e * g e))
        * (-(1 / 2) * (rms (H (i 0)) * rms (H (i 0)) * rms (H (i 0)))) / 1024 * H (i 0) (i 1) = _
  generalize (∑ e, H (i 0) e * (dx W (Z (i 0)) e * g e)) = s
  ring

end

section
variable [Cert.Pre_finite_in.Facts] {x0 x2 : FVec Ideal S4096x1024 .f32} {x1 : FVec Ideal S1024 .f32}
  {x3 : FVec Ideal S4096x3072 .f32} {x4 : FVec Ideal S1024x3072 .f32}

/-- Finite arguments hold the real numbers they are. -/
theorem holds_of_finite (h0 : (Cert.Pre_finite_in.fn (F := Ideal) x0 x1 x2 x3 x4).1 = fun _ => 1#1)
    (h1 : (Cert.Pre_finite_in.fn (F := Ideal) x0 x1 x2 x3 x4).2.1 = fun _ => 1#1)
    (h2 : (Cert.Pre_finite_in.fn (F := Ideal) x0 x1 x2 x3 x4).2.2.1 = fun _ => 1#1)
    (h3 : (Cert.Pre_finite_in.fn (F := Ideal) x0 x1 x2 x3 x4).2.2.2.1 = fun _ => 1#1)
    (h4 : (Cert.Pre_finite_in.fn (F := Ideal) x0 x1 x2 x3 x4).2.2.2.2 = fun _ => 1#1) :
    ∃ (W : Fin 1024 → Wide) (H O : Fin 4096 → Row) (Z : Fin 4096 → Wide) (g : Row), Holds W H O Z g x0 x1 x2 x3 x4 :=
  ⟨fun d e => (x4 (ix2 d e)).toReal, fun r d => (x0 (ix2 r d)).toReal, fun r d => (x2 (ix2 r d)).toReal,
    fun r e => (x3 (ix2 r e)).toReal, fun d => (x1 (ix1 d)).toReal,
    { rows := fun _ _ => Algebra.real_of_mask x0 _ h0 _
      gain := fun _ => Algebra.real_of_mask x1 _ h1 _
      cot := fun _ _ => Algebra.real_of_mask x2 _ h2 _
      wide := fun _ _ => Algebra.real_of_mask x3 _ h3 _
      weight := fun _ _ => Algebra.real_of_mask x4 _ h4 _ }⟩

end

theorem algebraic : Cert.algebraic_KernelInIdeal_ReferenceInIdeal_pre_finite_in := by
  intro m ρ m' ρ' hp hag
  choose W H O Z g hk using fun c => holds_of_finite (hp c).1 (hp c).2.1 (hp c).2.2.1 (hp c).2.2.2.1 (hp c).2.2.2.2
  refine ⟨_, _, _, Cert.KernelInIdeal.Value.run_blocks m ρ,
    (θ_run _ _ _).mono (fun r h c => ⟨(h c).1.trans ?_, (h c).2.1.trans ?_, (h c).2.2.1.trans ?_, (h c).2.2.2⟩)
      (Cert.ReferenceInIdeal.Value.run m' ρ')⟩
  · refine (val_main_v38_eq m' c).trans ?_
    rw [(hag c).1, (hag c).2.1, (hag c).2.2.1, (hag c).2.2.2.1, (hag c).2.2.2.2]
    exact (funext fun i => at_dr (hk c) i).trans (final5 m c (W c) (H c) (O c) (Z c) (g c) (hk c).rows (hk c).gain (hk c).cot
      (hk c).wide (hk c).weight).symm
  · refine (val_main_v39_eq _ _ _).trans ?_
    rw [(hag c).1, (hag c).2.2.2.1, (hag c).2.2.2.2]
    exact (funext fun i => at_dgain (hk c) i).trans (final6 m c (W c) (H c) (Z c) (hk c).rows (hk c).wide (hk c).weight).symm
  · refine (val_main_v53_eq _ _).trans ?_
    rw [(hag c).1, (hag c).2.1]
    exact (funext fun i => at_xn (hk c) i).trans (final7 m c (H c) (g c) (hk c).rows (hk c).gain).symm

end Cert.InAlgebra

end
-- ==== Proof.InWeight.lean ====
/-
  The input projection's weight gradient: the kernel's program and the plain reference end with the same slabs, whatever
  the arguments.
-/
module

public import proofs.«01_k».proof.Defs
public import proofs.«01_k».proof.Proof.Norm
public import proofs.«01_k».proof.Proof.Gen.KernelInWIdeal.Value
public import proofs.«01_k».proof.Proof.Gen.ReferenceInWIdeal.Run
public import proofs.«01_k».proof.Proof.Gen.ReferenceInWIdeal.Read
public import Idealize.ShloMosaic.Lib.Pipeline.ValueKit
public import Idealize.ShloMosaic.Lib.Claim

@[expose] public section

set_option maxRecDepth 16384

noncomputable section

namespace Cert.InWeight

open Cert.KernelInWIdeal Cert.KernelInWIdeal.Gen Idealize.ShloMosaic Idealize.SL.Sem Cert.Norm Cert.ReferenceInWIdeal.Read

/-- The gradient at a slab, a model column and a column of the slab: the products summed over all rows. -/
def slab (xn : FVec Ideal S4096x1024 .f32) (dz : FVec Ideal S4096x3072 .f32) (p : Fin 4) (d : Fin 1024) (j : Fin 768) : EReal :=
  ∑ r : Fin 4096, xn (ix2 r d) * dz (ix2 r (col p j))

theorem out2 (x0 : Vec Ideal S4096x1024 .bf16) (x1 : Vec Ideal S4096x768 .bf16) (d : Fin 1024) (j : Fin 768) :
    out0_2 x0 x1 (ix3 0 d j) = ∑ r : Fin 4096, x0 (ix2 r d) * x1 (ix2 r j) := by
  frame_out
  pointwise [k0_pay1]

variable (m : (ℓ : Loc nD τ sig) → Buf (Elt Ideal) ℓ) (c : Dev nD)

/-- The arrays that the region reads: the normalized rows and the cotangent. -/
theorem entries : V m c main_v13 = val_main_v12 (F := Ideal) (m (c.tc.loc main_arg0)) (m (c.tc.loc main_arg1))
    ∧ V m c main_v14 = m (c.tc.loc main_arg3) := by
  refine ⟨?_, ?_⟩ <;>
    (simp only [V, hostOps0, List.flatten_cons, List.flatten_nil,
      List.append_nil, List.cons_append, List.nil_append, StableHlo.TRef.binary, StableHlo.TRef.nullary,
      StableHlo.TRef.unary, StableHlo.TRef.toBuf, StableHlo.TRef.ofBuf, cast_eq]
     after_results_simp)
  · rfl
  · rfl

/-- Where each window's block lies at a grid point. -/
theorem idx : ∀ t : Fin cfg0.N, win0_0.index t = ![0, 0] ∧ win0_1.index t = ![0, t.val] ∧ win0_2.index t = ![t.val, 0, 0] :=
  (by decide +kernel : ∀ t : Fin grid0.N, _)

/-- The slab of a grid point. -/
def slabAt (t : Fin cfg0.N) : Fin 4 := ⟨t.val, lt_of_lt_of_eq t.isLt N_0⟩

theorem blk0 (t : Fin cfg0.N) (r : Fin 4096) (d : Fin 1024) : iblk m c 0 t (ix2 r d)
    = val_main_v12 (F := Ideal) (m (c.tc.loc main_arg0)) (m (c.tc.loc main_arg1)) (ix2 r d) :=
  Eq.trans (b := V m c main_v13 (ix2 r d)) (by blk_ext [iblk, idx t]) (congrFun (entries m c).1 _)
theorem blk1 (t : Fin cfg0.N) (r : Fin 4096) (j : Fin 768) :
    iblk m c 1 t (ix2 r j) = m (c.tc.loc main_arg3) (ix2 r (col (slabAt t) j)) :=
  Eq.trans (b := V m c main_v14 (ix2 r (col (slabAt t) j))) (by blk_ext [iblk, col, slabAt, idx t])
    (congrFun (entries m c).2 _)

/-- The gradient as the arguments' memory gives it. -/
def slabOf : Fin 4 → Fin 1024 → Fin 768 → EReal :=
  slab (val_main_v12 (F := Ideal) (m (c.tc.loc main_arg0)) (m (c.tc.loc main_arg1))) (m (c.tc.loc main_arg3))

/-- The gradient after the region. -/
theorem final2 : (dats m 0 c).arrAt 2 cfg0.N = fun i => slabOf m c (i 0) (i 1) (i 2) := by
  refine (dats m 0 c).arrAt_eq_of_covers 2 _ (by decide +kernel) fun t _ y => ?_
  idx_vars y
  blk_simp
  obtain rfl : y0 = 0 := Subsingleton.elim _ _
  rw [after0_2, out2]
  refine Eq.trans (b := slabOf m c (slabAt t) y1 y2) (Finset.sum_congr rfl fun r _ => congr (congrArg (HMul.hMul (α := EReal) (β := EReal) (γ := EReal))
    (blk0 m c t r y1)) (blk1 m c t r y2))
    (congr (congr (congrArg (slabOf m c) (Fin.ext (by blk_simp [idx t, slabAt]; rfl))) (Fin.ext (by blk_simp [idx t]))) (Fin.ext (by blk_simp [idx t])))

section
variable (x0 : FVec Ideal S4096x1024 .f32) (x1 : FVec Ideal S1024 .f32) (x3 : FVec Ideal S4096x3072 .f32)

/-- The reference's gradient at a model column and a column among all 3072. -/
theorem ref_grad (d : Fin 1024) (j : Fin 3072) : val_main_v15 (F := Ideal) x0 x1 x3 (ix2 d j)
    = ∑ r : Fin 4096, val_main_v12 (F := Ideal) x0 x1 (ix2 r d) * x3 (ix2 r j) := by
  rw [val_main_v15_apply, val_main_v14_apply]
  refine Finset.sum_congr rfl fun r _ => (mul_comm _ _).trans ?_
  exact congr (congrArg HMul.hMul (congrArg (val_main_v12 (F := Ideal) x0 x1) (funext fun a => by fin_cases a <;> rfl)))
    (congrArg x3 (funext fun a => by fin_cases a <;> rfl))

/-- The reference's slabs before they are stacked. -/
def piece : Fin 4 → Vec Ideal S1x1024x768 .f32
  | 0 => val_main_v20 (F := Ideal) x0 x1 x3
  | 1 => val_main_v21 (F := Ideal) x0 x1 x3
  | 2 => val_main_v22 (F := Ideal) x0 x1 x3
  | 3 => val_main_v23 (F := Ideal) x0 x1 x3

theorem piece_at (p : Fin 4) (d : Fin 1024) (j : Fin 768) :
    piece x0 x1 x3 p (ix3 0 d j) = val_main_v15 (F := Ideal) x0 x1 x3 (ix2 d (col p j)) := by
  match p with
  | 0 =>
    refine (val_main_v20_apply ..).trans ((val_main_v16_apply ..).trans (congrArg _ (funext fun a => ?_)))
    fin_cases a
    · rfl
    · exact Fin.ext ((Nat.zero_add _).symm.trans (congrArg (· + _) (Nat.zero_mul 768).symm))
  | 1 => exact (val_main_v21_apply ..).trans ((val_main_v17_apply ..).trans (congrArg _ (funext fun a => by
      fin_cases a <;> rfl)))
  | 2 => exact (val_main_v22_apply ..).trans ((val_main_v18_apply ..).trans (congrArg _ (funext fun a => by
      fin_cases a <;> rfl)))
  | 3 => exact (val_main_v23_apply ..).trans ((val_main_v19_apply ..).trans (congrArg _ (funext fun a => by
      fin_cases a <;> rfl)))

/-- The reference's result. -/
theorem ref_at (i : S4x1024x768.Idx) : val_main_v25 (F := Ideal) x0 x1 x3 i
    = slab (val_main_v12 (F := Ideal) x0 x1) x3 (i 0) (i 1) (i 2) := by
  idx_vars i
  refine Eq.trans (b := piece x0 x1 x3 i0 (ix3 0 i1 i2)) ?_ ((piece_at x0 x1 x3 i0 i1 i2).trans (ref_grad x0 x1 x3 i1 _))
  exact concatenate_ofFn_unit_apply (t := S4x1024x768) (s₁ := S1x1024x768) 0 (piece x0 x1 x3)
    Cert.ReferenceInWIdeal.Facts₀.concatenates_S1x1024x768_S1x1024x768_S1x1024x768_S1x1024x768_S4x1024x768_d0 rfl rfl (ix3 i0 i1 i2) i0 rfl (ix3 0 i1 i2)
    fun b hb => by
      fin_cases b
      · exact absurd rfl hb
      · rfl
      · rfl
end

theorem algebraic : Cert.algebraic_KernelInWIdeal_ReferenceInWIdeal := by
  intro m ρ m' ρ' _ hag
  refine ⟨_, Cert.KernelInWIdeal.Value.run_blocks m ρ,
    (θ_run _ _ _).mono (fun r h c => ⟨(h c).1.trans ?_, (h c).2⟩) (Cert.ReferenceInWIdeal.Value.run m' ρ')⟩
  refine (val_main_v25_eq m' c).trans ?_
  rw [(hag c).1, (hag c).2.1, (hag c).2.2.2.1]
  exact (funext fun i => ref_at _ _ _ i).trans (final2 m c).symm

end Cert.InWeight

end
-- ==== Proof.Mixed.lean ====
/-
  The three branches side by side: the columns of the joined array, and a sum over them.
-/
module

public import Idealize.ShloMosaic.Lib.Pointwise
public import Idealize.ShloMosaic.Init

@[expose] public section

noncomputable section

namespace Cert.Mixed

open Idealize.ShloMosaic

/-- Column `k` of the first branch among all 1024. -/
def lo (k : Fin 512) : Fin 1024 := ⟨k.val, by omega⟩
/-- Column `k` of the second branch among all 1024. -/
def mid (k : Fin 256) : Fin 1024 := ⟨512 + k.val, by omega⟩
/-- Column `k` of the third branch among all 1024. -/
def hi (k : Fin 256) : Fin 1024 := ⟨768 + k.val, by omega⟩

/-- A sum over all columns, branch by branch. -/
theorem sum_branches (f : Fin 1024 → EReal) : ∑ k, f k = ∑ k, f (lo k) + ∑ k, f (mid k) + ∑ k, f (hi k) := by
  refine (Fin.sum_univ_add (a := 768) (b := 256) f).trans (congrArg₂ (· + ·) ?_ ?_)
  · exact Fin.sum_univ_add (a := 512) (b := 256) fun k => f (Fin.castAdd 256 k)
  · rfl

variable (x : Vec Ideal ⟨2, ![4096, 512]⟩ .f32) (y z : Vec Ideal ⟨2, ![4096, 256]⟩ .f32)
  (h : Shape.Concatenates [⟨2, ![4096, 512]⟩, ⟨2, ![4096, 256]⟩, ⟨2, ![4096, 256]⟩] ⟨2, ![4096, 1024]⟩ 1)

/-- The three branches. -/
abbrev parts : List ((s : Shape) × (s.Idx → EReal)) :=
  [⟨⟨2, ![4096, 512]⟩, x⟩, ⟨⟨2, ![4096, 256]⟩, y⟩, ⟨⟨2, ![4096, 256]⟩, z⟩]

/-- The three branches joined. -/
abbrev joined : Vec Ideal ⟨2, ![4096, 1024]⟩ .f32 := concatenate ⟨2, ![4096, 1024]⟩ 1 (parts x y z) h

/-- Off the joined axis the coordinate is the row. -/
theorem off_axis {n : ℕ} (r : Fin 4096) (k : Fin n) (c : Fin 1024) (b : Fin 2) (hb : b ≠ 1) :
    ((ix2 r k : (⟨2, ![4096, n]⟩ : Shape).Idx) b).val = ((ix2 r c : (⟨2, ![4096, 1024]⟩ : Shape).Idx) b).val := by
  match b with
  | 0 => rfl
  | 1 => exact absurd rfl hb

theorem joined_lo (r : Fin 4096) (k : Fin 512) : joined x y z h (ix2 r (lo k)) = x (ix2 r k) :=
  concatenate_apply_piece (t := ⟨2, ![4096, 1024]⟩) 1 (parts x y z) h (ix2 r (lo k)) 0 (by simp [parts]) _ x rfl rfl 0 rfl
    (ix2 r k) (fun b hb => off_axis r k (lo k) b hb) (Nat.zero_add _)

theorem joined_mid (r : Fin 4096) (k : Fin 256) : joined x y z h (ix2 r (mid k)) = y (ix2 r k) :=
  concatenate_apply_piece (t := ⟨2, ![4096, 1024]⟩) 1 (parts x y z) h (ix2 r (mid k)) 1 (by simp [parts]) _ y rfl rfl 512 rfl
    (ix2 r k) (fun b hb => off_axis r k (mid k) b hb) (rfl)

theorem joined_hi (r : Fin 4096) (k : Fin 256) : joined x y z h (ix2 r (hi k)) = z (ix2 r k) :=
  concatenate_apply_piece (t := ⟨2, ![4096, 1024]⟩) 1 (parts x y z) h (ix2 r (hi k)) 2 (by simp [parts]) _ z rfl rfl 768 rfl
    (ix2 r k) (fun b hb => off_axis r k (hi k) b hb) (rfl)

end Cert.Mixed

end
-- ==== Proof.OutBack.lean ====
/-
  The output projection's backward pass: the kernel's program and the plain reference end with the same branch gradients
  and the same weight gradient, whatever the arguments.
-/
module

public import proofs.«01_k».proof.Defs
public import proofs.«01_k».proof.Proof.Mixed
public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.Pipeline.ValueKit
public import Idealize.ShloMosaic.Lib.Pipeline.ReadBack

@[expose] public section

set_option maxRecDepth 16384

noncomputable section

namespace Cert.OutBack

open Cert.KernelOutIdeal Cert.KernelOutIdeal.Gen Idealize.ShloMosaic Idealize.SL.Sem Cert.Mixed

/-- The three branches' rows side by side. -/
def cat {n : ℕ} (a : Fin n → Fin 512 → EReal) (b e : Fin n → Fin 256 → EReal) (r : Fin n) (k : Fin 1024) : EReal :=
  if h : k.val < 512 then a r ⟨k.val, h⟩
  else if h' : k.val < 768 then b r ⟨k.val - 512, by omega⟩ else e r ⟨k.val - 768, by omega⟩

section
variable {n : ℕ} (a : Fin n → Fin 512 → EReal) (b e : Fin n → Fin 256 → EReal) (r : Fin n)

theorem cat_lo (k : Fin 512) : cat a b e r (lo k) = a r k := dif_pos k.isLt
theorem cat_mid (k : Fin 256) : cat a b e r (mid k) = b r k := by
  unfold cat mid
  rw [dif_neg (by simp), dif_pos (by simp; omega)]
  exact congrArg (b r) (Fin.ext (Nat.add_sub_cancel_left 512 _))
theorem cat_hi (k : Fin 256) : cat a b e r (hi k) = e r k := by
  unfold cat hi
  rw [dif_neg (by simp; omega), dif_neg (by simp)]
  exact congrArg (e r) (Fin.ext (Nat.add_sub_cancel_left 768 _))
end

/-- What a block adds to the weight's gradient. -/
def part (x0 : Vec Ideal S512x1024 .f32) (x1 : Vec Ideal S512x512 .bf16) (x2 x3 : Vec Ideal S512x256 .bf16)
    (i : S1024x1024.Idx) : EReal :=
  ∑ r : Fin 512, cat (fun r k => x1 (ix2 r k)) (fun r k => x2 (ix2 r k)) (fun r k => x3 (ix2 r k)) r (i 0) * x0 (ix2 r (i 1))

/-- The accumulator after a block. -/
def step (P : FVec Ideal S1024x1024 .f32) (x0 : Vec Ideal S512x1024 .f32) (x1 : Vec Ideal S512x512 .bf16)
    (x2 x3 : Vec Ideal S512x256 .bf16) : FVec Ideal S1024x1024 .f32 := fun i => P i + part x0 x1 x2 x3 i

/-- The rows of the accumulator for the first branch, the second and the third. -/
abbrev rect0 : Rect S1024x1024 := Rect.unit ![0, 0] S512x1024.size inb_S1024x1024_S512x1024_0_0
abbrev rect1 : Rect S1024x1024 := Rect.unit ![512, 0] S256x1024.size inb_S1024x1024_S256x1024_512_0
abbrev rect2 : Rect S1024x1024 := Rect.unit ![768, 0] S256x1024.size inb_S1024x1024_S256x1024_768_0

variable (P : FVec Ideal S1024x1024 .f32) (x0 : Vec Ideal S512x1024 .f32) (x1 : Vec Ideal S512x512 .bf16)
    (x2 x3 : Vec Ideal S512x256 .bf16)

theorem piece0 (k : Fin 512) (d : Fin 1024) :
    k0_pay10 x0 (View.ld P rect0) x1 (ix2 k d) = step P x0 x1 x2 x3 (ix2 (lo k) d) := by
  unfold step part
  simp only [show (ix2 (lo k) d : S1024x1024.Idx) 0 = lo k from rfl, cat_lo]
  pointwise [k0_pay10, k0_pay5]
  refine congrArg₂ (· + ·) (congrArg P (funext fun a => ?_)) rfl
  fin_cases a <;> exact Fin.ext (by blk_simp [lo])

theorem piece1 (k : Fin 256) (d : Fin 1024) :
    k0_pay1 (k0_pay11 x0 (View.ld P rect1) x2) (ix2 k d) = step P x0 x1 x2 x3 (ix2 (mid k) d) := by
  unfold step part
  simp only [show (ix2 (mid k) d : S1024x1024.Idx) 0 = mid k from rfl, cat_mid]
  pointwise [k0_pay1, k0_pay11, k0_pay5]
  refine congrArg₂ (· + ·) (congrArg P (funext fun a => ?_)) rfl
  fin_cases a <;> exact Fin.ext (by blk_simp [mid])

theorem piece2 (k : Fin 256) (d : Fin 1024) :
    k0_pay2 (k0_pay5 x0) (View.ld P rect2) x3 (ix2 k d) = step P x0 x1 x2 x3 (ix2 (hi k) d) := by
  unfold step part
  simp only [show (ix2 (hi k) d : S1024x1024.Idx) 0 = hi k from rfl, cat_hi]
  pointwise [k0_pay2, k0_pay5]
  refine congrArg₂ (· + ·) (congrArg P (funext fun a => ?_)) rfl
  fin_cases a <;> exact Fin.ext (by blk_simp [hi])

/-- The three stores of a point, the last first. -/
abbrev stores : List (View.Piece (Elt Ideal) S1024x1024 .f32) :=
  [⟨rect2, k0_pay2 (k0_pay5 x0) (View.ld P rect2) x3⟩, ⟨rect1, k0_pay1 (k0_pay11 x0 (View.ld P rect1) x2)⟩,
    ⟨rect0, k0_pay10 x0 (View.ld P rect0) x1⟩]

/-- What they leave, over whatever was stored before. -/
theorem stored (L : List (View.Piece (Elt Ideal) S1024x1024 .f32)) :
    View.canon (stores P x0 x1 x2 x3 ++ L) = step P x0 x1 x2 x3 := by
  funext y
  refine View.canon_append_of_piecesOf (step P x0 x1 x2 x3) L (stores P x0 x1 x2 x3)
    ⟨fun j => ?_, fun j => ?_, fun j => ?_, trivial⟩ y ?_
  · idx_vars j
    refine (piece2 P x0 x1 x2 x3 _ _).trans (congrArg (step P x0 x1 x2 x3) (funext fun a => ?_))
    fin_cases a <;> exact Fin.ext (by blk_simp [hi]; rfl)
  · idx_vars j
    refine (piece1 P x0 x1 x2 x3 _ _).trans (congrArg (step P x0 x1 x2 x3) (funext fun a => ?_))
    fin_cases a <;> exact Fin.ext (by blk_simp [mid]; rfl)
  · idx_vars j
    refine (piece0 P x0 x1 x2 x3 _ _).trans (congrArg (step P x0 x1 x2 x3) (funext fun a => ?_))
    fin_cases a <;> exact Fin.ext (by blk_simp [lo]; rfl)
  · have b0 : (y 0).val < 1024 := (y 0).isLt
    have b1 : (y 1).val < 1024 := (y 1).isLt
    by_cases h0 : (y 0).val < 512
    · have hm : y ∈ rect0.set := Rect.mem_set_unit.mpr fun a => by
        fin_cases a
        · exact ⟨Nat.zero_le _, by show (y 0).val < 0 + 512; omega⟩
        · exact ⟨Nat.zero_le _, by show (y 1).val < 0 + 1024; omega⟩
      exact ⟨_, List.mem_cons_of_mem _ (List.mem_cons_of_mem _ List.mem_cons_self), hm⟩
    · by_cases h1 : (y 0).val < 768
      · have hm : y ∈ rect1.set := Rect.mem_set_unit.mpr fun a => by
          fin_cases a
          · exact ⟨by show 512 ≤ (y 0).val; omega, by show (y 0).val < 512 + 256; omega⟩
          · exact ⟨Nat.zero_le _, by show (y 1).val < 0 + 1024; omega⟩
        exact ⟨_, List.mem_cons_of_mem _ List.mem_cons_self, hm⟩
      · have hm : y ∈ rect2.set := Rect.mem_set_unit.mpr fun a => by
          fin_cases a
          · exact ⟨by show 768 ≤ (y 0).val; omega, by show (y 0).val < 768 + 256; omega⟩
          · exact ⟨Nat.zero_le _, by show (y 1).val < 0 + 1024; omega⟩
        exact ⟨_, List.mem_cons_self, hm⟩

variable (m : (ℓ : Loc nD τ sig) → Buf (Elt Ideal) ℓ) (c : Dev nD)

theorem first (t : Fin cfg0.N) (h : t.val % 8 = 0) : (outsAt0 m c t.val t.isLt).2.2.2.2
    = step (fun _ => 0) (iblk m c 0 t) (iblk m c 1 t) (iblk m c 2 t) (iblk m c 3 t) := by
  rw [outsAt0_A m c t h (by omega)]
  frame_out
  simp (discharger := decide) only [↓View.readCov_skip, View.readCov_fill]
  refine (stored k0_pay4 (iblk m c 0 t) (iblk m c 1 t) (iblk m c 2 t) (iblk m c 3 t) [_]).trans ?_
  refine congrArg (fun P => step P _ _ _ _) (funext fun i => ?_)
  idx_vars i
  pointwise [k0_pay4]

theorem mid_point (t : Fin cfg0.N) (h : ¬ t.val % 8 = 0) (h1 : ¬ t.val % 8 = 7) : (outsAt0 m c t.val t.isLt).2.2.2.2
    = step (outsAt0 m c (t.val - 1) (by omega)).2.2.2.2 (iblk m c 0 t) (iblk m c 1 t) (iblk m c 2 t) (iblk m c 3 t) := by
  rw [outsAt0_B m c t h h1]
  frame_out
  rw [read_unread_whole]
  exact stored _ (iblk m c 0 t) (iblk m c 1 t) (iblk m c 2 t) (iblk m c 3 t) []

theorem last_point (t : Fin cfg0.N) (h : ¬ t.val % 8 = 0) (h1 : t.val % 8 = 7) : (outsAt0 m c t.val t.isLt).2.2.2.2
    = step (outsAt0 m c (t.val - 1) (by omega)).2.2.2.2 (iblk m c 0 t) (iblk m c 1 t) (iblk m c 2 t) (iblk m c 3 t) := by
  rw [outsAt0_C m c t h h1]
  frame_out
  rw [read_unread_whole]
  exact stored _ (iblk m c 0 t) (iblk m c 1 t) (iblk m c 2 t) (iblk m c 3 t) []

theorem next (t : Fin cfg0.N) (h : ¬ t.val % 8 = 0) : (outsAt0 m c t.val t.isLt).2.2.2.2
    = step (outsAt0 m c (t.val - 1) (by omega)).2.2.2.2 (iblk m c 0 t) (iblk m c 1 t) (iblk m c 2 t) (iblk m c 3 t) := by
  by_cases h1 : t.val % 8 = 7
  · exact last_point m c t h h1
  · exact mid_point m c t h h1

/-- At the last point the accumulator is stored as the weight's gradient. -/
theorem handed (t : Fin cfg0.N) (h1 : t.val % 8 = 7) :
    (outsAt0 m c t.val t.isLt).2.2.2.1 = k0_pay3 (outsAt0 m c t.val t.isLt).2.2.2.2 := by
  rw [last_point m c t (by omega) h1, outsAt0_C m c t (by omega) h1]
  frame_out
  rw [read_unread_whole, View.readCov_eq_canon']
  exact congrArg k0_pay3 (Eq.trans (b := View.ld _ _) rfl ((View.ld_unit_lit _ _ (by decide)).trans
    (stored _ (iblk m c 0 t) (iblk m c 1 t) (iblk m c 2 t) (iblk m c 3 t) [])))

/-- The gradient of a column of the joined branches at a row. -/
def grad (h : Fin 4096 → Fin 1024 → EReal) (w : Fin 1024 → Fin 1024 → EReal) (r : Fin 4096) (i : Fin 1024) : EReal :=
  ∑ d, h r d * w i d

/-- The weight's gradient: the products summed over all rows. -/
def wgrad (h : Fin 4096 → Fin 1024 → EReal) (a : Fin 4096 → Fin 512 → EReal) (b e : Fin 4096 → Fin 256 → EReal)
    (i d : Fin 1024) : EReal := ∑ r, cat a b e r i * h r d

section
variable (x4 : Vec Ideal S4x256x1024 .bf16) (w : Fin 1024 → Fin 1024 → EReal)
  (q : ∀ p k d (i : Fin 1024), i.val = p.val * 256 + k.val → x4 (ix3 p k d) = w i d) (r : Fin 512)
include q

theorem pay7 (k : Fin 512) : k0_pay7 x0 x4 (ix2 r k) = ∑ d, x0 (ix2 r d) * w (lo k) d := by
  pointwise [k0_pay7, k0_pay6, k0_pay5]
  refine Finset.sum_congr rfl fun d _ => congrArg _ (q _ _ _ _ ?_)
  show k.val = k.val / 256 * 256 + k.val % 256; omega
theorem pay8 (k : Fin 256) : k0_pay8 x0 x4 (ix2 r k) = ∑ d, x0 (ix2 r d) * w (mid k) d := by
  pointwise [k0_pay8, k0_pay6, k0_pay5]
  refine Finset.sum_congr rfl fun d _ => congrArg _ (q _ _ _ _ ?_)
  show 512 + k.val = (512 + k.val) / 256 * 256 + k.val; omega
theorem pay9 (k : Fin 256) : k0_pay9 x0 x4 (ix2 r k) = ∑ d, x0 (ix2 r d) * w (hi k) d := by
  pointwise [k0_pay9, k0_pay6, k0_pay5]
  refine Finset.sum_congr rfl fun d _ => congrArg _ (q _ _ _ _ ?_)
  show 768 + k.val = (768 + k.val) / 256 * 256 + k.val; omega
end

/-- A row of the whole weight among the four blocks' rows. -/
def wrow (p : Fin 4) (k : Fin 256) : Fin 1024 := ⟨p.val * 256 + k.val, by omega⟩

theorem pay3 (p : Fin 4) (k : Fin 256) (d : Fin 1024) : k0_pay3 (F := Ideal) P (ix3 p k d) = P (ix2 (wrow p k) d) := by
  pointwise [k0_pay3]
  exact congrArg P (funext fun a => by fin_cases a <;> rfl)

/-- The three branches' gradients after a point. -/
theorem branches (t : Fin cfg0.N) : (outsAt0 m c t.val t.isLt).1 = k0_pay7 (iblk m c 0 t) (iblk m c 4 t)
    ∧ (outsAt0 m c t.val t.isLt).2.1 = k0_pay8 (iblk m c 0 t) (iblk m c 4 t)
    ∧ (outsAt0 m c t.val t.isLt).2.2.1 = k0_pay9 (iblk m c 0 t) (iblk m c 4 t) := by
  by_cases h : t.val % 8 = 0
  · rw [outsAt0_A m c t h (by omega)]
    refine ⟨?_, ?_, ?_⟩ <;> (frame_out <;> rfl)
  · by_cases h1 : t.val % 8 = 7
    · rw [outsAt0_C m c t h h1]
      refine ⟨?_, ?_, ?_⟩ <;> (frame_out <;> rfl)
    · rw [outsAt0_B m c t h h1]
      refine ⟨?_, ?_, ?_⟩ <;> (frame_out <;> rfl)

/-- Where each window's block lies at a grid point. -/
theorem idx : ∀ t : Fin cfg0.N, win0_0.index t = ![t.val, 0] ∧ win0_1.index t = ![t.val, 0] ∧ win0_2.index t = ![t.val, 0] ∧
    win0_3.index t = ![t.val, 0] ∧ win0_4.index t = ![0, 0, 0] ∧ win0_5.index t = ![t.val, 0] ∧ win0_6.index t = ![t.val, 0] ∧
    win0_7.index t = ![t.val, 0] ∧ win0_8.index t = ![0, 0, 0] :=
  (by decide +kernel : ∀ t : Fin grid0.N, _)

theorem row_lt (t : Fin cfg0.N) (r : Fin 512) : t.val * 512 + r.val < 4096 := by
  have h : t.val < 8 := lt_of_lt_of_eq t.isLt N_0
  omega

/-- A row of a grid point's block among all rows. -/
def rowAt (t : Fin cfg0.N) (r : Fin 512) : Fin 4096 := ⟨t.val * 512 + r.val, row_lt t r⟩

/-- The arguments as the memory gives them. -/
def dhAt (r : Fin 4096) (d : Fin 1024) : EReal := m (c.tc.loc main_arg0) (ix2 r d)
def aAt (r : Fin 4096) (k : Fin 512) : EReal := m (c.tc.loc main_arg1) (ix2 r k)
def bAt (r : Fin 4096) (k : Fin 256) : EReal := m (c.tc.loc main_arg2) (ix2 r k)
def eAt (r : Fin 4096) (k : Fin 256) : EReal := m (c.tc.loc main_arg3) (ix2 r k)
def wAt (i d : Fin 1024) : EReal := m (c.tc.loc main_arg4) (ix2 i d)

theorem blk0 (t : Fin cfg0.N) (r : Fin 512) (d : Fin 1024) : iblk m c 0 t (ix2 r d) = dhAt m c (rowAt t r) d :=
  Eq.trans (b := V m c main_arg0 (ix2 (rowAt t r) d)) (by blk_ext [iblk, rowAt, idx t]) (congrFun (V_main_arg0 m c) _)
theorem blk1 (t : Fin cfg0.N) (r : Fin 512) (k : Fin 512) : iblk m c 1 t (ix2 r k) = aAt m c (rowAt t r) k := by
  refine Eq.trans (b := V m c main_v0 (ix2 (rowAt t r) k)) (by blk_ext [iblk, rowAt, idx t]) ?_
  unfold aAt
  entry_read
  pointwise []
theorem blk2 (t : Fin cfg0.N) (r : Fin 512) (k : Fin 256) : iblk m c 2 t (ix2 r k) = bAt m c (rowAt t r) k := by
  refine Eq.trans (b := V m c main_v1 (ix2 (rowAt t r) k)) (by blk_ext [iblk, rowAt, idx t]) ?_
  unfold bAt
  entry_read
  pointwise []
theorem blk3 (t : Fin cfg0.N) (r : Fin 512) (k : Fin 256) : iblk m c 3 t (ix2 r k) = eAt m c (rowAt t r) k := by
  refine Eq.trans (b := V m c main_v2 (ix2 (rowAt t r) k)) (by blk_ext [iblk, rowAt, idx t]) ?_
  unfold eAt
  entry_read
  pointwise []
theorem blk4 (t : Fin cfg0.N) (p : Fin 4) (k : Fin 256) (d i : Fin 1024) (h : i.val = p.val * 256 + k.val) :
    iblk m c 4 t (ix3 p k d) = wAt m c i d := by
  refine Eq.trans (b := V m c main_v4 (ix3 p k d)) (by blk_ext [iblk, idx t]) ?_
  refine Eq.trans (b := m (c.tc.loc main_arg4) (ix2 ⟨p.val * 256 + k.val, by omega⟩ d)) ?_
    (congrArg (fun j => m (c.tc.loc main_arg4) (ix2 j d)) (Fin.ext h.symm))
  entry_read
  pointwise []

/-- A branch's gradient at a block's row. -/
def gradAt (r : Fin 4096) (i : Fin 1024) : EReal := grad (dhAt m c) (wAt m c) r i

/-- The branches' gradients after the region. -/
theorem final5 : (dats m 0 c).arrAt 5 cfg0.N = fun i => gradAt m c (i 0) (lo (i 1)) := by
  refine (dats m 0 c).arrAt_eq_of_covers 5 _ (by decide +kernel) fun t _ y => ?_
  idx_vars y
  blk_simp
  rw [after0_5, (branches m c t).1, pay7 _ _ (wAt m c) (blk4 m c t)]
  simp only [blk0]
  exact Eq.trans (b := gradAt m c (rowAt t y0) (lo y1)) rfl
    (congr (congrArg (gradAt m c) (Fin.ext (by blk_simp [idx t, rowAt]))) (congrArg lo (Fin.ext (by blk_simp [idx t]))))
theorem final6 : (dats m 0 c).arrAt 6 cfg0.N = fun i => gradAt m c (i 0) (mid (i 1)) := by
  refine (dats m 0 c).arrAt_eq_of_covers 6 _ (by decide +kernel) fun t _ y => ?_
  idx_vars y
  blk_simp
  rw [after0_6, (branches m c t).2.1, pay8 _ _ (wAt m c) (blk4 m c t)]
  simp only [blk0]
  exact Eq.trans (b := gradAt m c (rowAt t y0) (mid y1)) rfl
    (congr (congrArg (gradAt m c) (Fin.ext (by blk_simp [idx t, rowAt]))) (congrArg mid (Fin.ext (by blk_simp [idx t]))))
theorem final7 : (dats m 0 c).arrAt 7 cfg0.N = fun i => gradAt m c (i 0) (hi (i 1)) := by
  refine (dats m 0 c).arrAt_eq_of_covers 7 _ (by decide +kernel) fun t _ y => ?_
  idx_vars y
  blk_simp
  rw [after0_7, (branches m c t).2.2, pay9 _ _ (wAt m c) (blk4 m c t)]
  simp only [blk0]
  exact Eq.trans (b := gradAt m c (rowAt t y0) (hi y1)) rfl
    (congr (congrArg (gradAt m c) (Fin.ext (by blk_simp [idx t, rowAt]))) (congrArg hi (Fin.ext (by blk_simp [idx t]))))

/-- A block's joined row is that row of the whole. -/
theorem cat_at (t : Fin cfg0.N) (r : Fin 512) (i : Fin 1024) : cat (fun r k => iblk m c 1 t (ix2 r k))
    (fun r k => iblk m c 2 t (ix2 r k)) (fun r k => iblk m c 3 t (ix2 r k)) r i
      = cat (aAt m c) (bAt m c) (eAt m c) (rowAt t r) i := by
  unfold cat
  simp only [blk1, blk2, blk3]

/-- The accumulator after the last point: the sum over all rows. -/
theorem summed (i d : Fin 1024) : (outsAt0 m c t0_7.val t0_7.isLt).2.2.2.2 (ix2 i d)
    = wgrad (dhAt m c) (aAt m c) (bAt m c) (eAt m c) i d := by
  rw [Pipeline.eq_sum_fin_of_reset_step_apply_last (fun n h => (outsAt0 m c n h).2.2.2.2) 8 (fun _ => 0)
    (fun t j => part (iblk m c 0 t) (iblk m c 1 t) (iblk m c 2 t) (iblk m c 3 t) j)
    (fun t h j => congrFun (first m c t h) j) (fun t h j => congrFun (next m c t h) j)
    (le_of_eq N_0) t0_7 rfl (ix2 i d), zero_add]
  refine Fin.sum_mul_add_congr fun p r h => ?_
  exact congr (congrArg (HMul.hMul (α := EReal) (β := EReal) (γ := EReal)) (cat_at m c p r i)) (blk0 m c p r d)

/-- The weight's gradient after the region. -/
theorem final8 : (dats m 0 c).arrAt 8 cfg0.N =
    fun i => wgrad (dhAt m c) (aAt m c) (bAt m c) (eAt m c) (wrow (i 0) (i 1)) (i 2) := by
  refine (dats m 0 c).arrAt_eq_of_after_last 8 t0_7 (by decide +kernel) _ fun j => ?_
  idx_vars j
  blk_simp
  rw [after0_8, handed m c t0_7 (by decide), pay3]
  exact summed m c _ _

section
open Cert.ReferenceOutIdeal.Read
variable (x0 : FVec Ideal S4096x1024 .f32) (x1 : FVec Ideal S4096x512 .f32) (x2 x3 : FVec Ideal S4096x256 .f32)
  (x4 : FVec Ideal S1024x1024 .f32)

theorem ref_grad (r : Fin 4096) (i : Fin 1024) : val_main_v4 (F := Ideal) x0 x4 (ix2 r i)
    = grad (fun r d => x0 (ix2 r d)) (fun i d => x4 (ix2 i d)) r i := by
  rw [val_main_v4_apply]
  exact Finset.sum_congr rfl fun d _ => congr (congrArg HMul.hMul (congrArg x0 (funext fun a => by fin_cases a <;> rfl)))
    (congrArg x4 (funext fun a => by fin_cases a <;> rfl))

theorem ref5 (i : S4096x512.Idx) : val_main_v5 (F := Ideal) x0 x4 i
    = grad (fun r d => x0 (ix2 r d)) (fun i d => x4 (ix2 i d)) (i 0) (lo (i 1)) :=
  (val_main_v5_apply ..).trans ((congrArg _ (funext fun a => by fin_cases a <;> rfl)).trans (ref_grad x0 x4 _ _))
theorem ref6 (i : S4096x256.Idx) : val_main_v6 (F := Ideal) x0 x4 i
    = grad (fun r d => x0 (ix2 r d)) (fun i d => x4 (ix2 i d)) (i 0) (mid (i 1)) :=
  (val_main_v6_apply ..).trans ((congrArg _ (funext fun a => by fin_cases a <;> rfl)).trans (ref_grad x0 x4 _ _))
theorem ref7 (i : S4096x256.Idx) : val_main_v7 (F := Ideal) x0 x4 i
    = grad (fun r d => x0 (ix2 r d)) (fun i d => x4 (ix2 i d)) (i 0) (hi (i 1)) :=
  (val_main_v7_apply ..).trans ((congrArg _ (funext fun a => by fin_cases a <;> rfl)).trans (ref_grad x0 x4 _ _))

/-- An array as a function of its row and column. -/
abbrev row {n : ℕ} (x : FVec Ideal ⟨2, ![4096, n]⟩ .f32) (r : Fin 4096) (k : Fin n) : EReal := x (ix2 r k)

/-- The joined branches, entry by entry. -/
theorem ref_cat (r : Fin 4096) (i : Fin 1024) : val_main_v0 (F := Ideal) x1 x2 x3 (ix2 r i)
    = cat (fun r k => x1 (ix2 r k)) (fun r k => x2 (ix2 r k)) (fun r k => x3 (ix2 r k)) r i := by
  unfold val_main_v0
  by_cases h : i.val < 512
  · obtain ⟨k, rfl⟩ : ∃ k, i = lo k := ⟨⟨i.val, h⟩, rfl⟩
    exact (joined_lo x1 x2 x3 _ r k).trans (cat_lo (row x1) (row x2) (row x3) r k).symm
  · by_cases h' : i.val < 768
    · obtain ⟨k, rfl⟩ : ∃ k, i = mid k := ⟨⟨i.val - 512, by omega⟩, Fin.ext (by unfold mid; simp only; omega)⟩
      exact (joined_mid x1 x2 x3 _ r k).trans (cat_mid (row x1) (row x2) (row x3) r k).symm
    · obtain ⟨k, rfl⟩ : ∃ k, i = hi k := ⟨⟨i.val - 768, by omega⟩, Fin.ext (by unfold hi; simp only; omega)⟩
      exact (joined_hi x1 x2 x3 _ r k).trans (cat_hi (row x1) (row x2) (row x3) r k).symm

theorem ref_wgrad (i d : Fin 1024) : val_main_v2 (F := Ideal) x0 x1 x2 x3 (ix2 d i) = wgrad (fun r d => x0 (ix2 r d))
    (fun r k => x1 (ix2 r k)) (fun r k => x2 (ix2 r k)) (fun r k => x3 (ix2 r k)) i d := by
  rw [val_main_v2_apply]
  refine Finset.sum_congr rfl fun r _ => (mul_comm _ _).trans ?_
  refine congr (congrArg HMul.hMul (Eq.trans (congrArg _ ?_) (ref_cat x1 x2 x3 r i))) (congrArg x0 ?_) <;>
    exact funext fun a => by fin_cases a <;> rfl

theorem ref9 (i : S4x256x1024.Idx) : val_main_v9 (F := Ideal) x0 x1 x2 x3 i = wgrad (fun r d => x0 (ix2 r d))
    (fun r k => x1 (ix2 r k)) (fun r k => x2 (ix2 r k)) (fun r k => x3 (ix2 r k)) (wrow (i 0) (i 1)) (i 2) := by
  idx_vars i
  refine Eq.trans (b := val_main_v8 (F := Ideal) x0 x1 x2 x3 (ix3 i0 i1 i2)) (val_main_v9_apply ..) ?_
  refine (val_main_v8_apply ..).trans ((val_main_v3_apply ..).trans ((congrArg _ ?_).trans (ref_wgrad x0 x1 x2 x3 (wrow i0 i1) i2)))
  funext a
  fin_cases a
  · refine Fin.ext ?_
    show ((i0.val * 256 + i1.val) * 1024 + i2.val) % 1024 = i2.val
    omega
  · refine Fin.ext ?_
    show ((i0.val * 256 + i1.val) * 1024 + i2.val) / 1024 = i0.val * 256 + i1.val
    omega
end

theorem algebraic : Cert.algebraic_KernelOutIdeal_ReferenceOutIdeal := by
  intro m ρ m' ρ' _ hag
  refine ⟨_, _, _, _, Cert.KernelOutIdeal.Value.run_blocks m ρ, (θ_run _ _ _).mono (fun r h c =>
    ⟨(h c).1.trans ?_, (h c).2.1.trans ?_, (h c).2.2.1.trans ?_, (h c).2.2.2.1.trans ?_, (h c).2.2.2.2⟩)
    (Cert.ReferenceOutIdeal.Value.run m' ρ')⟩
  · refine (Cert.ReferenceOutIdeal.Read.val_main_v5_eq _ _).trans ?_
    rw [(hag c).1, (hag c).2.2.2.2]
    exact (funext fun i => ref5 _ _ i).trans (final5 m c).symm
  · refine (Cert.ReferenceOutIdeal.Read.val_main_v6_eq _ _).trans ?_
    rw [(hag c).1, (hag c).2.2.2.2]
    exact (funext fun i => ref6 _ _ i).trans (final6 m c).symm
  · refine (Cert.ReferenceOutIdeal.Read.val_main_v7_eq _ _).trans ?_
    rw [(hag c).1, (hag c).2.2.2.2]
    exact (funext fun i => ref7 _ _ i).trans (final7 m c).symm
  · refine (Cert.ReferenceOutIdeal.Read.val_main_v9_eq _ _ _ _).trans ?_
    rw [(hag c).1, (hag c).2.1, (hag c).2.2.1, (hag c).2.2.2.1]
    exact (funext fun i => ref9 _ _ _ _ i).trans (final8 m c).symm

end Cert.OutBack

end
-- ==== Proof.FwdIn.lean ====
/-
  The input projection's forward pass: the kernel's program and the plain reference end with the same result, whatever
  the arguments.
-/
module

public import proofs.«01_k».proof.Defs
public import proofs.«01_k».proof.Proof.Norm
public import proofs.«01_k».proof.Proof.Gen.KernelFwdInIdeal.Value
public import proofs.«01_k».proof.Proof.Gen.ReferenceFwdInIdeal.Run
public import proofs.«01_k».proof.Proof.Gen.ReferenceFwdInIdeal.Read
public import Idealize.ShloMosaic.Lib.Pipeline.ValueKit

@[expose] public section

set_option maxRecDepth 16384

noncomputable section

namespace Cert.FwdIn

open Cert.KernelFwdInIdeal Cert.KernelFwdInIdeal.Gen Idealize.ShloMosaic Idealize.SL.Sem Cert.Norm

/-- A product of the normalized row with a column of the weight. -/
def res (h : Fin 4096 → Fin 1024 → EReal) (g : Fin 1024 → EReal) (w : Fin 1024 → Fin 3072 → EReal) (r : Fin 4096)
    (j : Fin 3072) : EReal := ∑ d, nrm g (h r) d * w d j

section
variable (x0 : Vec Ideal S512x1024 .f32) (x1 : Vec Ideal S1x1024 .f32) (x2 : Vec Ideal S4x1024x768 .bf16)

theorem xn_at (r : Fin 512) (d : Fin 1024) :
    k0_pay2 x0 x1 (ix2 r d) = nrm (fun e => x1 (ix2 0 e)) (fun e => x0 (ix2 r e)) d := by
  unfold nrm Norm.inv
  pointwise [k0_pay2]

theorem row_ld : k0_pay2 (View.ld x0 r0_0) (View.ld x1 r0_1) = k0_pay2 x0 x1 := by
  rw [View.ld_unit_lit _ x0 (by decide), View.ld_unit_lit _ x1 (by decide)]

/-- A product of the normalized block with a slab, at an index given by its coordinates. -/
theorem proj_at (g : Fin 1024 → EReal) (h : Fin 512 → Fin 1024 → EReal) (w : Fin 1024 → Fin 3072 → EReal)
    (q0 : ∀ r d, x0 (ix2 r d) = h r d) (q1 : ∀ d, x1 (ix2 0 d) = g d) (q2 : ∀ p d j, x2 (ix3 p d j) = w d (col p j))
    (r r' : Fin 512) (i : Fin 3072) (p : Fin 4) (j : Fin 768) (hr : (r : ℕ) = r') (hi : (i : ℕ) = p.val * 768 + j.val) :
    (∑ d, k0_pay2 x0 x1 (ix2 r' d) * x2 (ix3 p d j) : EReal) = ∑ d, nrm g (h r) d * w d i := by
  obtain rfl := Fin.ext hr
  obtain rfl : i = col p j := Fin.ext hi
  simp only [xn_at, q0, q1, q2]

theorem out3 (g : Fin 1024 → EReal) (h : Fin 512 → Fin 1024 → EReal) (w : Fin 1024 → Fin 3072 → EReal)
    (q0 : ∀ r d, x0 (ix2 r d) = h r d) (q1 : ∀ d, x1 (ix2 0 d) = g d) (q2 : ∀ p d j, x2 (ix3 p d j) = w d (col p j))
    (r : Fin 512) (j : Fin 3072) : out0_3 x0 x1 x2 (ix2 r j) = ∑ d, nrm g (h r) d * w d j := by
  canon_tiles y hy using Gen.cover0_3 ..
  all_goals idx_vars y
  all_goals pointwise [k0_pay1, k0_pay3, k0_pay4, k0_pay5]
  all_goals rw [row_ld]
  all_goals exact proj_at x0 x1 x2 g h w q0 q1 q2 _ _ _ _ _ (by assumption) (by simp; omega)
end

variable (m : (ℓ : Loc nD τ sig) → Buf (Elt Ideal) ℓ) (c : Dev nD)

/-- Where each window's block lies at a grid point. -/
theorem idx : ∀ t : Fin cfg0.N, win0_0.index t = ![t.val, 0] ∧ win0_1.index t = ![0, 0] ∧ win0_2.index t = ![0, 0, 0] ∧
    win0_3.index t = ![t.val, 0] :=
  (by decide +kernel : ∀ t : Fin grid0.N, _)

theorem row_lt (t : Fin cfg0.N) (r : Fin 512) : t.val * 512 + r.val < 4096 := by
  have h : t.val < 8 := lt_of_lt_of_eq t.isLt N_0
  omega

/-- A row of a grid point's block among all rows. -/
def rowAt (t : Fin cfg0.N) (r : Fin 512) : Fin 4096 := ⟨t.val * 512 + r.val, row_lt t r⟩

theorem blk0 (t : Fin cfg0.N) (r : Fin 512) (d : Fin 1024) :
    iblk m c 0 t (ix2 r d) = m (c.tc.loc main_arg0) (ix2 (rowAt t r) d) :=
  Eq.trans (b := V m c main_arg0 (ix2 (rowAt t r) d)) (by blk_ext [iblk, rowAt, idx t]) (congrFun (V_main_arg0 m c) _)
theorem blk1 (t : Fin cfg0.N) (d : Fin 1024) : iblk m c 1 t (ix2 0 d) = m (c.tc.loc main_arg1) (ix1 d) := by
  refine Eq.trans (b := V m c main_v0 (ix2 0 d)) (by blk_ext [iblk, idx t]) ?_
  entry_read
  pointwise []
theorem blk2 (t : Fin cfg0.N) (p : Fin 4) (d : Fin 1024) (j : Fin 768) :
    iblk m c 2 t (ix3 p d j) = m (c.tc.loc main_arg2) (ix2 d (col p j)) := by
  refine Eq.trans (b := V m c main_v3 (ix3 p d j)) (by blk_ext [iblk, idx t]) ?_
  entry_read
  pointwise []
  rfl

/-- The result as the arguments' memory gives it. -/
def resAt : Fin 4096 → Fin 3072 → EReal := res (fun r d => m (c.tc.loc main_arg0) (ix2 r d))
  (fun d => m (c.tc.loc main_arg1) (ix1 d)) (fun d j => m (c.tc.loc main_arg2) (ix2 d j))

/-- The result after the region. -/
theorem final3 : (dats m 0 c).arrAt 3 cfg0.N = fun i => resAt m c (i 0) (i 1) := by
  refine (dats m 0 c).arrAt_eq_of_covers 3 _ (by decide +kernel) fun t _ y => ?_
  idx_vars y
  blk_simp
  rw [after0_3, out3 _ _ _ _ _ (fun d j => m (c.tc.loc main_arg2) (ix2 d j)) (blk0 m c t) (blk1 m c t) (blk2 m c t)]
  exact Eq.trans (b := resAt m c (rowAt t y0) y1) rfl
    (congr (congrArg (resAt m c) (Fin.ext (by blk_simp [idx t, rowAt]))) (Fin.ext (by blk_simp [idx t])))

section
open Cert.ReferenceFwdInIdeal.Read
variable (x0 : FVec Ideal S4096x1024 .f32) (x1 : FVec Ideal S1024 .f32) (x2 : FVec Ideal S1024x3072 .f32)

/-- The reference's normalized rows. -/
theorem ref_xn (r : Fin 4096) (d : Fin 1024) :
    val_main_v12 (F := Ideal) x0 x1 (ix2 r d) = nrm (fun e => x1 (ix1 e)) (fun e => x0 (ix2 r e)) d := by
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply]
  simp only [val_main_cst_apply, val_main_cst_0_apply, val_main_cst_1_apply, val_main_v0_apply, Ideal.addf_def, Ideal.mulf_def,
    Ideal.hostDivf_def, Ideal.ofBits_def, Ideal.ofBits_zero_f32, zero_add]
  have e0 : idx_main_v10 (idx_main_v11 (ix2 r d)) = ix1 d := funext fun a => by fin_cases a; rfl
  have e1 (k : Fin 1024) : idx_main_v1 (idx_main_v2 (idx_main_v8 (ix2 r d))) k = ix2 r k := funext fun a => by
    fin_cases a <;> rfl
  simp only [e0, e1]
  rfl

/-- The reference's result. -/
theorem ref_at (i : S4096x3072.Idx) : val_main_v13 (F := Ideal) x0 x1 x2 i = res (fun r d => x0 (ix2 r d))
    (fun d => x1 (ix1 d)) (fun d j => x2 (ix2 d j)) (i 0) (i 1) := by
  idx_vars i
  rw [val_main_v13_apply]
  have el (k : Fin 1024) : lidx_main_v13 (ix2 i0 i1) k = ix2 i0 k := funext fun a => by fin_cases a <;> rfl
  have er (k : Fin 1024) : ridx_main_v13 (ix2 i0 i1) k = ix2 k i1 := funext fun a => by fin_cases a <;> rfl
  simp only [el, er, ref_xn]
  rfl
end

theorem algebraic : Cert.algebraic_KernelFwdInIdeal_ReferenceFwdInIdeal := by
  intro m ρ m' ρ' _ hag
  refine ⟨_, Cert.KernelFwdInIdeal.Value.run_blocks m ρ,
    (θ_run _ _ _).mono (fun r h c => ⟨(h c).1.trans ?_, (h c).2⟩) (Cert.ReferenceFwdInIdeal.Value.run m' ρ')⟩
  refine (Cert.ReferenceFwdInIdeal.Read.val_main_v13_eq _ _ _).trans ?_
  rw [(hag c).1, (hag c).2.1, (hag c).2.2]
  exact (funext fun i => ref_at _ _ _ i).trans (final3 m c).symm

end Cert.FwdIn

end
-- ==== Proof.FwdOut.lean ====
/-
  The output projection's forward pass: the kernel's program and the plain reference end with the same result, whatever
  the arguments.
-/
module

public import proofs.«01_k».proof.Defs
public import proofs.«01_k».proof.Proof.Mixed
public import proofs.«01_k».proof.Proof.Gen.KernelFwdOutIdeal.Value
public import proofs.«01_k».proof.Proof.Gen.ReferenceFwdOutIdeal.Run
public import proofs.«01_k».proof.Proof.Gen.ReferenceFwdOutIdeal.Read
public import Idealize.ShloMosaic.Lib.Pipeline.ValueKit

@[expose] public section

set_option maxRecDepth 16384

noncomputable section

namespace Cert.FwdOut

open Cert.KernelFwdOutIdeal Cert.KernelFwdOutIdeal.Gen Idealize.ShloMosaic Idealize.SL.Sem Cert.Mixed

/-- A row's result: the row plus each branch's product with its rows of the weight. -/
def res (h : Fin 4096 → Fin 1024 → EReal) (a : Fin 4096 → Fin 512 → EReal) (b e : Fin 4096 → Fin 256 → EReal)
    (w : Fin 1024 → Fin 1024 → EReal) (r : Fin 4096) (d : Fin 1024) : EReal :=
  h r d + (∑ k, a r k * w (lo k) d + ∑ k, b r k * w (mid k) d + ∑ k, e r k * w (hi k) d)

/-- A block's result with its weight given by the row among all 1024. -/
theorem out5 (x0 : Vec Ideal S512x1024 .f32) (x1 : Vec Ideal S512x512 .bf16) (x2 x3 : Vec Ideal S512x256 .bf16)
    (x4 : Vec Ideal S4x256x1024 .bf16) (w : Fin 1024 → Fin 1024 → EReal)
    (q : ∀ p k d (i : Fin 1024), i.val = p.val * 256 + k.val → x4 (ix3 p k d) = w i d) (r : Fin 512) (d : Fin 1024) :
    out0_5 x0 x1 x2 x3 x4 (ix2 r d) = x0 (ix2 r d)
      + (∑ k, x1 (ix2 r k) * w (lo k) d + ∑ k, x2 (ix2 r k) * w (mid k) d + ∑ k, x3 (ix2 r k) * w (hi k) d) := by
  frame_out
  pointwise [k0_pay1]
  simp only [add_assoc]
  refine congrArg _ (congrArg₂ _ ?_ (congrArg₂ _ ?_ ?_)) <;> refine Finset.sum_congr rfl fun k _ => congrArg _ (q _ _ _ _ ?_)
  · show k.val = k.val / 256 * 256 + k.val % 256; omega
  · show 512 + k.val = (512 + k.val) / 256 * 256 + k.val; omega
  · show 768 + k.val = (768 + k.val) / 256 * 256 + k.val; omega

variable (m : (ℓ : Loc nD τ sig) → Buf (Elt Ideal) ℓ) (c : Dev nD)

/-- Where each window's block lies at a grid point. -/
theorem idx : ∀ t : Fin cfg0.N, win0_0.index t = ![t.val, 0] ∧ win0_1.index t = ![t.val, 0] ∧ win0_2.index t = ![t.val, 0] ∧
    win0_3.index t = ![t.val, 0] ∧ win0_4.index t = ![0, 0, 0] ∧ win0_5.index t = ![t.val, 0] :=
  (by decide +kernel : ∀ t : Fin grid0.N, _)

theorem row_lt (t : Fin cfg0.N) (r : Fin 512) : t.val * 512 + r.val < 4096 := by
  have h : t.val < 8 := lt_of_lt_of_eq t.isLt N_0
  omega

/-- A row of a grid point's block among all rows. -/
def rowAt (t : Fin cfg0.N) (r : Fin 512) : Fin 4096 := ⟨t.val * 512 + r.val, row_lt t r⟩

theorem blk0 (t : Fin cfg0.N) (r : Fin 512) (d : Fin 1024) :
    iblk m c 0 t (ix2 r d) = m (c.tc.loc main_arg0) (ix2 (rowAt t r) d) := by
  exact Eq.trans (b := V m c main_arg0 (ix2 (rowAt t r) d)) (by blk_ext [iblk, rowAt, idx t]) (congrFun (V_main_arg0 m c) _)
theorem blk1 (t : Fin cfg0.N) (r : Fin 512) (k : Fin 512) :
    iblk m c 1 t (ix2 r k) = m (c.tc.loc main_arg1) (ix2 (rowAt t r) k) := by
  refine Eq.trans (b := V m c main_v0 (ix2 (rowAt t r) k)) (by blk_ext [iblk, rowAt, idx t]) ?_
  entry_read
  pointwise []
theorem blk2 (t : Fin cfg0.N) (r : Fin 512) (k : Fin 256) :
    iblk m c 2 t (ix2 r k) = m (c.tc.loc main_arg2) (ix2 (rowAt t r) k) := by
  refine Eq.trans (b := V m c main_v1 (ix2 (rowAt t r) k)) (by blk_ext [iblk, rowAt, idx t]) ?_
  entry_read
  pointwise []
theorem blk3 (t : Fin cfg0.N) (r : Fin 512) (k : Fin 256) :
    iblk m c 3 t (ix2 r k) = m (c.tc.loc main_arg3) (ix2 (rowAt t r) k) := by
  refine Eq.trans (b := V m c main_v2 (ix2 (rowAt t r) k)) (by blk_ext [iblk, rowAt, idx t]) ?_
  entry_read
  pointwise []
theorem blk4 (t : Fin cfg0.N) (p : Fin 4) (k : Fin 256) (d i : Fin 1024) (h : i.val = p.val * 256 + k.val) :
    iblk m c 4 t (ix3 p k d) = m (c.tc.loc main_arg4) (ix2 i d) := by
  refine Eq.trans (b := V m c main_v4 (ix3 p k d)) (by blk_ext [iblk, idx t]) ?_
  refine Eq.trans (b := m (c.tc.loc main_arg4) (ix2 ⟨p.val * 256 + k.val, by omega⟩ d)) ?_
    (congrArg (fun j => m (c.tc.loc main_arg4) (ix2 j d)) (Fin.ext h.symm))
  entry_read
  pointwise []

/-- The result as the arguments' memory gives it. -/
def resAt : Fin 4096 → Fin 1024 → EReal := res (fun r d => m (c.tc.loc main_arg0) (ix2 r d))
  (fun r k => m (c.tc.loc main_arg1) (ix2 r k)) (fun r k => m (c.tc.loc main_arg2) (ix2 r k))
  (fun r k => m (c.tc.loc main_arg3) (ix2 r k)) (fun i d => m (c.tc.loc main_arg4) (ix2 i d))

/-- The result after the region. -/
theorem final5 : (dats m 0 c).arrAt 5 cfg0.N = fun i => resAt m c (i 0) (i 1) := by
  refine (dats m 0 c).arrAt_eq_of_covers 5 _ (by decide +kernel) fun t _ y => ?_
  idx_vars y
  blk_simp
  rw [after0_5, out5 _ _ _ _ _ (fun i d => m (c.tc.loc main_arg4) (ix2 i d)) (blk4 m c t)]
  simp only [blk0, blk1, blk2, blk3]
  exact Eq.trans (b := resAt m c (rowAt t y0) y1) rfl
    (congr (congrArg (resAt m c) (Fin.ext (by blk_simp [idx t, rowAt]))) (Fin.ext (by blk_simp [idx t])))

section
open Cert.ReferenceFwdOutIdeal.Read
variable (x0 : FVec Ideal S4096x1024 .f32) (x1 : FVec Ideal S4096x512 .f32) (x2 x3 : FVec Ideal S4096x256 .f32)
  (x4 : FVec Ideal S1024x1024 .f32)

/-- The reference's result. -/
theorem ref_at (i : S4096x1024.Idx) : val_main_v2 (F := Ideal) x0 x1 x2 x3 x4 i = res (fun r d => x0 (ix2 r d))
    (fun r k => x1 (ix2 r k)) (fun r k => x2 (ix2 r k)) (fun r k => x3 (ix2 r k)) (fun i d => x4 (ix2 i d)) (i 0) (i 1) := by
  idx_vars i
  rw [val_main_v2_apply, val_main_v1_apply, sum_branches]
  have el (k : Fin 1024) : lidx_main_v1 (ix2 i0 i1) k = ix2 i0 k := funext fun a => by fin_cases a <;> rfl
  have er (k : Fin 1024) : ridx_main_v1 (ix2 i0 i1) k = ix2 k i1 := funext fun a => by fin_cases a <;> rfl
  simp only [el, er, val_main_v0]
  refine congrArg (x0 (ix2 i0 i1) + ·) (congrArg₂ _ (congrArg₂ _ ?_ ?_) ?_) <;> refine Finset.sum_congr rfl fun k _ => ?_
  · exact congrArg (· * _) (joined_lo x1 x2 x3 _ i0 k)
  · exact congrArg (· * _) (joined_mid x1 x2 x3 _ i0 k)
  · exact congrArg (· * _) (joined_hi x1 x2 x3 _ i0 k)
end

theorem algebraic : Cert.algebraic_KernelFwdOutIdeal_ReferenceFwdOutIdeal := by
  intro m ρ m' ρ' _ hag
  refine ⟨_, Cert.KernelFwdOutIdeal.Value.run_blocks m ρ,
    (θ_run _ _ _).mono (fun r h c => ⟨(h c).1.trans ?_, (h c).2⟩) (Cert.ReferenceFwdOutIdeal.Value.run m' ρ')⟩
  refine (Cert.ReferenceFwdOutIdeal.Read.val_main_v2_eq _ _ _ _ _).trans ?_
  rw [(hag c).1, (hag c).2.1, (hag c).2.2.1, (hag c).2.2.2.1, (hag c).2.2.2.2]
  exact (funext fun i => ref_at _ _ _ _ _ i).trans (final5 m c).symm

end Cert.FwdOut

end
-- ==== Proof.LossRows.lean ====
/-
  The loss head, one block of 512 rows at a time: what the body leaves of the rows' cotangent, and what it adds to the loss
  and to the gain's cotangent, at finite blocks.
-/
module

public import proofs.«01_k».proof.Proof.Spec
public import proofs.«01_k».proof.Proof.Gen.KernelLossIdeal.Value
public import Idealize.ShloMosaic.Lib.Pipeline.ValueKit

@[expose] public section

set_option maxRecDepth 16384

noncomputable section

namespace Cert.LossRows

open Cert.KernelLossIdeal Cert.KernelLossIdeal.Gen Idealize.ShloMosaic Cert.Reals Cert.Spec

/-- The normalized row less its target. -/
def err (g h t : Row) (d : Fin 1024) : ℝ := xn g h d - t d
/-- A row's share of the loss. -/
def share (g h t : Row) : ℝ := 1 / 2 * ((∑ d, err g h t d * err g h t d) / 1024)
/-- The cotangent of the normalized row. -/
def dy (g h t : Row) (d : Fin 1024) : ℝ := err g h t d * (1 / 1024)
/-- The cotangent of the row. -/
def dr (g h t : Row) (d : Fin 1024) : ℝ :=
  rms h * (dy g h t d * g d - xh h d * ((∑ e, dy g h t e * g e * xh h e) / 1024))

theorem ofBits_thousandth : Ideal.ofBits .f32 0x3A800000#32 = (((1 / 1024 : ℝ)) : EReal) := by
  simp [Ideal.ofBits, Ideal.ieee]; rw [← EReal.coe_mul]; norm_num

section Block

variable (x0 : Vec Ideal S512x1024 .f32) (x1 : Vec Ideal S1x1024 .f32) (x2 : Vec Ideal S512x1024 .f32)
  (H T : Fin 512 → Row) (g : Row)
  (q0 : ∀ r d, x0 (ix2 r d) = ((H r d : ℝ) : EReal)) (q1 : ∀ d, x1 (ix2 0 d) = ((g d : ℝ) : EReal))
  (q2 : ∀ r d, x2 (ix2 r d) = ((T r d : ℝ) : EReal))

include q0 in
theorem xh_at (r : Fin 512) (d : Fin 1024) : k0_pay7 x0 (ix2 r d) = ((xh (H r) d : ℝ) : EReal) := by
  pointwise [k0_pay7, k0_pay6]
  simp only [q0, ofBits_eps, ofBits_1024, ← EReal.coe_mul, sum_coe, rsqrt_ms, xh]

include q0 q1 q2 in
theorem err_at (r : Fin 512) (d : Fin 1024) : k0_pay8 x0 x1 x2 (ix2 r d) = ((err g (H r) (T r) d : ℝ) : EReal) := by
  pointwise [k0_pay8, k0_pay5]
  rw [xh_at x0 H q0, q1, q2, ← EReal.coe_mul, ← EReal.coe_sub]
  rfl

include q0 q1 q2 in
theorem dy_at (r : Fin 512) (d : Fin 1024) : k0_pay10 x0 x1 x2 (ix2 r d) = ((dy g (H r) (T r) d : ℝ) : EReal) := by
  pointwise [k0_pay10]
  rw [err_at x0 x1 x2 H T g q0 q1 q2, ofBits_thousandth, ← EReal.coe_mul]
  rfl

include q0 q1 q2 in
theorem dr_at (r : Fin 512) (d : Fin 1024) :
    k0_pay2 (k0_pay5 x1) (k0_pay6 x0) (k0_pay7 x0) (k0_pay10 x0 x1 x2) (ix2 r d) = ((dr g (H r) (T r) d : ℝ) : EReal) := by
  pointwise [k0_pay2, k0_pay5, k0_pay6]
  simp only [dy_at x0 x1 x2 H T g q0 q1 q2, xh_at x0 H q0, q0, q1, ofBits_eps, ofBits_1024, ← EReal.coe_mul, sum_coe, rsqrt_ms]
  simp only [div_coe_coe _ (by norm_num : (1024 : ℝ) ≠ 0), ← EReal.coe_mul, ← EReal.coe_sub, dr]

/-- What a block adds to the loss. -/
def part : EReal := Ideal.ofBits .f32 0x3F000000#32
  * ∑ r : Fin 512, Ideal.div (∑ d : Fin 1024, k0_pay8 x0 x1 x2 (ix2 r d) * k0_pay8 x0 x1 x2 (ix2 r d)) (Ideal.ofBits .f32 0x44800000#32)

include q0 q1 q2 in
theorem part_at : part x0 x1 x2 = ((∑ r, share g (H r) (T r) : ℝ) : EReal) := by
  unfold part
  simp only [err_at x0 x1 x2 H T g q0 q1 q2, ofBits_half, ofBits_1024, ← EReal.coe_mul, sum_coe,
    div_coe_coe _ (by norm_num : (1024 : ℝ) ≠ 0), Finset.mul_sum, share]

/-- One grid point adds its rows' part of the loss. -/
theorem loss_step (y : Vec Ideal S1x128 .f32) (i : S1x128.Idx) : k0_pay9 x0 x1 x2 y i = y i + part x0 x1 x2 := by
  idx_vars i
  pointwise [k0_pay9, part]

end Block

variable (m : (ℓ : Loc nD τ sig) → Buf (Elt Ideal) ℓ) (c : Dev nD)

/-- What a grid point leaves of the rows' cotangent. -/
theorem rows_pay (t : Fin cfg0.N) :
    (outsAt0 m c t.val t.isLt).1 = k0_pay2 (k0_pay5 (iblk m c 1 t)) (k0_pay6 (iblk m c 0 t)) (k0_pay7 (iblk m c 0 t))
      (k0_pay10 (iblk m c 0 t) (iblk m c 1 t) (iblk m c 2 t)) := by
  by_cases ht : t.val % 8 = 0
  · rw [outsAt0_A m c t ht]
    frame_out
  · rw [outsAt0_B m c t ht]
    frame_out

/-- The loss and the gain's cotangent after the first grid point. -/
theorem sums_first (t : Fin cfg0.N) (ht : t.val % 8 = 0) :
    (outsAt0 m c t.val t.isLt).2.1 = k0_pay9 (iblk m c 0 t) (iblk m c 1 t) (iblk m c 2 t) (k0_pay3 (F := Ideal))
    ∧ (outsAt0 m c t.val t.isLt).2.2 = k0_pay1 (k0_pay7 (iblk m c 0 t))
      (k0_pay10 (iblk m c 0 t) (iblk m c 1 t) (iblk m c 2 t)) (k0_pay4 (F := Ideal)) := by
  rw [outsAt0_A m c t ht]
  constructor <;> (frame_out <;> rfl)

/-- The loss and the gain's cotangent after a later grid point. -/
theorem sums_next (t : Fin cfg0.N) (ht : ¬ t.val % 8 = 0) :
    (outsAt0 m c t.val t.isLt).2.1 = k0_pay9 (iblk m c 0 t) (iblk m c 1 t) (iblk m c 2 t)
      (outsAt0 m c (t.val - 1) (Nat.lt_of_le_of_lt (Nat.sub_le _ _) t.isLt)).2.1
    ∧ (outsAt0 m c t.val t.isLt).2.2 = k0_pay1 (k0_pay7 (iblk m c 0 t))
      (k0_pay10 (iblk m c 0 t) (iblk m c 1 t) (iblk m c 2 t))
      (outsAt0 m c (t.val - 1) (Nat.lt_of_le_of_lt (Nat.sub_le _ _) t.isLt)).2.2 := by
  rw [outsAt0_B m c t ht]
  constructor <;> (frame_out <;> rfl)

/-- One grid point adds its rows' part of the gain's cotangent. -/
theorem gain_step (u v : FVec Ideal S512x1024 .f32) (y : Vec Ideal S1x1024 .f32) (i : S1x1024.Idx) :
    k0_pay1 u v y i = y i + ∑ r : Fin 512, v (ix2 r (i 1)) * u (ix2 r (i 1)) := by
  idx_vars i
  pointwise [k0_pay1]

theorem gain_zero (i : S1x1024.Idx) : k0_pay4 (F := Ideal) i = 0 := by
  pointwise [k0_pay4]

theorem loss_zero (i : S1x128.Idx) : k0_pay3 (F := Ideal) i = 0 := by
  pointwise [k0_pay3]

/-- Where each window's block lies at a grid point. -/
theorem idx : ∀ t : Fin cfg0.N, win0_0.index t = ![t.val, 0] ∧ win0_1.index t = ![0, 0] ∧ win0_2.index t = ![t.val, 0] ∧
    win0_3.index t = ![t.val, 0] ∧ win0_4.index t = ![0, 0] ∧ win0_5.index t = ![0, 0] :=
  (by decide +kernel : ∀ t : Fin grid0.N, _)

theorem row_lt (t : Fin cfg0.N) (r : Fin 512) : t.val * 512 + r.val < 4096 := by
  have h : t.val < 8 := lt_of_lt_of_eq t.isLt N_0
  omega

/-- A row of a grid point's block among all rows. -/
def rowAt (t : Fin cfg0.N) (r : Fin 512) : Fin 4096 := ⟨t.val * 512 + r.val, row_lt t r⟩

variable (H T : Fin 4096 → Row) (g : Row)
  (v0 : ∀ r d, m (c.tc.loc main_arg0) (ix2 r d) = ((H r d : ℝ) : EReal))
  (v1 : ∀ d, m (c.tc.loc main_arg1) (ix1 d) = ((g d : ℝ) : EReal))
  (v2 : ∀ r d, m (c.tc.loc main_arg2) (ix2 r d) = ((T r d : ℝ) : EReal))

include v0 in
theorem blk0 (t : Fin cfg0.N) (r : Fin 512) (d : Fin 1024) : iblk m c 0 t (ix2 r d) = ((H (rowAt t r) d : ℝ) : EReal) :=
  (Eq.trans (b := V m c main_arg0 (ix2 (rowAt t r) d)) (by blk_ext [iblk, rowAt, idx t])
    (congrFun (V_main_arg0 m c) _)).trans (v0 _ _)
include v1 in
theorem blk1 (t : Fin cfg0.N) (d : Fin 1024) : iblk m c 1 t (ix2 0 d) = ((g d : ℝ) : EReal) := by
  refine Eq.trans (b := V m c main_v0 (ix2 0 d)) (by blk_ext [iblk, idx t]) (Eq.trans ?_ (v1 d))
  entry_read
  pointwise []
include v2 in
theorem blk2 (t : Fin cfg0.N) (r : Fin 512) (d : Fin 1024) : iblk m c 2 t (ix2 r d) = ((T (rowAt t r) d : ℝ) : EReal) :=
  (Eq.trans (b := V m c main_arg2 (ix2 (rowAt t r) d)) (by blk_ext [iblk, rowAt, idx t])
    (congrFun (V_main_arg2 m c) _)).trans (v2 _ _)

/-- The rows' cotangent after the region. -/
def rowsRes (r : Fin 4096) (d : Fin 1024) : EReal := ((dr g (H r) (T r) d : ℝ) : EReal)

include v0 v1 v2 in
theorem final3 : (dats m 0 c).arrAt 3 cfg0.N = fun i => rowsRes H T g (i 0) (i 1) := by
  refine (dats m 0 c).arrAt_eq_of_covers 3 _ (by decide +kernel) fun t _ y => ?_
  idx_vars y
  blk_simp
  rw [after0_3, rows_pay m c t, dr_at _ _ _ (fun r => H (rowAt t r)) (fun r => T (rowAt t r)) g
    (blk0 m c H v0 t) (blk1 m c g v1 t) (blk2 m c T v2 t)]
  exact Eq.trans (b := rowsRes H T g (rowAt t y0) y1) rfl
    (congr (congrArg (rowsRes H T g) (Fin.ext (by blk_simp [idx t, rowAt]))) (Fin.ext (by blk_simp [idx t])))

include v0 v1 v2 in
/-- The loss after the region: the sum over all rows, in every lane. -/
theorem final4 : (dats m 0 c).arrAt 4 cfg0.N = fun _ => ((∑ r : Fin 4096, share g (H r) (T r) : ℝ) : EReal) := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => 0)
    (fun t _ => part (iblk m c 0 t) (iblk m c 1 t) (iblk m c 2 t))
    (fun t h j => by rw [(sums_first m c t h).1, loss_step, loss_zero])
    (fun t h j => by rw [(sums_next m c t h).1, loss_step])
    (le_of_eq N_0) t0_7 rfl j, zero_add, ← sum_coe]
  simp only [fun t => part_at _ _ _ (fun r => H (rowAt t r)) (fun r => T (rowAt t r)) g
    (blk0 m c H v0 t) (blk1 m c g v1 t) (blk2 m c T v2 t), ← sum_coe]
  exact Fin.sum_mul_add_congr fun p r h => rfl

include v0 v1 v2 in
/-- The gain's cotangent after the region: the sum over all rows. -/
theorem final5 : (dats m 0 c).arrAt 5 cfg0.N =
    fun i => ((∑ r : Fin 4096, dy g (H r) (T r) (i 1) * xh (H r) (i 1) : ℝ) : EReal) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0) _
    (fun t h j => by rw [(sums_first m c t h).2, gain_step, gain_zero])
    (fun t h j => by rw [(sums_next m c t h).2, gain_step])
    (le_of_eq N_0) t0_7 rfl j, zero_add, ← sum_coe]
  refine Fin.sum_mul_add_congr fun p r h => ?_
  exact (congrArg₂ (· * ·) (dy_at _ _ _ (fun r => H (rowAt p r)) (fun r => T (rowAt p r)) g (blk0 m c H v0 p) (blk1 m c g v1 p)
    (blk2 m c T v2 p) r (j 1)) (xh_at _ (fun r => H (rowAt p r)) (blk0 m c H v0 p) r (j 1))).trans (EReal.coe_mul _ _).symm

end Cert.LossRows

end
-- ==== Proof.LossAlgebra.lean ====
/-
  The loss head: for finite arguments the kernel's program and the plain reference end with the same three results.
-/
module

public import proofs.«01_k».proof.Defs
public import proofs.«01_k».proof.Proof.Gen.Pre_finite_loss
public import proofs.«01_k».proof.Proof.Gen.ReferenceLossIdeal.Run
public import proofs.«01_k».proof.Proof.Gen.ReferenceLossIdeal.Read
public import proofs.«01_k».proof.Proof.Algebra
public import proofs.«01_k».proof.Proof.LossRows

@[expose] public section

noncomputable section

namespace Cert.LossAlgebra

open Cert.ReferenceLossIdeal Cert.ReferenceLossIdeal.Read Idealize.ShloMosaic Idealize.SL.Sem Cert.Reals Cert.Spec Cert.LossRows

theorem ofBits_two : Ideal.ofBits .f32 0x40000000#32 = (((2 : ℝ)) : EReal) := by
  simp [Ideal.ofBits, Ideal.ieee]; rw [← EReal.coe_mul]; norm_num

/-- Three argument arrays hold these real numbers: the rows, the gain and the targets. -/
structure Holds (H T : Fin 4096 → Row) (g : Row) (X0 : FVec Ideal S4096x1024 .f32) (X1 : FVec Ideal S1024 .f32)
    (X2 : FVec Ideal S4096x1024 .f32) : Prop where
  rows : ∀ r d, X0 (ix2 r d) = ((H r d : ℝ) : EReal)
  gain : ∀ d, X1 (ix1 d) = ((g d : ℝ) : EReal)
  target : ∀ r d, X2 (ix2 r d) = ((T r d : ℝ) : EReal)

section
variable {x0 x2 : FVec Ideal S4096x1024 .f32} {x1 : FVec Ideal S1024 .f32} {H T : Fin 4096 → Row} {g : Row}
  (hm : Holds H T g x0 x1 x2)

include hm

theorem at_row (i : S4096x1024.Idx) : x0 i = ((H (i 0) (i 1) : ℝ) : EReal) := by
  idx_vars i; exact hm.rows i0 i1
theorem at_gain (i : S1024.Idx) : x1 i = ((g (i 0) : ℝ) : EReal) := by
  idx_vars i; exact hm.gain i0
theorem at_target (i : S4096x1024.Idx) : x2 i = ((T (i 0) (i 1) : ℝ) : EReal) := by
  idx_vars i; exact hm.target i0 i1

theorem at_ms (i : S4096x1.Idx) :
    val_main_v6 (F := Ideal) x0 i = (((∑ d, H (i 0) d * H (i 0) d) / 1024 + eps : ℝ) : EReal) := by
  rw [val_main_v6_apply, val_main_v4_apply, val_main_v2_apply, val_main_v1_apply, val_main_v3_apply, val_main_cst_0_apply,
    val_main_v5_apply, val_main_cst_1_apply, val_main_cst_apply]
  simp only [val_main_v0_apply, at_row hm, Ideal.addf_def, Ideal.mulf_def, Ideal.hostDivf_def, Ideal.ofBits_def,
    Ideal.ofBits_zero_f32, zero_add, ofBits_1024, ofBits_eps, ← EReal.coe_mul, sum_coe]
  rw [div_coe_coe _ (by norm_num : (1024 : ℝ) ≠ 0), ← EReal.coe_add]
  rfl

theorem at_rms (i : S4096x1.Idx) : val_main_v7 (F := Ideal) x0 i = ((rms (H (i 0)) : ℝ) : EReal) := by
  rw [val_main_v7_apply, at_ms hm]
  exact rsqrt_coe (ms_pos _)

theorem at_xh (i : S4096x1024.Idx) : val_main_v12 (F := Ideal) x0 i = ((xh (H (i 0)) (i 1) : ℝ) : EReal) := by
  rw [val_main_v12_apply, val_main_v11_apply, at_rms hm, at_row hm]
  rfl

theorem at_err (i : S4096x1024.Idx) :
    val_main_v16 (F := Ideal) x0 x1 x2 i = ((err g (H (i 0)) (T (i 0)) (i 1) : ℝ) : EReal) := by
  rw [val_main_v16_apply, val_main_v15_apply, val_main_v14_apply, val_main_v13_apply, at_xh hm, at_gain hm, at_target hm,
    Ideal.mulf_def, Ideal.subf_def, ← EReal.coe_mul, ← EReal.coe_sub]
  rfl

theorem at_share (i : S4096.Idx) : val_main_v22 (F := Ideal) x0 x1 x2 i
    = (((∑ d, err g (H (i 0)) (T (i 0)) d * err g (H (i 0)) (T (i 0)) d) / 1024 : ℝ) : EReal) := by
  rw [val_main_v22_apply, val_main_v20_apply, val_main_v21_apply, val_main_cst_4_apply, val_main_cst_5_apply]
  simp only [val_main_v17_apply, at_err hm, Ideal.mulf_def, Ideal.hostDivf_def, Ideal.ofBits_def, Ideal.ofBits_zero_f32,
    zero_add, ofBits_1024, ← EReal.coe_mul, sum_coe]
  rw [div_coe_coe _ (by norm_num : (1024 : ℝ) ≠ 0)]
  rfl

/-- The reference's second result. -/
theorem at_loss (i : S1x128.Idx) :
    val_main_v51 (F := Ideal) x0 x1 x2 i = ((∑ r : Fin 4096, share g (H r) (T r) : ℝ) : EReal) := by
  rw [val_main_v51_apply, val_main_v24_apply, val_main_v23_apply, val_main_cst_6_apply, val_main_cst_7_apply]
  simp only [at_share hm, Ideal.mulf_def, Ideal.ofBits_def, Ideal.ofBits_zero_f32, zero_add, ofBits_half, sum_coe,
    ← EReal.coe_mul]
  refine congrArg Real.toEReal ?_
  rw [Finset.mul_sum]
  exact sum_idx1 _

theorem at_dy (i : S4096x1024.Idx) : val_main_v30 (F := Ideal) x0 x1 x2 i
    = ((dy g (H (i 0)) (T (i 0)) (i 1) : ℝ) : EReal) := by
  rw [val_main_v30_apply, val_main_v29_apply, val_main_v28_apply, val_main_v26_apply, val_main_v27_apply, val_main_v25_apply,
    val_main_v19_apply, val_main_v18_apply, at_err hm, val_main_cst_3_apply, val_main_cst_8_apply, val_main_cst_9_apply,
    val_main_cst_10_apply]
  simp only [Ideal.mulf_def, Ideal.hostDivf_def, Ideal.ofBits_def, ofBits_half, ofBits_one, ofBits_two, ofBits_1024,
    ← EReal.coe_mul]
  rw [div_coe_coe _ (by norm_num : (1024 : ℝ) ≠ 0), ← EReal.coe_mul]
  refine congrArg Real.toEReal ?_
  unfold dy
  ring

/-- The reference's third result. -/
theorem at_dgain (i : S1x1024.Idx) : val_main_v52 (F := Ideal) x0 x1 x2 i
    = ((∑ r : Fin 4096, dy g (H r) (T r) (i 1) * xh (H r) (i 1) : ℝ) : EReal) := by
  rw [val_main_v52_apply, val_main_v36_apply, Fin.sum_univ_one, val_main_v33_apply, val_main_v32_apply, val_main_cst_11_apply,
    val_main_cst_12_apply]
  simp only [val_main_v31_apply, at_xh hm, at_dy hm, Ideal.mulf_def, Ideal.ofBits_def, Ideal.ofBits_zero_f32, zero_add,
    ← EReal.coe_mul, sum_coe]
  have hc : (idx_main_v32 (idx_main_v33 (idx_main_v36 (idx_main_v52 i) 0)) 0 1 : Fin 1024) = i 1 := Fin.ext (by
    show 0 * 1024 + (i 1).val = (i 1).val; omega)
  refine congrArg Real.toEReal (Finset.sum_congr rfl fun r _ => Eq.trans ?_
    (mul_comm (xh (H r) (i 1)) (dy g (H r) (T r) (i 1))))
  exact congrArg (fun d => xh (H r) d * dy g (H r) (T r) d) hc

theorem at_dxh (i : S4096x1024.Idx) : val_main_v35 (F := Ideal) x0 x1 x2 i
    = ((dy g (H (i 0)) (T (i 0)) (i 1) * g (i 1) : ℝ) : EReal) := by
  rw [val_main_v35_apply, val_main_v34_apply, val_main_v13_apply, at_dy hm, at_gain hm, Ideal.mulf_def, ← EReal.coe_mul]
  rfl

theorem at_mean (i : S4096.Idx) : val_main_v45 (F := Ideal) x0 x1 x2 i
    = (((∑ e, H (i 0) e * (dy g (H (i 0)) (T (i 0)) e * g e)) * (-(1 / 2) * (rms (H (i 0)) * rms (H (i 0)) * rms (H (i 0)))) / 1024
      : ℝ) : EReal) := by
  rw [val_main_v45_apply, Fin.sum_univ_one, val_main_cst_15_apply, val_main_v44_apply, val_main_v43_apply, val_main_cst_14_apply,
    val_main_v42_apply, val_main_v39_apply, val_main_v38_apply, val_main_cst_13_apply, val_main_v10_apply, val_main_v9_apply,
    val_main_cst_2_apply, val_main_v8_apply, at_rms hm, at_ms hm]
  simp only [val_main_v37_apply, at_row hm, at_dxh hm, Ideal.mulf_def, Ideal.ofBits_def, Ideal.ofBits_zero_f32, zero_add,
    Ideal.hostDivf_def, ofBits_1024, ofBits_neg_half, ← EReal.coe_mul, sum_coe]
  rw [div_coe_coe _ (ms_pos _).ne', RefRows.rms_cube]
  simp only [← EReal.coe_neg, ← EReal.coe_mul]
  rw [div_coe_coe _ (by norm_num : (1024 : ℝ) ≠ 0)]
  have hc : (idx_main_v39 (idx_main_v45 i 0) 0 : Fin 4096) = i 0 := Fin.ext (by
    show (i 0).val * 1 + 0 = (i 0).val; omega)
  exact congrArg (fun r => (((∑ e, H r e * (dy g (H r) (T r) e * g e))
    * (-(1 / 2) * (rms (H (i 0)) * rms (H (i 0)) * rms (H (i 0)))) / 1024 : ℝ) : EReal)) hc

/-- The reference's first result. -/
theorem at_dr (i : S4096x1024.Idx) : val_main_v50 (F := Ideal) x0 x1 x2 i = rowsRes H T g (i 0) (i 1) := by
  rw [val_main_v50_apply, val_main_v49_apply, val_main_v48_apply, val_main_v47_apply, val_main_v46_apply, val_main_v41_apply,
    val_main_v40_apply, at_mean hm, at_row hm, at_dxh hm, at_rms hm]
  simp only [Ideal.mulf_def, Ideal.addf_def, ← EReal.coe_mul, ← EReal.coe_add]
  refine congrArg Real.toEReal ?_
  have hs : ∑ e, dy g (H (i 0)) (T (i 0)) e * g e * xh (H (i 0)) e
      = rms (H (i 0)) * ∑ e, H (i 0) e * (dy g (H (i 0)) (T (i 0)) e * g e) := by
    rw [Finset.mul_sum]
    exact Finset.sum_congr rfl fun e _ => by unfold xh; ring
  unfold dr
  rw [hs]
  unfold xh
  show dy g (H (i 0)) (T (i 0)) (i 1) * g (i 1) * rms (H (i 0))
      + H (i 0) (i 1) * ((∑ e, H (i 0) e * (dy g (H (i 0)) (T (i 0)) e * g e))
        * (-(1 / 2) * (rms (H (i 0)) * rms (H (i 0)) * rms (H (i 0)))) / 1024)
      + (∑ e, H (i 0) e * (dy g (H (i 0)) (T (i 0)) e * g e))
        * (-(1 / 2) * (rms (H (i 0)) * rms (H (i 0)) * rms (H (i 0)))) / 1024 * H (i 0) (i 1) = _
  generalize (∑ e, H (i 0) e * (dy g (H (i 0)) (T (i 0)) e * g e)) = s
  ring

end

section
variable [Cert.Pre_finite_loss.Facts] {x0 x2 : FVec Ideal S4096x1024 .f32} {x1 : FVec Ideal S1024 .f32}

/-- Finite arguments hold the real numbers they are. -/
theorem holds_of_finite (h0 : (Cert.Pre_finite_loss.fn (F := Ideal) x0 x1 x2).1 = fun _ => 1#1)
    (h1 : (Cert.Pre_finite_loss.fn (F := Ideal) x0 x1 x2).2.1 = fun _ => 1#1)
    (h2 : (Cert.Pre_finite_loss.fn (F := Ideal) x0 x1 x2).2.2 = fun _ => 1#1) :
    ∃ (H T : Fin 4096 → Row) (g : Row), Holds H T g x0 x1 x2 :=
  ⟨fun r d => (x0 (ix2 r d)).toReal, fun r d => (x2 (ix2 r d)).toReal, fun d => (x1 (ix1 d)).toReal,
    { rows := fun _ _ => Algebra.real_of_mask x0 _ h0 _
      gain := fun _ => Algebra.real_of_mask x1 _ h1 _
      target := fun _ _ => Algebra.real_of_mask x2 _ h2 _ }⟩

end

theorem algebraic : Cert.algebraic_KernelLossIdeal_ReferenceLossIdeal_pre_finite_loss := by
  intro m ρ m' ρ' hp hag
  choose H T g hk using fun c => holds_of_finite (hp c).1 (hp c).2.1 (hp c).2.2
  refine ⟨_, _, _, Cert.KernelLossIdeal.Value.run_blocks m ρ,
    (θ_run _ _ _).mono (fun r h c => ⟨(h c).1.trans ?_, (h c).2.1.trans ?_, (h c).2.2.1.trans ?_, (h c).2.2.2⟩)
      (Cert.ReferenceLossIdeal.Value.run m' ρ')⟩
  · refine (val_main_v50_eq m' c).trans ?_
    rw [(hag c).1, (hag c).2.1, (hag c).2.2]
    exact (funext fun i => at_dr (hk c) i).trans
      (final3 m c (H c) (T c) (g c) (hk c).rows (hk c).gain (hk c).target).symm
  · refine (val_main_v51_eq _ _ _).trans ?_
    rw [(hag c).1, (hag c).2.1, (hag c).2.2]
    exact (funext fun i => at_loss (hk c) i).trans
      (final4 m c (H c) (T c) (g c) (hk c).rows (hk c).gain (hk c).target).symm
  · refine (val_main_v52_eq _ _ _).trans ?_
    rw [(hag c).1, (hag c).2.1, (hag c).2.2]
    exact (funext fun i => at_dgain (hk c) i).trans
      (final5 m c (H c) (T c) (g c) (hk c).rows (hk c).gain (hk c).target).symm

end Cert.LossAlgebra

end
-- ==== Proof.Adam.lean ====
/-
  One step of the optimiser at one entry: the new moments and the change of the weight, over the extended reals.
-/
module

public import Idealize.ShloMosaic.Lib.Pipeline.ValueKit

@[expose] public section

noncomputable section

namespace Cert.Adam

open Idealize.ShloMosaic

/-- The new first moment, from the gradient and the old one. -/
def newM (g m : Ideal .f32) : Ideal .f32 :=
  FloatOps.addf (FloatOps.mulf (FloatOps.ofBits .f32 0x3F666666#32) m) (FloatOps.mulf (FloatOps.ofBits .f32 0x3DCCCCCD#32) g)

/-- The new second moment, from the gradient and the old one. -/
def newV (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The change of the weight, from the weight, the gradient and the two old moments. -/
def delta (w g m v : Ideal .f32) : Ideal .f32 :=
  FloatOps.mulf (FloatOps.ofBits .f32 0xBA83126F#32) (FloatOps.addf
    (FloatOps.hostDivf (FloatOps.hostDivf (newM g m) (FloatOps.ofBits .f32 0x3F26BD02#32))
      (FloatOps.addf (FloatOps.hostUnary .sqrt (FloatOps.hostDivf (newV g v) (FloatOps.ofBits .f32 0x3C231ACC#32)))
        (FloatOps.ofBits .f32 0x322BCC77#32)))
    (FloatOps.mulf (FloatOps.ofBits .f32 0x3C23D70A#32) w))

end Cert.Adam

end
-- ==== Proof.AdamFfn.lean ====
/-
  The optimiser's step of a feed-forward weight, whose last three layers one call updates and whose first layer a second
  call updates in place: the kernel's program and the plain reference end with the same four results, whatever the
  arguments.
-/
module

public import proofs.«01_k».proof.Defs
public import proofs.«01_k».proof.Proof.Adam
public import proofs.«01_k».proof.Proof.Gen.KernelAdamFfnIdeal.Frame
public import proofs.«01_k».proof.Proof.Gen.ReferenceAdamFfnIdeal.Run
public import proofs.«01_k».proof.Proof.Gen.ReferenceAdamFfnIdeal.Read
public import Idealize.ShloMosaic.Lib.Pipeline.ValueKit

@[expose] public section

set_option maxRecDepth 16384

noncomputable section

namespace Cert.AdamFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelAdamFfnIdeal Cert.KernelAdamFfnIdeal.Gen Cert.Adam

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the four results and the four arguments at the last boundary's contents. -/
theorem run_all : θ_run defs (onTc (τ := τ) (main (F := F))) ⟨m, fun _ => 0, ρ⟩ (fun r => ∀ c : Dev nD,
    ∀ b ∈ [main_v1_0, main_v1_1, main_v1_2, main_v1_3, main_arg0, main_arg1, main_arg2, main_arg3],
      r.2.mem ((c.tc : Thread nD τ).loc b) = W3 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c b hb => h c _ (mem_uc b (ListAll.forall_mem_of_all_decide
      (p := fun b : Ref sig .tc => ¬ (Proc.devRef .tc b : DevRef τ sig).isScoped) (by decide +kernel) b hb)))
end

section
variable (V : (c : Dev nD) → (b : Ref sig .tc) → Buf (Elt Ideal) ((c.tc : Thread nD τ).loc b)) (c : Dev nD)

/-- The change of the weight, the new moments and the gradient, as the arguments' contents give them. -/
def resD (i : S2816x1024.Idx) : EReal := delta (V c main_arg0 i) (V c main_arg1 i) (V c main_arg2 i) (V c main_arg3 i)
def resM (i : S2816x1024.Idx) : EReal := newM (V c main_arg1 i) (V c main_arg2 i)
def resV (i : S2816x1024.Idx) : EReal := newV (V c main_arg1 i) (V c main_arg3 i)

/-! ### The first call: the last three layers -/

/-- Where each window's block lies at a grid point of the first call. -/
theorem idx0 : ∀ t : Fin cfg0.N, win0_0.index t = ![t.val + 2, 0] ∧ win0_1.index t = ![t.val + 2, 0] ∧
    win0_2.index t = ![t.val + 2, 0] ∧ win0_3.index t = ![t.val + 2, 0] ∧ win0_4.index t = ![t.val + 2, 0] ∧
    win0_5.index t = ![t.val + 2, 0] ∧ win0_6.index t = ![t.val + 2, 0] ∧ win0_7.index t = ![t.val + 2, 0] :=
  (by decide +kernel : ∀ t : Fin grid0.N, _)

theorem row0_lt (t : Fin cfg0.N) (r : Fin 352) : (t.val + 2) * 352 + r.val < 2816 := by
  have h : t.val < 6 := lt_of_lt_of_eq t.isLt N_0
  omega

/-- A row of a grid point's block among all rows. -/
def row0 (t : Fin cfg0.N) (r : Fin 352) : Fin 2816 := ⟨(t.val + 2) * 352 + r.val, row0_lt t r⟩

theorem a0 (t : Fin cfg0.N) (r : Fin 352) (d : Fin 1024) : iblk0 V c 0 t (ix2 r d) = V c main_arg0 (ix2 (row0 t r) d) := by
  blk_ext [iblk0, row0, idx0 t]
theorem a1 (t : Fin cfg0.N) (r : Fin 352) (d : Fin 1024) : iblk0 V c 1 t (ix2 r d) = V c main_arg1 (ix2 (row0 t r) d) := by
  blk_ext [iblk0, row0, idx0 t]
theorem a2 (t : Fin cfg0.N) (r : Fin 352) (d : Fin 1024) : iblk0 V c 2 t (ix2 r d) = V c main_arg2 (ix2 (row0 t r) d) := by
  blk_ext [iblk0, row0, idx0 t]
theorem a3 (t : Fin cfg0.N) (r : Fin 352) (d : Fin 1024) : iblk0 V c 3 t (ix2 r d) = V c main_arg3 (ix2 (row0 t r) d) := by
  blk_ext [iblk0, row0, idx0 t]

section
variable (x0 x1 x2 x3 : Vec Ideal S352x1024 .f32) (r : Fin 352) (d : Fin 1024)

theorem o4 : out0_4 x0 x1 x2 x3 (ix2 r d) = delta (x0 (ix2 r d)) (x1 (ix2 r d)) (x2 (ix2 r d)) (x3 (ix2 r d)) := by
  frame_out
  rfl
theorem o5 : out0_5 x0 x1 x2 x3 (ix2 r d) = newM (x1 (ix2 r d)) (x2 (ix2 r d)) := by
  frame_out
  rfl
theorem o6 : out0_6 x0 x1 x2 x3 (ix2 r d) = newV (x1 (ix2 r d)) (x3 (ix2 r d)) := by
  frame_out
  rfl
theorem o7 : out0_7 x0 x1 x2 x3 (ix2 r d) = x1 (ix2 r d) := by
  frame_out
end

theorem first4 : (dat0 V c).arrAt 4 cfg0.N = fun i => if 2 ≤ (i 0 : ℕ) / 352 then resD V c i else V c main_v0_0 i := by
  refine (dat0 V c).arrAt_eq_of_coversWhere 4 (resD V c) (fun β => 2 ≤ β (0 : Fin _)) (by decide +kernel) (fun t _ y => ?_)
    (fun j => Iff.rfl)
  idx_vars y
  blk_simp
  rw [after0_4, o4, a0, a1, a2, a3]
  exact Eq.trans (b := resD V c (ix2 (row0 t y0) y1)) rfl (by blk_ext [row0, idx0 t])
theorem first5 : (dat0 V c).arrAt 5 cfg0.N = fun i => if 2 ≤ (i 0 : ℕ) / 352 then resM V c i else V c main_v0_1 i := by
  refine (dat0 V c).arrAt_eq_of_coversWhere 5 (resM V c) (fun β => 2 ≤ β (0 : Fin _)) (by decide +kernel) (fun t _ y => ?_)
    (fun j => Iff.rfl)
  idx_vars y
  blk_simp
  rw [after0_5, o5, a1, a2]
  exact Eq.trans (b := resM V c (ix2 (row0 t y0) y1)) rfl (by blk_ext [row0, idx0 t])
theorem first6 : (dat0 V c).arrAt 6 cfg0.N = fun i => if 2 ≤ (i 0 : ℕ) / 352 then resV V c i else V c main_v0_2 i := by
  refine (dat0 V c).arrAt_eq_of_coversWhere 6 (resV V c) (fun β => 2 ≤ β (0 : Fin _)) (by decide +kernel) (fun t _ y => ?_)
    (fun j => Iff.rfl)
  idx_vars y
  blk_simp
  rw [after0_6, o6, a1, a3]
  exact Eq.trans (b := resV V c (ix2 (row0 t y0) y1)) rfl (by blk_ext [row0, idx0 t])
theorem first7 : (dat0 V c).arrAt 7 cfg0.N
    = fun i => if 2 ≤ (i 0 : ℕ) / 352 then V c main_arg1 i else V c main_v0_3 i := by
  refine (dat0 V c).arrAt_eq_of_coversWhere 7 (V c main_arg1) (fun β => 2 ≤ β (0 : Fin _)) (by decide +kernel)
    (fun t _ y => ?_) (fun j => Iff.rfl)
  idx_vars y
  blk_simp
  rw [after0_7, o7, a1]
  blk_ext [row0, idx0 t]

/-! ### The second call: the first layer, over what the first call left -/

/-- Where each window's block lies at a grid point of the second call. -/
theorem idx1 : ∀ t : Fin cfg1.N, win1_0.index t = ![t.val, 0] ∧ win1_1.index t = ![t.val, 0] ∧
    win1_2.index t = ![t.val, 0] ∧ win1_3.index t = ![t.val, 0] ∧ win1_4.index t = ![t.val, 0] ∧
    win1_5.index t = ![t.val, 0] ∧ win1_6.index t = ![t.val, 0] ∧ win1_7.index t = ![t.val, 0] :=
  (by decide +kernel : ∀ t : Fin grid1.N, _)

theorem row1_lt (t : Fin cfg1.N) (r : Fin 352) : t.val * 352 + r.val < 2816 := by
  have h : t.val < 2 := lt_of_lt_of_eq t.isLt N_1
  omega

def row1 (t : Fin cfg1.N) (r : Fin 352) : Fin 2816 := ⟨t.val * 352 + r.val, row1_lt t r⟩

theorem b0 (t : Fin cfg1.N) (r : Fin 352) (d : Fin 1024) : iblk1 V c 0 t (ix2 r d) = V c main_arg0 (ix2 (row1 t r) d) := by
  blk_ext [iblk1, row1, idx1 t]
theorem b1 (t : Fin cfg1.N) (r : Fin 352) (d : Fin 1024) : iblk1 V c 1 t (ix2 r d) = V c main_arg1 (ix2 (row1 t r) d) := by
  blk_ext [iblk1, row1, idx1 t]
theorem b2 (t : Fin cfg1.N) (r : Fin 352) (d : Fin 1024) : iblk1 V c 2 t (ix2 r d) = V c main_arg2 (ix2 (row1 t r) d) := by
  blk_ext [iblk1, row1, idx1 t]
theorem b3 (t : Fin cfg1.N) (r : Fin 352) (d : Fin 1024) : iblk1 V c 3 t (ix2 r d) = V c main_arg3 (ix2 (row1 t r) d) := by
  blk_ext [iblk1, row1, idx1 t]

section
variable (t : Fin cfg1.N) (r : Fin 352) (d : Fin 1024)

theorem p4 : (outsAt1 V c t).1 (ix2 r d) = resD V c (ix2 (row1 t r) d) := by
  unfold resD
  rw [← b0 V c, ← b1 V c, ← b2 V c, ← b3 V c]
  unfold outsAt1
  frame_out
  rfl
theorem p5 : (outsAt1 V c t).2.1 (ix2 r d) = resM V c (ix2 (row1 t r) d) := by
  unfold resM
  rw [← b1 V c, ← b2 V c]
  unfold outsAt1
  frame_out
  rfl
theorem p6 : (outsAt1 V c t).2.2.1 (ix2 r d) = resV V c (ix2 (row1 t r) d) := by
  unfold resV
  rw [← b1 V c, ← b3 V c]
  unfold outsAt1
  frame_out
  rfl
theorem p7 : (outsAt1 V c t).2.2.2 (ix2 r d) = V c main_arg1 (ix2 (row1 t r) d) := by
  rw [← b1 V c]
  unfold outsAt1
  frame_out
end

theorem second4 (h : ∀ i : S2816x1024.Idx, 2 ≤ (i 0 : ℕ) / 352 → V c main_v1_0 i = resD V c i) :
    (dat1 V c).arrAt 4 cfg1.N = resD V c := by
  refine (dat1 V c).arrAt_eq_of_coversWhere_of_agree 4 (resD V c) (fun β => β (0 : Fin _) < 2) (by decide +kernel)
    (fun t _ y => ?_) (fun j hj => h _ (not_lt.mp hj))
  idx_vars y
  blk_simp
  rw [after1_4, p4]
  blk_ext [row1, idx1 t]
theorem second5 (h : ∀ i : S2816x1024.Idx, 2 ≤ (i 0 : ℕ) / 352 → V c main_v1_1 i = resM V c i) :
    (dat1 V c).arrAt 5 cfg1.N = resM V c := by
  refine (dat1 V c).arrAt_eq_of_coversWhere_of_agree 5 (resM V c) (fun β => β (0 : Fin _) < 2) (by decide +kernel)
    (fun t _ y => ?_) (fun j hj => h _ (not_lt.mp hj))
  idx_vars y
  blk_simp
  rw [after1_5, p5]
  blk_ext [row1, idx1 t]
theorem second6 (h : ∀ i : S2816x1024.Idx, 2 ≤ (i 0 : ℕ) / 352 → V c main_v1_2 i = resV V c i) :
    (dat1 V c).arrAt 6 cfg1.N = resV V c := by
  refine (dat1 V c).arrAt_eq_of_coversWhere_of_agree 6 (resV V c) (fun β => β (0 : Fin _) < 2) (by decide +kernel)
    (fun t _ y => ?_) (fun j hj => h _ (not_lt.mp hj))
  idx_vars y
  blk_simp
  rw [after1_6, p6]
  blk_ext [row1, idx1 t]
theorem second7 (h : ∀ i : S2816x1024.Idx, 2 ≤ (i 0 : ℕ) / 352 → V c main_v1_3 i = V c main_arg1 i) :
    (dat1 V c).arrAt 7 cfg1.N = V c main_arg1 := by
  refine (dat1 V c).arrAt_eq_of_coversWhere_of_agree 7 (V c main_arg1) (fun β => β (0 : Fin _) < 2) (by decide +kernel)
    (fun t _ y => ?_) (fun j hj => h _ (not_lt.mp hj))
  idx_vars y
  blk_simp
  rw [after1_7, p7]
  blk_ext [row1, idx1 t]
end

section
variable (m : (ℓ : Loc nD τ sig) → Buf (Elt Ideal) ℓ) (ρ : Dev nD → PrngReg) (c : Dev nD)

/-- The arguments reach the second call as launched. -/
theorem arg (b : Ref sig .tc) (hb : b ∈ argRefs) : V2 m ρ c b = V0 m ρ c b := W2_args m ρ c b hb

theorem resD_eq : resD (V2 m ρ) c = resD (V0 m ρ) c := by
  funext i
  unfold resD
  rw [arg m ρ c main_arg0 (by decide), arg m ρ c main_arg1 (by decide), arg m ρ c main_arg2 (by decide),
    arg m ρ c main_arg3 (by decide)]
theorem resM_eq : resM (V2 m ρ) c = resM (V0 m ρ) c := by
  funext i
  unfold resM
  rw [arg m ρ c main_arg1 (by decide), arg m ρ c main_arg2 (by decide)]
theorem resV_eq : resV (V2 m ρ) c = resV (V0 m ρ) c := by
  funext i
  unfold resV
  rw [arg m ρ c main_arg1 (by decide), arg m ρ c main_arg3 (by decide)]

theorem copy0 : V2 m ρ c main_v1_0 = W1 m ρ c (Proc.devRef .tc main_v0_0) := by
  show StableHlo.after hostOps1 (W1 m ρ c) (Proc.devRef .tc main_v1_0) = _
  entry_read
  rfl
theorem copy1 : V2 m ρ c main_v1_1 = W1 m ρ c (Proc.devRef .tc main_v0_1) := by
  show StableHlo.after hostOps1 (W1 m ρ c) (Proc.devRef .tc main_v1_1) = _
  entry_read
  rfl
theorem copy2 : V2 m ρ c main_v1_2 = W1 m ρ c (Proc.devRef .tc main_v0_2) := by
  show StableHlo.after hostOps1 (W1 m ρ c) (Proc.devRef .tc main_v1_2) = _
  entry_read
  rfl
theorem copy3 : V2 m ρ c main_v1_3 = W1 m ρ c (Proc.devRef .tc main_v0_3) := by
  show StableHlo.after hostOps1 (W1 m ρ c) (Proc.devRef .tc main_v1_3) = _
  entry_read
  rfl

theorem last4 : W3 m ρ c (Proc.devRef .tc main_v1_0) = resD (V0 m ρ) c :=
  (W3_arr m ρ c 4).trans ((second4 (V2 m ρ) c fun i hi => (congrFun ((copy0 m ρ c).trans ((W1_arr m ρ c 4).trans
    (first4 (V0 m ρ) c))) i).trans ((if_pos hi).trans (congrFun (resD_eq m ρ c) i).symm)).trans (resD_eq m ρ c))
theorem last5 : W3 m ρ c (Proc.devRef .tc main_v1_1) = resM (V0 m ρ) c :=
  (W3_arr m ρ c 5).trans ((second5 (V2 m ρ) c fun i hi => (congrFun ((copy1 m ρ c).trans ((W1_arr m ρ c 5).trans
    (first5 (V0 m ρ) c))) i).trans ((if_pos hi).trans (congrFun (resM_eq m ρ c) i).symm)).trans (resM_eq m ρ c))
theorem last6 : W3 m ρ c (Proc.devRef .tc main_v1_2) = resV (V0 m ρ) c :=
  (W3_arr m ρ c 6).trans ((second6 (V2 m ρ) c fun i hi => (congrFun ((copy2 m ρ c).trans ((W1_arr m ρ c 6).trans
    (first6 (V0 m ρ) c))) i).trans ((if_pos hi).trans (congrFun (resV_eq m ρ c) i).symm)).trans (resV_eq m ρ c))
theorem last7 : W3 m ρ c (Proc.devRef .tc main_v1_3) = V0 m ρ c main_arg1 :=
  (W3_arr m ρ c 7).trans ((second7 (V2 m ρ) c fun i hi => (congrFun ((copy3 m ρ c).trans ((W1_arr m ρ c 7).trans
    (first7 (V0 m ρ) c))) i).trans ((if_pos hi).trans (congrFun (arg m ρ c main_arg1 (by decide)) i).symm)).trans
      (arg m ρ c main_arg1 (by decide)))

/-- Every run ends with the step's results and the arguments as launched. -/
theorem run : θ_run defs (onTc (τ := τ) (main (F := Ideal))) ⟨m, fun _ => 0, ρ⟩ (fun r => ∀ c : Dev nD,
    r.2.mem (c.tc.loc main_v1_0) = resD (V0 m ρ) c ∧ r.2.mem (c.tc.loc main_v1_1) = resM (V0 m ρ) c ∧
    r.2.mem (c.tc.loc main_v1_2) = resV (V0 m ρ) c ∧ r.2.mem (c.tc.loc main_v1_3) = m (c.tc.loc main_arg1) ∧
    r.2.mem (c.tc.loc main_arg0) = m (c.tc.loc main_arg0) ∧ r.2.mem (c.tc.loc main_arg1) = m (c.tc.loc main_arg1) ∧
    r.2.mem (c.tc.loc main_arg2) = m (c.tc.loc main_arg2) ∧ r.2.mem (c.tc.loc main_arg3) = m (c.tc.loc main_arg3)) :=
  (θ_run _ _ _).mono (fun r h c =>
    ⟨(h c main_v1_0 (by decide)).trans (last4 m ρ c), (h c main_v1_1 (by decide)).trans (last5 m ρ c),
     (h c main_v1_2 (by decide)).trans (last6 m ρ c), (h c main_v1_3 (by decide)).trans (last7 m ρ c),
     (h c main_arg0 (by decide)).trans (W3_main_arg0 m ρ c), (h c main_arg1 (by decide)).trans (W3_main_arg1 m ρ c),
     (h c main_arg2 (by decide)).trans (W3_main_arg2 m ρ c), (h c main_arg3 (by decide)).trans (W3_main_arg3 m ρ c)⟩)
    (run_all m ρ)
end

section
open Cert.ReferenceAdamFfnIdeal.Read
variable (w g m v : Vec Ideal S2816x1024 .f32) (i : S2816x1024.Idx)

theorem ref_m : val_main_v4 (F := Ideal) g m i = newM (g i) (m i) := by
  rw [val_main_v4_apply, val_main_v3_apply, val_main_v2_apply, val_main_cst_0_apply, val_main_v1_apply, val_main_v0_apply,
    val_main_cst_apply]
  rfl

theorem ref_v : val_main_v10 (F := Ideal) g v i = newV (g i) (v i) := by
  rw [val_main_v10_apply, val_main_v9_apply, val_main_v8_apply, val_main_cst_2_apply, val_main_v7_apply, val_main_v6_apply,
    val_main_v5_apply, val_main_cst_1_apply]
  rfl

theorem ref_d : val_main_v23 (F := Ideal) w g m v i = delta (w i) (g i) (m i) (v i) := by
  rw [val_main_v23_apply, val_main_v22_apply, val_main_cst_7_apply, val_main_v21_apply, val_main_v20_apply, val_main_v19_apply,
    val_main_cst_6_apply, val_main_v18_apply, val_main_v17_apply, val_main_v16_apply, val_main_cst_5_apply, val_main_v15_apply,
    val_main_v14_apply, val_main_v13_apply, val_main_cst_4_apply, ref_v, val_main_v12_apply, val_main_v11_apply,
    val_main_cst_3_apply, ref_m]
  rfl
end

theorem algebraic : Cert.algebraic_KernelAdamFfnIdeal_ReferenceAdamFfnIdeal := by
  intro m ρ m' ρ' _ hag
  refine ⟨_, _, _, _, run m ρ, (θ_run _ _ _).mono (fun r h c => ⟨(h c).1.trans ?_, (h c).2.1.trans ?_,
      (h c).2.2.1.trans ?_, (h c).2.2.2.1.trans ?_, (h c).2.2.2.2⟩) (Cert.ReferenceAdamFfnIdeal.Value.run m' ρ')⟩
  · refine (Cert.ReferenceAdamFfnIdeal.Read.val_main_v23_eq _ _ _ _).trans ?_
    rw [(hag c).1, (hag c).2.1, (hag c).2.2.1, (hag c).2.2.2]
    exact funext fun i => ref_d _ _ _ _ i
  · refine (Cert.ReferenceAdamFfnIdeal.Read.val_main_v4_eq _ _).trans ?_
    rw [(hag c).2.1, (hag c).2.2.1]
    exact funext fun i => ref_m _ _ i
  · refine (Cert.ReferenceAdamFfnIdeal.Read.val_main_v10_eq _ _).trans ?_
    rw [(hag c).2.1, (hag c).2.2.2]
    exact funext fun i => ref_v _ _ i
  · exact (hag c).2.1

end Cert.AdamFfn

end
-- ==== Proof.AdamIn.lean ====
/-
  The optimiser's step of the input projection's weight, whose last three layers one call updates and whose first layer a second
  call updates in place: the kernel's program and the plain reference end with the same four results, whatever the
  arguments.
-/
module

public import proofs.«01_k».proof.Defs
public import proofs.«01_k».proof.Proof.Adam
public import proofs.«01_k».proof.Proof.Gen.KernelAdamInIdeal.Frame
public import proofs.«01_k».proof.Proof.Gen.ReferenceAdamInIdeal.Run
public import proofs.«01_k».proof.Proof.Gen.ReferenceAdamInIdeal.Read
public import Idealize.ShloMosaic.Lib.Pipeline.ValueKit

@[expose] public section

set_option maxRecDepth 16384

noncomputable section

namespace Cert.AdamIn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelAdamInIdeal Cert.KernelAdamInIdeal.Gen Cert.Adam

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the four results and the four arguments at the last boundary's contents. -/
theorem run_all : θ_run defs (onTc (τ := τ) (main (F := F))) ⟨m, fun _ => 0, ρ⟩ (fun r => ∀ c : Dev nD,
    ∀ b ∈ [main_v1_0, main_v1_1, main_v1_2, main_v1_3, main_arg0, main_arg1, main_arg2, main_arg3],
      r.2.mem ((c.tc : Thread nD τ).loc b) = W3 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c b hb => h c _ (mem_uc b (ListAll.forall_mem_of_all_decide
      (p := fun b : Ref sig .tc => ¬ (Proc.devRef .tc b : DevRef τ sig).isScoped) (by decide +kernel) b hb)))
end

section
variable (V : (c : Dev nD) → (b : Ref sig .tc) → Buf (Elt Ideal) ((c.tc : Thread nD τ).loc b)) (c : Dev nD)

/-- The change of the weight, the new moments and the gradient, as the arguments' contents give them. -/
def resD (i : S4096x768.Idx) : EReal := delta (V c main_arg0 i) (V c main_arg1 i) (V c main_arg2 i) (V c main_arg3 i)
def resM (i : S4096x768.Idx) : EReal := newM (V c main_arg1 i) (V c main_arg2 i)
def resV (i : S4096x768.Idx) : EReal := newV (V c main_arg1 i) (V c main_arg3 i)

/-! ### The first call: the last three layers -/

/-- Where each window's block lies at a grid point of the first call. -/
theorem idx0 : ∀ t : Fin cfg0.N, win0_0.index t = ![t.val + 2, 0] ∧ win0_1.index t = ![t.val + 2, 0] ∧
    win0_2.index t = ![t.val + 2, 0] ∧ win0_3.index t = ![t.val + 2, 0] ∧ win0_4.index t = ![t.val + 2, 0] ∧
    win0_5.index t = ![t.val + 2, 0] ∧ win0_6.index t = ![t.val + 2, 0] ∧ win0_7.index t = ![t.val + 2, 0] :=
  (by decide +kernel : ∀ t : Fin grid0.N, _)

theorem row0_lt (t : Fin cfg0.N) (r : Fin 512) : (t.val + 2) * 512 + r.val < 4096 := by
  have h : t.val < 6 := lt_of_lt_of_eq t.isLt N_0
  omega

/-- A row of a grid point's block among all rows. -/
def row0 (t : Fin cfg0.N) (r : Fin 512) : Fin 4096 := ⟨(t.val + 2) * 512 + r.val, row0_lt t r⟩

theorem a0 (t : Fin cfg0.N) (r : Fin 512) (d : Fin 768) : iblk0 V c 0 t (ix2 r d) = V c main_arg0 (ix2 (row0 t r) d) := by
  blk_ext [iblk0, row0, idx0 t]
theorem a1 (t : Fin cfg0.N) (r : Fin 512) (d : Fin 768) : iblk0 V c 1 t (ix2 r d) = V c main_arg1 (ix2 (row0 t r) d) := by
  blk_ext [iblk0, row0, idx0 t]
theorem a2 (t : Fin cfg0.N) (r : Fin 512) (d : Fin 768) : iblk0 V c 2 t (ix2 r d) = V c main_arg2 (ix2 (row0 t r) d) := by
  blk_ext [iblk0, row0, idx0 t]
theorem a3 (t : Fin cfg0.N) (r : Fin 512) (d : Fin 768) : iblk0 V c 3 t (ix2 r d) = V c main_arg3 (ix2 (row0 t r) d) := by
  blk_ext [iblk0, row0, idx0 t]

section
variable (x0 x1 x2 x3 : Vec Ideal S512x768 .f32) (r : Fin 512) (d : Fin 768)

theorem o4 : out0_4 x0 x1 x2 x3 (ix2 r d) = delta (x0 (ix2 r d)) (x1 (ix2 r d)) (x2 (ix2 r d)) (x3 (ix2 r d)) := by
  frame_out
  rfl
theorem o5 : out0_5 x0 x1 x2 x3 (ix2 r d) = newM (x1 (ix2 r d)) (x2 (ix2 r d)) := by
  frame_out
  rfl
theorem o6 : out0_6 x0 x1 x2 x3 (ix2 r d) = newV (x1 (ix2 r d)) (x3 (ix2 r d)) := by
  frame_out
  rfl
theorem o7 : out0_7 x0 x1 x2 x3 (ix2 r d) = x1 (ix2 r d) := by
  frame_out
end

theorem first4 : (dat0 V c).arrAt 4 cfg0.N = fun i => if 2 ≤ (i 0 : ℕ) / 512 then resD V c i else V c main_v0_0 i := by
  refine (dat0 V c).arrAt_eq_of_coversWhere 4 (resD V c) (fun β => 2 ≤ β (0 : Fin _)) (by decide +kernel) (fun t _ y => ?_)
    (fun j => Iff.rfl)
  idx_vars y
  blk_simp
  rw [after0_4, o4, a0, a1, a2, a3]
  exact Eq.trans (b := resD V c (ix2 (row0 t y0) y1)) rfl (by blk_ext [row0, idx0 t])
theorem first5 : (dat0 V c).arrAt 5 cfg0.N = fun i => if 2 ≤ (i 0 : ℕ) / 512 then resM V c i else V c main_v0_1 i := by
  refine (dat0 V c).arrAt_eq_of_coversWhere 5 (resM V c) (fun β => 2 ≤ β (0 : Fin _)) (by decide +kernel) (fun t _ y => ?_)
    (fun j => Iff.rfl)
  idx_vars y
  blk_simp
  rw [after0_5, o5, a1, a2]
  exact Eq.trans (b := resM V c (ix2 (row0 t y0) y1)) rfl (by blk_ext [row0, idx0 t])
theorem first6 : (dat0 V c).arrAt 6 cfg0.N = fun i => if 2 ≤ (i 0 : ℕ) / 512 then resV V c i else V c main_v0_2 i := by
  refine (dat0 V c).arrAt_eq_of_coversWhere 6 (resV V c) (fun β => 2 ≤ β (0 : Fin _)) (by decide +kernel) (fun t _ y => ?_)
    (fun j => Iff.rfl)
  idx_vars y
  blk_simp
  rw [after0_6, o6, a1, a3]
  exact Eq.trans (b := resV V c (ix2 (row0 t y0) y1)) rfl (by blk_ext [row0, idx0 t])
theorem first7 : (dat0 V c).arrAt 7 cfg0.N
    = fun i => if 2 ≤ (i 0 : ℕ) / 512 then V c main_arg1 i else V c main_v0_3 i := by
  refine (dat0 V c).arrAt_eq_of_coversWhere 7 (V c main_arg1) (fun β => 2 ≤ β (0 : Fin _)) (by decide +kernel)
    (fun t _ y => ?_) (fun j => Iff.rfl)
  idx_vars y
  blk_simp
  rw [after0_7, o7, a1]
  blk_ext [row0, idx0 t]

/-! ### The second call: the first layer, over what the first call left -/

/-- Where each window's block lies at a grid point of the second call. -/
theorem idx1 : ∀ t : Fin cfg1.N, win1_0.index t = ![t.val, 0] ∧ win1_1.index t = ![t.val, 0] ∧
    win1_2.index t = ![t.val, 0] ∧ win1_3.index t = ![t.val, 0] ∧ win1_4.index t = ![t.val, 0] ∧
    win1_5.index t = ![t.val, 0] ∧ win1_6.index t = ![t.val, 0] ∧ win1_7.index t = ![t.val, 0] :=
  (by decide +kernel : ∀ t : Fin grid1.N, _)

theorem row1_lt (t : Fin cfg1.N) (r : Fin 512) : t.val * 512 + r.val < 4096 := by
  have h : t.val < 2 := lt_of_lt_of_eq t.isLt N_1
  omega

def row1 (t : Fin cfg1.N) (r : Fin 512) : Fin 4096 := ⟨t.val * 512 + r.val, row1_lt t r⟩

theorem b0 (t : Fin cfg1.N) (r : Fin 512) (d : Fin 768) : iblk1 V c 0 t (ix2 r d) = V c main_arg0 (ix2 (row1 t r) d) := by
  blk_ext [iblk1, row1, idx1 t]
theorem b1 (t : Fin cfg1.N) (r : Fin 512) (d : Fin 768) : iblk1 V c 1 t (ix2 r d) = V c main_arg1 (ix2 (row1 t r) d) := by
  blk_ext [iblk1, row1, idx1 t]
theorem b2 (t : Fin cfg1.N) (r : Fin 512) (d : Fin 768) : iblk1 V c 2 t (ix2 r d) = V c main_arg2 (ix2 (row1 t r) d) := by
  blk_ext [iblk1, row1, idx1 t]
theorem b3 (t : Fin cfg1.N) (r : Fin 512) (d : Fin 768) : iblk1 V c 3 t (ix2 r d) = V c main_arg3 (ix2 (row1 t r) d) := by
  blk_ext [iblk1, row1, idx1 t]

section
variable (t : Fin cfg1.N) (r : Fin 512) (d : Fin 768)

theorem p4 : (outsAt1 V c t).1 (ix2 r d) = resD V c (ix2 (row1 t r) d) := by
  unfold resD
  rw [← b0 V c, ← b1 V c, ← b2 V c, ← b3 V c]
  unfold outsAt1
  frame_out
  rfl
theorem p5 : (outsAt1 V c t).2.1 (ix2 r d) = resM V c (ix2 (row1 t r) d) := by
  unfold resM
  rw [← b1 V c, ← b2 V c]
  unfold outsAt1
  frame_out
  rfl
theorem p6 : (outsAt1 V c t).2.2.1 (ix2 r d) = resV V c (ix2 (row1 t r) d) := by
  unfold resV
  rw [← b1 V c, ← b3 V c]
  unfold outsAt1
  frame_out
  rfl
theorem p7 : (outsAt1 V c t).2.2.2 (ix2 r d) = V c main_arg1 (ix2 (row1 t r) d) := by
  rw [← b1 V c]
  unfold outsAt1
  frame_out
end

theorem second4 (h : ∀ i : S4096x768.Idx, 2 ≤ (i 0 : ℕ) / 512 → V c main_v1_0 i = resD V c i) :
    (dat1 V c).arrAt 4 cfg1.N = resD V c := by
  refine (dat1 V c).arrAt_eq_of_coversWhere_of_agree 4 (resD V c) (fun β => β (0 : Fin _) < 2) (by decide +kernel)
    (fun t _ y => ?_) (fun j hj => h _ (not_lt.mp hj))
  idx_vars y
  blk_simp
  rw [after1_4, p4]
  blk_ext [row1, idx1 t]
theorem second5 (h : ∀ i : S4096x768.Idx, 2 ≤ (i 0 : ℕ) / 512 → V c main_v1_1 i = resM V c i) :
    (dat1 V c).arrAt 5 cfg1.N = resM V c := by
  refine (dat1 V c).arrAt_eq_of_coversWhere_of_agree 5 (resM V c) (fun β => β (0 : Fin _) < 2) (by decide +kernel)
    (fun t _ y => ?_) (fun j hj => h _ (not_lt.mp hj))
  idx_vars y
  blk_simp
  rw [after1_5, p5]
  blk_ext [row1, idx1 t]
theorem second6 (h : ∀ i : S4096x768.Idx, 2 ≤ (i 0 : ℕ) / 512 → V c main_v1_2 i = resV V c i) :
    (dat1 V c).arrAt 6 cfg1.N = resV V c := by
  refine (dat1 V c).arrAt_eq_of_coversWhere_of_agree 6 (resV V c) (fun β => β (0 : Fin _) < 2) (by decide +kernel)
    (fun t _ y => ?_) (fun j hj => h _ (not_lt.mp hj))
  idx_vars y
  blk_simp
  rw [after1_6, p6]
  blk_ext [row1, idx1 t]
theorem second7 (h : ∀ i : S4096x768.Idx, 2 ≤ (i 0 : ℕ) / 512 → V c main_v1_3 i = V c main_arg1 i) :
    (dat1 V c).arrAt 7 cfg1.N = V c main_arg1 := by
  refine (dat1 V c).arrAt_eq_of_coversWhere_of_agree 7 (V c main_arg1) (fun β => β (0 : Fin _) < 2) (by decide +kernel)
    (fun t _ y => ?_) (fun j hj => h _ (not_lt.mp hj))
  idx_vars y
  blk_simp
  rw [after1_7, p7]
  blk_ext [row1, idx1 t]
end

section
variable (m : (ℓ : Loc nD τ sig) → Buf (Elt Ideal) ℓ) (ρ : Dev nD → PrngReg) (c : Dev nD)

/-- The arguments reach the second call as launched. -/
theorem arg (b : Ref sig .tc) (hb : b ∈ argRefs) : V2 m ρ c b = V0 m ρ c b := W2_args m ρ c b hb

theorem resD_eq : resD (V2 m ρ) c = resD (V0 m ρ) c := by
  funext i
  unfold resD
  rw [arg m ρ c main_arg0 (by decide), arg m ρ c main_arg1 (by decide), arg m ρ c main_arg2 (by decide),
    arg m ρ c main_arg3 (by decide)]
theorem resM_eq : resM (V2 m ρ) c = resM (V0 m ρ) c := by
  funext i
  unfold resM
  rw [arg m ρ c main_arg1 (by decide), arg m ρ c main_arg2 (by decide)]
theorem resV_eq : resV (V2 m ρ) c = resV (V0 m ρ) c := by
  funext i
  unfold resV
  rw [arg m ρ c main_arg1 (by decide), arg m ρ c main_arg3 (by decide)]

theorem copy0 : V2 m ρ c main_v1_0 = W1 m ρ c (Proc.devRef .tc main_v0_0) := by
  show StableHlo.after hostOps1 (W1 m ρ c) (Proc.devRef .tc main_v1_0) = _
  entry_read
  rfl
theorem copy1 : V2 m ρ c main_v1_1 = W1 m ρ c (Proc.devRef .tc main_v0_1) := by
  show StableHlo.after hostOps1 (W1 m ρ c) (Proc.devRef .tc main_v1_1) = _
  entry_read
  rfl
theorem copy2 : V2 m ρ c main_v1_2 = W1 m ρ c (Proc.devRef .tc main_v0_2) := by
  show StableHlo.after hostOps1 (W1 m ρ c) (Proc.devRef .tc main_v1_2) = _
  entry_read
  rfl
theorem copy3 : V2 m ρ c main_v1_3 = W1 m ρ c (Proc.devRef .tc main_v0_3) := by
  show StableHlo.after hostOps1 (W1 m ρ c) (Proc.devRef .tc main_v1_3) = _
  entry_read
  rfl

theorem last4 : W3 m ρ c (Proc.devRef .tc main_v1_0) = resD (V0 m ρ) c :=
  (W3_arr m ρ c 4).trans ((second4 (V2 m ρ) c fun i hi => (congrFun ((copy0 m ρ c).trans ((W1_arr m ρ c 4).trans
    (first4 (V0 m ρ) c))) i).trans ((if_pos hi).trans (congrFun (resD_eq m ρ c) i).symm)).trans (resD_eq m ρ c))
theorem last5 : W3 m ρ c (Proc.devRef .tc main_v1_1) = resM (V0 m ρ) c :=
  (W3_arr m ρ c 5).trans ((second5 (V2 m ρ) c fun i hi => (congrFun ((copy1 m ρ c).trans ((W1_arr m ρ c 5).trans
    (first5 (V0 m ρ) c))) i).trans ((if_pos hi).trans (congrFun (resM_eq m ρ c) i).symm)).trans (resM_eq m ρ c))
theorem last6 : W3 m ρ c (Proc.devRef .tc main_v1_2) = resV (V0 m ρ) c :=
  (W3_arr m ρ c 6).trans ((second6 (V2 m ρ) c fun i hi => (congrFun ((copy2 m ρ c).trans ((W1_arr m ρ c 6).trans
    (first6 (V0 m ρ) c))) i).trans ((if_pos hi).trans (congrFun (resV_eq m ρ c) i).symm)).trans (resV_eq m ρ c))
theorem last7 : W3 m ρ c (Proc.devRef .tc main_v1_3) = V0 m ρ c main_arg1 :=
  (W3_arr m ρ c 7).trans ((second7 (V2 m ρ) c fun i hi => (congrFun ((copy3 m ρ c).trans ((W1_arr m ρ c 7).trans
    (first7 (V0 m ρ) c))) i).trans ((if_pos hi).trans (congrFun (arg m ρ c main_arg1 (by decide)) i).symm)).trans
      (arg m ρ c main_arg1 (by decide)))

/-- Every run ends with the step's results and the arguments as launched. -/
theorem run : θ_run defs (onTc (τ := τ) (main (F := Ideal))) ⟨m, fun _ => 0, ρ⟩ (fun r => ∀ c : Dev nD,
    r.2.mem (c.tc.loc main_v1_0) = resD (V0 m ρ) c ∧ r.2.mem (c.tc.loc main_v1_1) = resM (V0 m ρ) c ∧
    r.2.mem (c.tc.loc main_v1_2) = resV (V0 m ρ) c ∧ r.2.mem (c.tc.loc main_v1_3) = m (c.tc.loc main_arg1) ∧
    r.2.mem (c.tc.loc main_arg0) = m (c.tc.loc main_arg0) ∧ r.2.mem (c.tc.loc main_arg1) = m (c.tc.loc main_arg1) ∧
    r.2.mem (c.tc.loc main_arg2) = m (c.tc.loc main_arg2) ∧ r.2.mem (c.tc.loc main_arg3) = m (c.tc.loc main_arg3)) :=
  (θ_run _ _ _).mono (fun r h c =>
    ⟨(h c main_v1_0 (by decide)).trans (last4 m ρ c), (h c main_v1_1 (by decide)).trans (last5 m ρ c),
     (h c main_v1_2 (by decide)).trans (last6 m ρ c), (h c main_v1_3 (by decide)).trans (last7 m ρ c),
     (h c main_arg0 (by decide)).trans (W3_main_arg0 m ρ c), (h c main_arg1 (by decide)).trans (W3_main_arg1 m ρ c),
     (h c main_arg2 (by decide)).trans (W3_main_arg2 m ρ c), (h c main_arg3 (by decide)).trans (W3_main_arg3 m ρ c)⟩)
    (run_all m ρ)
end

section
open Cert.ReferenceAdamInIdeal.Read
variable (w g m v : Vec Ideal S4096x768 .f32) (i : S4096x768.Idx)

theorem ref_m : val_main_v4 (F := Ideal) g m i = newM (g i) (m i) := by
  rw [val_main_v4_apply, val_main_v3_apply, val_main_v2_apply, val_main_cst_0_apply, val_main_v1_apply, val_main_v0_apply,
    val_main_cst_apply]
  rfl

theorem ref_v : val_main_v10 (F := Ideal) g v i = newV (g i) (v i) := by
  rw [val_main_v10_apply, val_main_v9_apply, val_main_v8_apply, val_main_cst_2_apply, val_main_v7_apply, val_main_v6_apply,
    val_main_v5_apply, val_main_cst_1_apply]
  rfl

theorem ref_d : val_main_v23 (F := Ideal) w g m v i = delta (w i) (g i) (m i) (v i) := by
  rw [val_main_v23_apply, val_main_v22_apply, val_main_cst_7_apply, val_main_v21_apply, val_main_v20_apply, val_main_v19_apply,
    val_main_cst_6_apply, val_main_v18_apply, val_main_v17_apply, val_main_v16_apply, val_main_cst_5_apply, val_main_v15_apply,
    val_main_v14_apply, val_main_v13_apply, val_main_cst_4_apply, ref_v, val_main_v12_apply, val_main_v11_apply,
    val_main_cst_3_apply, ref_m]
  rfl
end

theorem algebraic : Cert.algebraic_KernelAdamInIdeal_ReferenceAdamInIdeal := by
  intro m ρ m' ρ' _ hag
  refine ⟨_, _, _, _, run m ρ, (θ_run _ _ _).mono (fun r h c => ⟨(h c).1.trans ?_, (h c).2.1.trans ?_,
      (h c).2.2.1.trans ?_, (h c).2.2.2.1.trans ?_, (h c).2.2.2.2⟩) (Cert.ReferenceAdamInIdeal.Value.run m' ρ')⟩
  · refine (Cert.ReferenceAdamInIdeal.Read.val_main_v23_eq _ _ _ _).trans ?_
    rw [(hag c).1, (hag c).2.1, (hag c).2.2.1, (hag c).2.2.2]
    exact funext fun i => ref_d _ _ _ _ i
  · refine (Cert.ReferenceAdamInIdeal.Read.val_main_v4_eq _ _).trans ?_
    rw [(hag c).2.1, (hag c).2.2.1]
    exact funext fun i => ref_m _ _ i
  · refine (Cert.ReferenceAdamInIdeal.Read.val_main_v10_eq _ _).trans ?_
    rw [(hag c).2.1, (hag c).2.2.2]
    exact funext fun i => ref_v _ _ i
  · exact (hag c).2.1

end Cert.AdamIn

end
-- ==== Proof.AdamOut.lean ====
/-
  The optimiser's step of the output projection's weight, whose last three layers one call updates and whose first layer a second
  call updates in place: the kernel's program and the plain reference end with the same four results, whatever the
  arguments.
-/
module

public import proofs.«01_k».proof.Defs
public import proofs.«01_k».proof.Proof.Adam
public import proofs.«01_k».proof.Proof.Gen.KernelAdamOutIdeal.Frame
public import proofs.«01_k».proof.Proof.Gen.ReferenceAdamOutIdeal.Run
public import proofs.«01_k».proof.Proof.Gen.ReferenceAdamOutIdeal.Read
public import Idealize.ShloMosaic.Lib.Pipeline.ValueKit

@[expose] public section

set_option maxRecDepth 16384

noncomputable section

namespace Cert.AdamOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelAdamOutIdeal Cert.KernelAdamOutIdeal.Gen Cert.Adam

section
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the four results and the four arguments at the last boundary's contents. -/
theorem run_all : θ_run defs (onTc (τ := τ) (main (F := F))) ⟨m, fun _ => 0, ρ⟩ (fun r => ∀ c : Dev nD,
    ∀ b ∈ [main_v1_0, main_v1_1, main_v1_2, main_v1_3, main_arg0, main_arg1, main_arg2, main_arg3],
      r.2.mem ((c.tc : Thread nD τ).loc b) = W3 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c b hb => h c _ (mem_uc b (ListAll.forall_mem_of_all_decide
      (p := fun b : Ref sig .tc => ¬ (Proc.devRef .tc b : DevRef τ sig).isScoped) (by decide +kernel) b hb)))
end

section
variable (V : (c : Dev nD) → (b : Ref sig .tc) → Buf (Elt Ideal) ((c.tc : Thread nD τ).loc b)) (c : Dev nD)

/-- The change of the weight, the new moments and the gradient, as the arguments' contents give them. -/
def resD (i : S1024x1024.Idx) : EReal := delta (V c main_arg0 i) (V c main_arg1 i) (V c main_arg2 i) (V c main_arg3 i)
def resM (i : S1024x1024.Idx) : EReal := newM (V c main_arg1 i) (V c main_arg2 i)
def resV (i : S1024x1024.Idx) : EReal := newV (V c main_arg1 i) (V c main_arg3 i)

/-! ### The first call: the last three layers -/

/-- Where each window's block lies at a grid point of the first call. -/
theorem idx0 : ∀ t : Fin cfg0.N, win0_0.index t = ![t.val + 1, 0] ∧ win0_1.index t = ![t.val + 1, 0] ∧
    win0_2.index t = ![t.val + 1, 0] ∧ win0_3.index t = ![t.val + 1, 0] ∧ win0_4.index t = ![t.val + 1, 0] ∧
    win0_5.index t = ![t.val + 1, 0] ∧ win0_6.index t = ![t.val + 1, 0] ∧ win0_7.index t = ![t.val + 1, 0] :=
  (by decide +kernel : ∀ t : Fin grid0.N, _)

theorem row0_lt (t : Fin cfg0.N) (r : Fin 256) : (t.val + 1) * 256 + r.val < 1024 := by
  have h : t.val < 3 := lt_of_lt_of_eq t.isLt N_0
  omega

/-- A row of a grid point's block among all rows. -/
def row0 (t : Fin cfg0.N) (r : Fin 256) : Fin 1024 := ⟨(t.val + 1) * 256 + r.val, row0_lt t r⟩

theorem a0 (t : Fin cfg0.N) (r : Fin 256) (d : Fin 1024) : iblk0 V c 0 t (ix2 r d) = V c main_arg0 (ix2 (row0 t r) d) := by
  blk_ext [iblk0, row0, idx0 t]
theorem a1 (t : Fin cfg0.N) (r : Fin 256) (d : Fin 1024) : iblk0 V c 1 t (ix2 r d) = V c main_arg1 (ix2 (row0 t r) d) := by
  blk_ext [iblk0, row0, idx0 t]
theorem a2 (t : Fin cfg0.N) (r : Fin 256) (d : Fin 1024) : iblk0 V c 2 t (ix2 r d) = V c main_arg2 (ix2 (row0 t r) d) := by
  blk_ext [iblk0, row0, idx0 t]
theorem a3 (t : Fin cfg0.N) (r : Fin 256) (d : Fin 1024) : iblk0 V c 3 t (ix2 r d) = V c main_arg3 (ix2 (row0 t r) d) := by
  blk_ext [iblk0, row0, idx0 t]

section
variable (x0 x1 x2 x3 : Vec Ideal S256x1024 .f32) (r : Fin 256) (d : Fin 1024)

theorem o4 : out0_4 x0 x1 x2 x3 (ix2 r d) = delta (x0 (ix2 r d)) (x1 (ix2 r d)) (x2 (ix2 r d)) (x3 (ix2 r d)) := by
  frame_out
  rfl
theorem o5 : out0_5 x0 x1 x2 x3 (ix2 r d) = newM (x1 (ix2 r d)) (x2 (ix2 r d)) := by
  frame_out
  rfl
theorem o6 : out0_6 x0 x1 x2 x3 (ix2 r d) = newV (x1 (ix2 r d)) (x3 (ix2 r d)) := by
  frame_out
  rfl
theorem o7 : out0_7 x0 x1 x2 x3 (ix2 r d) = x1 (ix2 r d) := by
  frame_out
end

theorem first4 : (dat0 V c).arrAt 4 cfg0.N = fun i => if 1 ≤ (i 0 : ℕ) / 256 then resD V c i else V c main_v0_0 i := by
  refine (dat0 V c).arrAt_eq_of_coversWhere 4 (resD V c) (fun β => 1 ≤ β (0 : Fin _)) (by decide +kernel) (fun t _ y => ?_)
    (fun j => Iff.rfl)
  idx_vars y
  blk_simp
  rw [after0_4, o4, a0, a1, a2, a3]
  exact Eq.trans (b := resD V c (ix2 (row0 t y0) y1)) rfl (by blk_ext [row0, idx0 t])
theorem first5 : (dat0 V c).arrAt 5 cfg0.N = fun i => if 1 ≤ (i 0 : ℕ) / 256 then resM V c i else V c main_v0_1 i := by
  refine (dat0 V c).arrAt_eq_of_coversWhere 5 (resM V c) (fun β => 1 ≤ β (0 : Fin _)) (by decide +kernel) (fun t _ y => ?_)
    (fun j => Iff.rfl)
  idx_vars y
  blk_simp
  rw [after0_5, o5, a1, a2]
  exact Eq.trans (b := resM V c (ix2 (row0 t y0) y1)) rfl (by blk_ext [row0, idx0 t])
theorem first6 : (dat0 V c).arrAt 6 cfg0.N = fun i => if 1 ≤ (i 0 : ℕ) / 256 then resV V c i else V c main_v0_2 i := by
  refine (dat0 V c).arrAt_eq_of_coversWhere 6 (resV V c) (fun β => 1 ≤ β (0 : Fin _)) (by decide +kernel) (fun t _ y => ?_)
    (fun j => Iff.rfl)
  idx_vars y
  blk_simp
  rw [after0_6, o6, a1, a3]
  exact Eq.trans (b := resV V c (ix2 (row0 t y0) y1)) rfl (by blk_ext [row0, idx0 t])
theorem first7 : (dat0 V c).arrAt 7 cfg0.N
    = fun i => if 1 ≤ (i 0 : ℕ) / 256 then V c main_arg1 i else V c main_v0_3 i := by
  refine (dat0 V c).arrAt_eq_of_coversWhere 7 (V c main_arg1) (fun β => 1 ≤ β (0 : Fin _)) (by decide +kernel)
    (fun t _ y => ?_) (fun j => Iff.rfl)
  idx_vars y
  blk_simp
  rw [after0_7, o7, a1]
  blk_ext [row0, idx0 t]

/-! ### The second call: the first layer, over what the first call left -/

/-- Where each window's block lies at a grid point of the second call. -/
theorem idx1 : ∀ t : Fin cfg1.N, win1_0.index t = ![t.val, 0] ∧ win1_1.index t = ![t.val, 0] ∧
    win1_2.index t = ![t.val, 0] ∧ win1_3.index t = ![t.val, 0] ∧ win1_4.index t = ![t.val, 0] ∧
    win1_5.index t = ![t.val, 0] ∧ win1_6.index t = ![t.val, 0] ∧ win1_7.index t = ![t.val, 0] :=
  (by decide +kernel : ∀ t : Fin grid1.N, _)

theorem row1_lt (t : Fin cfg1.N) (r : Fin 256) : t.val * 256 + r.val < 1024 := by
  have h : t.val < 1 := lt_of_lt_of_eq t.isLt N_1
  omega

def row1 (t : Fin cfg1.N) (r : Fin 256) : Fin 1024 := ⟨t.val * 256 + r.val, row1_lt t r⟩

theorem b0 (t : Fin cfg1.N) (r : Fin 256) (d : Fin 1024) : iblk1 V c 0 t (ix2 r d) = V c main_arg0 (ix2 (row1 t r) d) := by
  blk_ext [iblk1, row1, idx1 t]
theorem b1 (t : Fin cfg1.N) (r : Fin 256) (d : Fin 1024) : iblk1 V c 1 t (ix2 r d) = V c main_arg1 (ix2 (row1 t r) d) := by
  blk_ext [iblk1, row1, idx1 t]
theorem b2 (t : Fin cfg1.N) (r : Fin 256) (d : Fin 1024) : iblk1 V c 2 t (ix2 r d) = V c main_arg2 (ix2 (row1 t r) d) := by
  blk_ext [iblk1, row1, idx1 t]
theorem b3 (t : Fin cfg1.N) (r : Fin 256) (d : Fin 1024) : iblk1 V c 3 t (ix2 r d) = V c main_arg3 (ix2 (row1 t r) d) := by
  blk_ext [iblk1, row1, idx1 t]

section
variable (t : Fin cfg1.N) (r : Fin 256) (d : Fin 1024)

theorem p4 : (outsAt1 V c t).1 (ix2 r d) = resD V c (ix2 (row1 t r) d) := by
  unfold resD
  rw [← b0 V c, ← b1 V c, ← b2 V c, ← b3 V c]
  unfold outsAt1
  frame_out
  rfl
theorem p5 : (outsAt1 V c t).2.1 (ix2 r d) = resM V c (ix2 (row1 t r) d) := by
  unfold resM
  rw [← b1 V c, ← b2 V c]
  unfold outsAt1
  frame_out
  rfl
theorem p6 : (outsAt1 V c t).2.2.1 (ix2 r d) = resV V c (ix2 (row1 t r) d) := by
  unfold resV
  rw [← b1 V c, ← b3 V c]
  unfold outsAt1
  frame_out
  rfl
theorem p7 : (outsAt1 V c t).2.2.2 (ix2 r d) = V c main_arg1 (ix2 (row1 t r) d) := by
  rw [← b1 V c]
  unfold outsAt1
  frame_out
end

theorem second4 (h : ∀ i : S1024x1024.Idx, 1 ≤ (i 0 : ℕ) / 256 → V c main_v1_0 i = resD V c i) :
    (dat1 V c).arrAt 4 cfg1.N = resD V c := by
  refine (dat1 V c).arrAt_eq_of_coversWhere_of_agree 4 (resD V c) (fun β => β (0 : Fin _) < 1) (by decide +kernel)
    (fun t _ y => ?_) (fun j hj => h _ (not_lt.mp hj))
  idx_vars y
  blk_simp
  rw [after1_4, p4]
  blk_ext [row1, idx1 t]
theorem second5 (h : ∀ i : S1024x1024.Idx, 1 ≤ (i 0 : ℕ) / 256 → V c main_v1_1 i = resM V c i) :
    (dat1 V c).arrAt 5 cfg1.N = resM V c := by
  refine (dat1 V c).arrAt_eq_of_coversWhere_of_agree 5 (resM V c) (fun β => β (0 : Fin _) < 1) (by decide +kernel)
    (fun t _ y => ?_) (fun j hj => h _ (not_lt.mp hj))
  idx_vars y
  blk_simp
  rw [after1_5, p5]
  blk_ext [row1, idx1 t]
theorem second6 (h : ∀ i : S1024x1024.Idx, 1 ≤ (i 0 : ℕ) / 256 → V c main_v1_2 i = resV V c i) :
    (dat1 V c).arrAt 6 cfg1.N = resV V c := by
  refine (dat1 V c).arrAt_eq_of_coversWhere_of_agree 6 (resV V c) (fun β => β (0 : Fin _) < 1) (by decide +kernel)
    (fun t _ y => ?_) (fun j hj => h _ (not_lt.mp hj))
  idx_vars y
  blk_simp
  rw [after1_6, p6]
  blk_ext [row1, idx1 t]
theorem second7 (h : ∀ i : S1024x1024.Idx, 1 ≤ (i 0 : ℕ) / 256 → V c main_v1_3 i = V c main_arg1 i) :
    (dat1 V c).arrAt 7 cfg1.N = V c main_arg1 := by
  refine (dat1 V c).arrAt_eq_of_coversWhere_of_agree 7 (V c main_arg1) (fun β => β (0 : Fin _) < 1) (by decide +kernel)
    (fun t _ y => ?_) (fun j hj => h _ (not_lt.mp hj))
  idx_vars y
  blk_simp
  rw [after1_7, p7]
  blk_ext [row1, idx1 t]
end

section
variable (m : (ℓ : Loc nD τ sig) → Buf (Elt Ideal) ℓ) (ρ : Dev nD → PrngReg) (c : Dev nD)

/-- The arguments reach the second call as launched. -/
theorem arg (b : Ref sig .tc) (hb : b ∈ argRefs) : V2 m ρ c b = V0 m ρ c b := W2_args m ρ c b hb

theorem resD_eq : resD (V2 m ρ) c = resD (V0 m ρ) c := by
  funext i
  unfold resD
  rw [arg m ρ c main_arg0 (by decide), arg m ρ c main_arg1 (by decide), arg m ρ c main_arg2 (by decide),
    arg m ρ c main_arg3 (by decide)]
theorem resM_eq : resM (V2 m ρ) c = resM (V0 m ρ) c := by
  funext i
  unfold resM
  rw [arg m ρ c main_arg1 (by decide), arg m ρ c main_arg2 (by decide)]
theorem resV_eq : resV (V2 m ρ) c = resV (V0 m ρ) c := by
  funext i
  unfold resV
  rw [arg m ρ c main_arg1 (by decide), arg m ρ c main_arg3 (by decide)]

theorem copy0 : V2 m ρ c main_v1_0 = W1 m ρ c (Proc.devRef .tc main_v0_0) := by
  show StableHlo.after hostOps1 (W1 m ρ c) (Proc.devRef .tc main_v1_0) = _
  entry_read
  rfl
theorem copy1 : V2 m ρ c main_v1_1 = W1 m ρ c (Proc.devRef .tc main_v0_1) := by
  show StableHlo.after hostOps1 (W1 m ρ c) (Proc.devRef .tc main_v1_1) = _
  entry_read
  rfl
theorem copy2 : V2 m ρ c main_v1_2 = W1 m ρ c (Proc.devRef .tc main_v0_2) := by
  show StableHlo.after hostOps1 (W1 m ρ c) (Proc.devRef .tc main_v1_2) = _
  entry_read
  rfl
theorem copy3 : V2 m ρ c main_v1_3 = W1 m ρ c (Proc.devRef .tc main_v0_3) := by
  show StableHlo.after hostOps1 (W1 m ρ c) (Proc.devRef .tc main_v1_3) = _
  entry_read
  rfl

theorem last4 : W3 m ρ c (Proc.devRef .tc main_v1_0) = resD (V0 m ρ) c :=
  (W3_arr m ρ c 4).trans ((second4 (V2 m ρ) c fun i hi => (congrFun ((copy0 m ρ c).trans ((W1_arr m ρ c 4).trans
    (first4 (V0 m ρ) c))) i).trans ((if_pos hi).trans (congrFun (resD_eq m ρ c) i).symm)).trans (resD_eq m ρ c))
theorem last5 : W3 m ρ c (Proc.devRef .tc main_v1_1) = resM (V0 m ρ) c :=
  (W3_arr m ρ c 5).trans ((second5 (V2 m ρ) c fun i hi => (congrFun ((copy1 m ρ c).trans ((W1_arr m ρ c 5).trans
    (first5 (V0 m ρ) c))) i).trans ((if_pos hi).trans (congrFun (resM_eq m ρ c) i).symm)).trans (resM_eq m ρ c))
theorem last6 : W3 m ρ c (Proc.devRef .tc main_v1_2) = resV (V0 m ρ) c :=
  (W3_arr m ρ c 6).trans ((second6 (V2 m ρ) c fun i hi => (congrFun ((copy2 m ρ c).trans ((W1_arr m ρ c 6).trans
    (first6 (V0 m ρ) c))) i).trans ((if_pos hi).trans (congrFun (resV_eq m ρ c) i).symm)).trans (resV_eq m ρ c))
theorem last7 : W3 m ρ c (Proc.devRef .tc main_v1_3) = V0 m ρ c main_arg1 :=
  (W3_arr m ρ c 7).trans ((second7 (V2 m ρ) c fun i hi => (congrFun ((copy3 m ρ c).trans ((W1_arr m ρ c 7).trans
    (first7 (V0 m ρ) c))) i).trans ((if_pos hi).trans (congrFun (arg m ρ c main_arg1 (by decide)) i).symm)).trans
      (arg m ρ c main_arg1 (by decide)))

/-- Every run ends with the step's results and the arguments as launched. -/
theorem run : θ_run defs (onTc (τ := τ) (main (F := Ideal))) ⟨m, fun _ => 0, ρ⟩ (fun r => ∀ c : Dev nD,
    r.2.mem (c.tc.loc main_v1_0) = resD (V0 m ρ) c ∧ r.2.mem (c.tc.loc main_v1_1) = resM (V0 m ρ) c ∧
    r.2.mem (c.tc.loc main_v1_2) = resV (V0 m ρ) c ∧ r.2.mem (c.tc.loc main_v1_3) = m (c.tc.loc main_arg1) ∧
    r.2.mem (c.tc.loc main_arg0) = m (c.tc.loc main_arg0) ∧ r.2.mem (c.tc.loc main_arg1) = m (c.tc.loc main_arg1) ∧
    r.2.mem (c.tc.loc main_arg2) = m (c.tc.loc main_arg2) ∧ r.2.mem (c.tc.loc main_arg3) = m (c.tc.loc main_arg3)) :=
  (θ_run _ _ _).mono (fun r h c =>
    ⟨(h c main_v1_0 (by decide)).trans (last4 m ρ c), (h c main_v1_1 (by decide)).trans (last5 m ρ c),
     (h c main_v1_2 (by decide)).trans (last6 m ρ c), (h c main_v1_3 (by decide)).trans (last7 m ρ c),
     (h c main_arg0 (by decide)).trans (W3_main_arg0 m ρ c), (h c main_arg1 (by decide)).trans (W3_main_arg1 m ρ c),
     (h c main_arg2 (by decide)).trans (W3_main_arg2 m ρ c), (h c main_arg3 (by decide)).trans (W3_main_arg3 m ρ c)⟩)
    (run_all m ρ)
end

section
open Cert.ReferenceAdamOutIdeal.Read
variable (w g m v : Vec Ideal S1024x1024 .f32) (i : S1024x1024.Idx)

theorem ref_m : val_main_v4 (F := Ideal) g m i = newM (g i) (m i) := by
  rw [val_main_v4_apply, val_main_v3_apply, val_main_v2_apply, val_main_cst_0_apply, val_main_v1_apply, val_main_v0_apply,
    val_main_cst_apply]
  rfl

theorem ref_v : val_main_v10 (F := Ideal) g v i = newV (g i) (v i) := by
  rw [val_main_v10_apply, val_main_v9_apply, val_main_v8_apply, val_main_cst_2_apply, val_main_v7_apply, val_main_v6_apply,
    val_main_v5_apply, val_main_cst_1_apply]
  rfl

theorem ref_d : val_main_v23 (F := Ideal) w g m v i = delta (w i) (g i) (m i) (v i) := by
  rw [val_main_v23_apply, val_main_v22_apply, val_main_cst_7_apply, val_main_v21_apply, val_main_v20_apply, val_main_v19_apply,
    val_main_cst_6_apply, val_main_v18_apply, val_main_v17_apply, val_main_v16_apply, val_main_cst_5_apply, val_main_v15_apply,
    val_main_v14_apply, val_main_v13_apply, val_main_cst_4_apply, ref_v, val_main_v12_apply, val_main_v11_apply,
    val_main_cst_3_apply, ref_m]
  rfl
end

theorem algebraic : Cert.algebraic_KernelAdamOutIdeal_ReferenceAdamOutIdeal := by
  intro m ρ m' ρ' _ hag
  refine ⟨_, _, _, _, run m ρ, (θ_run _ _ _).mono (fun r h c => ⟨(h c).1.trans ?_, (h c).2.1.trans ?_,
      (h c).2.2.1.trans ?_, (h c).2.2.2.1.trans ?_, (h c).2.2.2.2⟩) (Cert.ReferenceAdamOutIdeal.Value.run m' ρ')⟩
  · refine (Cert.ReferenceAdamOutIdeal.Read.val_main_v23_eq _ _ _ _).trans ?_
    rw [(hag c).1, (hag c).2.1, (hag c).2.2.1, (hag c).2.2.2]
    exact funext fun i => ref_d _ _ _ _ i
  · refine (Cert.ReferenceAdamOutIdeal.Read.val_main_v4_eq _ _).trans ?_
    rw [(hag c).2.1, (hag c).2.2.1]
    exact funext fun i => ref_m _ _ i
  · refine (Cert.ReferenceAdamOutIdeal.Read.val_main_v10_eq _ _).trans ?_
    rw [(hag c).2.1, (hag c).2.2.2]
    exact funext fun i => ref_v _ _ i
  · exact (hag c).2.1

end Cert.AdamOut

end
-- ==== Proof.AdamSmall.lean ====
/-
  The optimiser's step of the small weights, packed in one array: the kernel's program and the plain reference end with
  the same four results, whatever the arguments.
-/
module

public import proofs.«01_k».proof.Defs
public import proofs.«01_k».proof.Proof.Adam
public import proofs.«01_k».proof.Proof.Gen.KernelAdamSmallIdeal.Value
public import proofs.«01_k».proof.Proof.Gen.ReferenceAdamSmallIdeal.Run
public import proofs.«01_k».proof.Proof.Gen.ReferenceAdamSmallIdeal.Read

@[expose] public section

set_option maxRecDepth 16384

noncomputable section

namespace Cert.AdamSmall

open Cert.KernelAdamSmallIdeal Cert.KernelAdamSmallIdeal.Gen Idealize.ShloMosaic Idealize.SL.Sem Cert.Adam
open Cert.ReferenceAdamSmallIdeal.Read

section
variable (w g m v : Vec Ideal S3280x128 .f32) (i : S3280x128.Idx)

theorem ref_m : val_main_v4 (F := Ideal) g m i = newM (g i) (m i) := by
  rw [val_main_v4_apply, val_main_v3_apply, val_main_v2_apply, val_main_cst_0_apply, val_main_v1_apply, val_main_v0_apply,
    val_main_cst_apply]
  rfl

theorem ref_v : val_main_v10 (F := Ideal) g v i = newV (g i) (v i) := by
  rw [val_main_v10_apply, val_main_v9_apply, val_main_v8_apply, val_main_cst_2_apply, val_main_v7_apply, val_main_v6_apply,
    val_main_v5_apply, val_main_cst_1_apply]
  rfl

theorem ref_d : val_main_v23 (F := Ideal) w g m v i = delta (w i) (g i) (m i) (v i) := by
  rw [val_main_v23_apply, val_main_v22_apply, val_main_cst_7_apply, val_main_v21_apply, val_main_v20_apply, val_main_v19_apply,
    val_main_cst_6_apply, val_main_v18_apply, val_main_v17_apply, val_main_v16_apply, val_main_cst_5_apply, val_main_v15_apply,
    val_main_v14_apply, val_main_v13_apply, val_main_cst_4_apply, ref_v, val_main_v12_apply, val_main_v11_apply,
    val_main_cst_3_apply, ref_m]
  rfl
end

theorem algebraic : Cert.algebraic_KernelAdamSmallIdeal_ReferenceAdamSmallIdeal := by
  intro m ρ m' ρ' _ hag
  refine ⟨_, _, _, _, Cert.KernelAdamSmallIdeal.Value.run m ρ,
    (θ_run _ _ _).mono (fun r h c => ⟨(h c).1.trans ?_, (h c).2.1.trans ?_, (h c).2.2.1.trans ?_, (h c).2.2.2.1.trans ?_,
      (h c).2.2.2.2⟩) (Cert.ReferenceAdamSmallIdeal.Value.run m' ρ')⟩
  · refine (val_main_v23_eq _ _ _ _).trans ?_
    rw [(hag c).1, (hag c).2.1, (hag c).2.2.1, (hag c).2.2.2]
    exact funext fun i => ref_d _ _ _ _ i
  · refine (val_main_v4_eq _ _).trans ?_
    rw [(hag c).2.1, (hag c).2.2.1]
    exact funext fun i => ref_m _ _ i
  · refine (val_main_v10_eq _ _).trans ?_
    rw [(hag c).2.1, (hag c).2.2.2]
    exact funext fun i => ref_v _ _ i
  · exact (hag c).2.1

end Cert.AdamSmall

end
-- ==== Proof.SguSpec.lean ====
/-
  One chunk of the spatial gating unit over the real numbers: 128 rows of 256 columns in four groups of 64.
-/
module

public import proofs.«01_k».proof.Proof.Reals

@[expose] public section

noncomputable section

namespace Cert.SguSpec

open Cert.Reals Idealize.ShloMosaic

/-- The constants of the activation, as the float words both programs spell. -/
def cube : ℝ := ((2 ^ 23 + 3614483 : ℕ) : ℝ) * (2 : ℝ) ^ (-28 : ℤ)
def slope : ℝ := ((2 ^ 23 + 4997674 : ℕ) : ℝ) * (2 : ℝ) ^ (-24 : ℤ)

theorem ofBits_cube : Ideal.ofBits .f32 0x3D372713#32 = ((cube : ℝ) : EReal) := by
  simp [Ideal.ofBits, Ideal.ieee, cube]
theorem ofBits_slope : Ideal.ofBits .f32 0x3F4C422A#32 = ((slope : ℝ) : EReal) := by
  simp [Ideal.ofBits, Ideal.ieee, slope]
theorem ofBits_64 : Ideal.ofBits .f32 0x42800000#32 = (((64 : ℝ)) : EReal) := by
  simp [Ideal.ofBits, Ideal.ieee]; rw [← EReal.coe_mul]; norm_num
theorem ofBits_64th : Ideal.ofBits .f32 0x3C800000#32 = (((1 / 64 : ℝ)) : EReal) := by
  simp [Ideal.ofBits, Ideal.ieee]; rw [← EReal.coe_mul]; norm_num

theorem tanh_coe (x : ℝ) : Ideal.tanh (x : EReal) = ((Real.tanh x : ℝ) : EReal) := rfl

/-- The activation. -/
def gel (x : ℝ) : ℝ := x * (1 / 2 * (1 + Real.tanh (slope * (x + cube * (x * (x * x))))))

/-- The group of a column. -/
def grp (j : Fin 256) : Fin 4 := ⟨j.val / 64, by omega⟩
/-- The columns of a column's group. -/
def col (j : Fin 256) (d : Fin 64) : Fin 256 := ⟨j.val / 64 * 64 + d.val, by omega⟩

/-- The mean over a column's group. -/
def gm (f : Fin 256 → ℝ) (j : Fin 256) : ℝ := (∑ d, f (col j d)) / 64

/-- The averaging matrix. -/
def avg (k j : Fin 256) : ℝ := if k.val / 64 = j.val / 64 then 1 / 64 else 0

theorem sum_avg (f : Fin 256 → ℝ) (j : Fin 256) : ∑ k, f k * avg k j = gm f j := by
  unfold avg gm
  simp only [mul_ite, mul_zero]
  rw [← Finset.sum_filter, Finset.sum_div]
  symm
  refine Finset.sum_bij (fun d _ => col j d) ?_ ?_ ?_ ?_
  · intro d _
    simp only [Finset.mem_filter, Finset.mem_univ, true_and, col]
    omega
  · intro a _ b _ h
    have := congrArg Fin.val h
    simp only [col] at this
    exact Fin.ext (by omega)
  · intro k hk
    simp only [Finset.mem_filter, Finset.mem_univ, true_and] at hk
    exact ⟨⟨k.val % 64, by omega⟩, Finset.mem_univ _, Fin.ext (by simp only [col]; omega)⟩
  · intro d _
    ring

theorem gm_sq_pos (f : Fin 256 → ℝ) (j : Fin 256) : 0 < gm (fun k => f k * f k) j + eps := by
  have : 0 ≤ ∑ d, f (col j d) * f (col j d) := Finset.sum_nonneg fun d _ => mul_self_nonneg _
  have := eps_pos
  unfold gm
  positivity

/-- The root mean square over a column's group, inverted. -/
def nrm (f : Fin 256 → ℝ) (j : Fin 256) : ℝ := (Real.sqrt (gm (fun k => f k * f k) j + eps))⁻¹

/-- A row less its group's mean. -/
def vc (v : Fin 256 → ℝ) (j : Fin 256) : ℝ := gel (v j) - gm (fun k => gel (v k)) j
/-- The normalized row. -/
def vh (v : Fin 256 → ℝ) (j : Fin 256) : ℝ := vc v j * nrm (vc v) j

variable (U V : Fin 128 → Fin 256 → ℝ) (W : Fin 4 → Fin 128 → Fin 128 → ℝ) (B : Fin 4 → Fin 128 → ℝ) (g : Fin 256 → ℝ)

/-- The weight below and on the diagonal. -/
def low (e : Fin 4) (t s : Fin 128) : ℝ := if s.val ≤ t.val then W e t s else 0
/-- What the rows of the chunk so far give a row. -/
def mix (t : Fin 128) (j : Fin 256) : ℝ := B (grp j) t + ∑ s, low W (grp j) t s * vh (V s) j
/-- The gated row. -/
def gated (t : Fin 128) (j : Fin 256) : ℝ := gel (U t j) * mix V W B t j
/-- The chunk's result. -/
def res (t : Fin 128) (j : Fin 256) : ℝ := gated U V W B t j * nrm (gated U V W B t) j * g j

end Cert.SguSpec

end
-- ==== Proof.SguTable.lean ====
/-
  The matrix that averages each group's columns, as the program's table of constants holds it.
-/
module

public import proofs.«01_k».proof.Defs

@[expose] public section

set_option maxRecDepth 100000

noncomputable section

namespace Cert.SguTable

open Cert.KernelSguIdeal Idealize.ShloMosaic

/-- One 64th. -/
abbrev hit : BitVec 32 := 0x3C800000#32

/-! The three halves of a row that the table knows. -/

theorem first_half (i : ℕ) : lit0t0_0 i = if i % 128 / 64 = 0 then hit else 0#32 := by
  have h : i % 128 < 128 := Nat.mod_lt _ (by norm_num)
  unfold lit0t0_0
  generalize i % 128 = r at h ⊢
  revert r
  decide +kernel

theorem second_half (i : ℕ) : lit0t0_128 i = if i % 128 / 64 = 1 then hit else 0#32 := by
  have h : i % 128 < 128 := Nat.mod_lt _ (by norm_num)
  unfold lit0t0_128
  generalize i % 128 = r at h ⊢
  revert r
  decide +kernel

theorem no_half (i : ℕ) : lit0t0_1 i = 0#32 := by
  have h : i % 128 < 128 := Nat.mod_lt _ (by norm_num)
  unfold lit0t0_1
  generalize i % 128 = r at h ⊢
  revert r
  decide +kernel

/-! The four groups of rows. -/

theorem rows0 (i : ℕ) : lit0t1_0 i = if i / 128 % 128 % 2 = 0 then (if i % 128 / 64 = 0 then hit else 0#32) else 0#32 := by
  have h : i / 128 % 128 < 128 := Nat.mod_lt _ (by norm_num)
  unfold lit0t1_0
  generalize i / 128 % 128 = b at h ⊢
  interval_cases b <;>
    first
    | exact (first_half i).trans (if_pos rfl).symm
    | exact (no_half i).trans (if_neg (by decide)).symm

theorem rows1 (i : ℕ) : lit0t1_1 i = if i / 128 % 128 % 2 = 0 then (if i % 128 / 64 = 1 then hit else 0#32) else 0#32 := by
  have h : i / 128 % 128 < 128 := Nat.mod_lt _ (by norm_num)
  unfold lit0t1_1
  generalize i / 128 % 128 = b at h ⊢
  interval_cases b <;>
    first
    | exact (second_half i).trans (if_pos rfl).symm
    | exact (no_half i).trans (if_neg (by decide)).symm

theorem rows2 (i : ℕ) : lit0t1_2 i = if i / 128 % 128 % 2 = 1 then (if i % 128 / 64 = 0 then hit else 0#32) else 0#32 := by
  have h : i / 128 % 128 < 128 := Nat.mod_lt _ (by norm_num)
  unfold lit0t1_2
  generalize i / 128 % 128 = b at h ⊢
  interval_cases b <;>
    first
    | exact (first_half i).trans (if_pos rfl).symm
    | exact (no_half i).trans (if_neg (by decide)).symm

theorem rows3 (i : ℕ) : lit0t1_3 i = if i / 128 % 128 % 2 = 1 then (if i % 128 / 64 = 1 then hit else 0#32) else 0#32 := by
  have h : i / 128 % 128 < 128 := Nat.mod_lt _ (by norm_num)
  unfold lit0t1_3
  generalize i / 128 % 128 = b at h ⊢
  interval_cases b <;>
    first
    | exact (second_half i).trans (if_pos rfl).symm
    | exact (no_half i).trans (if_neg (by decide)).symm

/-- The table's entry in row k and column j. -/
theorem entry (k j : Fin 256) : lit0t (k.val * 256 + j.val) = if k.val / 64 = j.val / 64 then hit else 0#32 := by
  have hk : (k.val * 256 + j.val) / 16384 = k.val / 64 := by omega
  have h4 : k.val / 64 < 4 := by omega
  have hb : (k.val * 256 + j.val) / 128 % 128 % 2 = j.val / 128 := by omega
  have hr : (k.val * 256 + j.val) % 128 / 64 = j.val / 64 % 2 := by omega
  unfold lit0t
  rw [hk]
  obtain h | h | h | h : k.val / 64 = 0 ∨ k.val / 64 = 1 ∨ k.val / 64 = 2 ∨ k.val / 64 = 3 := by omega
  · rw [h]
    refine (rows0 _).trans ?_
    rw [hb, hr]
    split_ifs <;> first | rfl | (exfalso; omega)
  · rw [h]
    refine (rows1 _).trans ?_
    rw [hb, hr]
    split_ifs <;> first | rfl | (exfalso; omega)
  · rw [h]
    refine (rows2 _).trans ?_
    rw [hb, hr]
    split_ifs <;> first | rfl | (exfalso; omega)
  · rw [h]
    refine (rows3 _).trans ?_
    rw [hb, hr]
    split_ifs <;> first | rfl | (exfalso; omega)

end Cert.SguTable

end
-- ==== Proof.SguRows.lean ====
/-
  The spatial gating unit in the kernel, one chunk of 128 rows at a time: the eight chunks of a grid point are one function of
  their rows, and at finite values its result is the chunk over the real numbers.
-/
module

public import proofs.«01_k».proof.Proof.SguSpec
public import proofs.«01_k».proof.Proof.SguTable
public import proofs.«01_k».proof.Proof.Gen.KernelSguIdeal.Value
public import Idealize.ShloMosaic.Lib.Pipeline.ValueKit

@[expose] public section

set_option maxRecDepth 16384

noncomputable section

namespace Cert.SguRows

open Cert.KernelSguIdeal Cert.KernelSguIdeal.Gen Idealize.ShloMosaic Cert.Reals Cert.SguSpec

abbrev Chunk := FVec Ideal S128x256 .f32

/-- The activation of a chunk. -/
def gelV (x : Chunk) : Chunk :=
  mulf x (mulf (broadcast S128x256 (Scalar.ofBits .f32 0x3F000000#32)) (addf (broadcast S128x256 (Scalar.ofBits .f32 0x3F800000#32))
    (tanh (mulf (broadcast S128x256 (Scalar.ofBits .f32 0x3F4C422A#32)) (addf x
      (mulf (broadcast S128x256 (Scalar.ofBits .f32 0x3D372713#32)) (mulf x (mulf x x))))))))

/-- The mean over each group, by the averaging matrix in two passes. -/
def gmV (x : Chunk) (a : FVec Ideal S256x256 .f32) : Chunk :=
  addf
    (matmul dot_S128x256_S256x256_S128x256_1_0_0_1_n_n none (truncf .bf16 x bitsLt_bf16_f32) (truncf .bf16 a bitsLt_bf16_f32)
      (constant S128x256 .f32 0x00000000#32))
    (matmul dot_S128x256_S256x256_S128x256_1_0_0_1_n_n none
      (truncf .bf16 (subf x (extf .f32 (truncf .bf16 x bitsLt_bf16_f32) bitsLt_bf16_f32)) bitsLt_bf16_f32)
      (truncf .bf16 a bitsLt_bf16_f32) (constant S128x256 .f32 0x00000000#32))

/-- The root mean square over each group, inverted. -/
def nrmV (x : Chunk) (a : FVec Ideal S256x256 .f32) : Chunk :=
  rsqrt (addf (gmV (mulf x x) a) (broadcast S128x256 (Scalar.ofBits .f32 0x358637BD#32)))

def vcV (v : Chunk) (a : FVec Ideal S256x256 .f32) : Chunk := subf (gelV v) (gmV (gelV v) a)

def vhV (v : Chunk) (a : FVec Ideal S256x256 .f32) : FVec Ideal S128x256 .bf16 :=
  truncf .bf16 (mulf (vcV v a) (nrmV (vcV v a) a)) bitsLt_bf16_f32

/-- A group's weight below and on the diagonal. -/
def lowV (w : FVec Ideal S1x128x128 .f32) : FVec Ideal S128x128 .bf16 :=
  truncf .bf16 (select (cmpi .sge (iota .tc S128x128 32 [0] iota_S128x128_d0_w32) (iota .tc S128x128 32 [1] iota_S128x128_d1_w32))
    (shapeCast S128x128 w shapeCasts_S1x128x128_S128x128) (broadcast S128x128 (Scalar.ofBits .f32 0x00000000#32))) bitsLt_bf16_f32

/-- The columns from `lo` to before `hi`, and zero elsewhere. -/
def maskV (lo hi : BitVec 32) (p : Chunk) : Chunk :=
  select (broadcastTo S128x256 (shapeCast S1x256 (andi
      (cmpi .sge (iota .tc S1x256 32 [1] iota_S1x256_d1_w32) (broadcast S1x256 lo))
      (cmpi .slt (iota .tc S1x256 32 [1] iota_S1x256_d1_w32) (broadcast S1x256 hi))) shapeCasts_S1x256_S1x256)
    broadcasts_S1x256_S128x256) p (broadcast S128x256 (Scalar.ofBits .f32 0x00000000#32))

def prodV (w : FVec Ideal S1x128x128 .f32) (h : FVec Ideal S128x256 .bf16) : Chunk :=
  matmul dot_S128x128_S128x256_S128x256_1_0_0_1_n_n none (lowV w) h (constant S128x256 .f32 0x00000000#32)

def mixV (w : Vec Ideal S4x128x128 .f32) (b : Chunk) (h : FVec Ideal S128x256 .bf16) : Chunk :=
  addf (addf (addf (addf b
    (maskV 0#32 64#32 (prodV (extractStridedSlice S1x128x128 ![0, 0, 0] w slices_S4x128x128_o0_0_0_S1x128x128) h)))
    (maskV 64#32 128#32 (prodV (extractStridedSlice S1x128x128 ![1, 0, 0] w slices_S4x128x128_o1_0_0_S1x128x128) h)))
    (maskV 128#32 192#32 (prodV (extractStridedSlice S1x128x128 ![2, 0, 0] w slices_S4x128x128_o2_0_0_S1x128x128) h)))
    (maskV 192#32 256#32 (prodV (extractStridedSlice S1x128x128 ![3, 0, 0] w slices_S4x128x128_o3_0_0_S1x128x128) h))

def gatedV (u v : Chunk) (w : Vec Ideal S4x128x128 .f32) (b : Chunk) (a : FVec Ideal S256x256 .f32) : Chunk :=
  mulf (gelV u) (mixV w b (vhV v a))

/-- A chunk's result. -/
def resV (u v : Chunk) (w : Vec Ideal S4x128x128 .f32) (b : Chunk) (g : FVec Ideal S1x256 .f32)
    (a : FVec Ideal S256x256 .f32) : FVec Ideal S128x256 .bf16 :=
  truncf .bf16 (mulf (mulf (gatedV u v w b a) (nrmV (gatedV u v w b a) a)) (broadcastTo S128x256 g broadcasts_S1x256_S128x256))
    bitsLt_bf16_f32

section Chunk

variable (u v : Chunk) (w : Vec Ideal S4x128x128 .f32) (b : Chunk) (g : FVec Ideal S1x256 .f32) (a : FVec Ideal S256x256 .f32)
  (U V : Fin 128 → Fin 256 → ℝ) (W : Fin 4 → Fin 128 → Fin 128 → ℝ) (B : Fin 4 → Fin 128 → ℝ) (G : Fin 256 → ℝ)

theorem gel_at (x : Chunk) (X : Fin 128 → Fin 256 → ℝ) (hx : ∀ r k, x (ix2 r k) = ((X r k : ℝ) : EReal)) (r : Fin 128) (j : Fin 256) :
    gelV x (ix2 r j) = ((gel (X r j) : ℝ) : EReal) := by
  pointwise [gelV]
  simp only [hx, ofBits_half, ofBits_one, ofBits_slope, ofBits_cube, ← EReal.coe_mul, ← EReal.coe_add, tanh_coe]
  rfl

variable (ha : ∀ k j, a (ix2 k j) = ((avg k j : ℝ) : EReal))

include ha in
theorem gm_at (x : Chunk) (X : Fin 128 → Fin 256 → ℝ) (hx : ∀ r k, x (ix2 r k) = ((X r k : ℝ) : EReal)) (r : Fin 128) (j : Fin 256) :
    gmV x a (ix2 r j) = ((gm (X r) j : ℝ) : EReal) := by
  pointwise [gmV]
  simp only [hx, ha, ← EReal.coe_sub, ← EReal.coe_mul, sum_coe, ← EReal.coe_add, sub_self, zero_mul, Finset.sum_const_zero,
    add_zero, sum_avg]

include ha in
theorem nrm_at (x : Chunk) (X : Fin 128 → Fin 256 → ℝ) (hx : ∀ r k, x (ix2 r k) = ((X r k : ℝ) : EReal)) (r : Fin 128) (j : Fin 256) :
    nrmV x a (ix2 r j) = ((nrm (X r) j : ℝ) : EReal) := by
  have hq : ∀ r k, mulf x x (ix2 r k) = ((X r k * X r k : ℝ) : EReal) := fun r k => by
    pointwise []
    rw [hx, ← EReal.coe_mul]
  pointwise [nrmV]
  rw [gm_at a ha _ (fun r k => X r k * X r k) hq, ofBits_eps, ← EReal.coe_add, rsqrt_coe (gm_sq_pos _ _)]
  rfl

variable (hv : ∀ r k, v (ix2 r k) = ((V r k : ℝ) : EReal))

include ha hv in
theorem vc_at (r : Fin 128) (j : Fin 256) : vcV v a (ix2 r j) = ((vc (V r) j : ℝ) : EReal) := by
  pointwise [vcV]
  rw [gm_at a ha _ (fun r k => gel (V r k)) (gel_at v V hv), gel_at v V hv, ← EReal.coe_sub]
  rfl

include ha hv in
theorem vh_at (r : Fin 128) (j : Fin 256) : vhV v a (ix2 r j) = ((vh (V r) j : ℝ) : EReal) := by
  pointwise [vhV]
  rw [nrm_at a ha _ (fun r k => vc (V r) k) (vc_at v a V ha hv), vc_at v a V ha hv, ← EReal.coe_mul]
  rfl

theorem select_one {α : Type} (x y : α) : Scalar.select 1#1 x y = x := rfl
theorem select_zero {α : Type} (x y : α) : Scalar.select 0#1 x y = y := rfl

theorem toInt_ofNat (n : ℕ) (h : n < 512) : (BitVec.ofNat 32 n).toInt = n := by
  rw [BitVec.toInt_eq_toNat_of_lt (by simp; omega)]
  simp; omega

theorem sge_ofNat (x y : ℕ) (hx : x < 512) (hy : y < 512) :
    IntOp.cmpi .sge (BitVec.ofNat 32 x) (BitVec.ofNat 32 y) = if y ≤ x then 1#1 else 0#1 := by
  have : (BitVec.ofNat 32 y).sle (BitVec.ofNat 32 x) = decide (y ≤ x) := by
    rw [BitVec.sle, toInt_ofNat x hx, toInt_ofNat y hy]
    simp
  simp only [IntOp.cmpi, this]
  by_cases h : y ≤ x <;> simp [h]

theorem slt_ofNat (x y : ℕ) (hx : x < 512) (hy : y < 512) :
    IntOp.cmpi .slt (BitVec.ofNat 32 x) (BitVec.ofNat 32 y) = if x < y then 1#1 else 0#1 := by
  have : (BitVec.ofNat 32 x).slt (BitVec.ofNat 32 y) = decide (x < y) := by
    rw [BitVec.slt, toInt_ofNat x hx, toInt_ofNat y hy]
    simp
  simp only [IntOp.cmpi, this]
  by_cases h : x < y <;> simp [h]

theorem eq_ofNat (x y : ℕ) (hx : x < 512) (hy : y < 512) :
    IntOp.cmpi .eq (BitVec.ofNat 32 x) (BitVec.ofNat 32 y) = if x = y then 1#1 else 0#1 := by
  have hne : BitVec.ofNat 32 x = BitVec.ofNat 32 y ↔ x = y := by
    constructor
    · intro h
      have := congrArg BitVec.toNat h
      simp at this
      omega
    · rintro rfl; rfl
  by_cases h : x = y
  · subst h
    simp [IntOp.cmpi]
  · have h2 : (BitVec.ofNat 32 x == BitVec.ofNat 32 y) = false := beq_eq_false_iff_ne.mpr (mt hne.mp h)
    show BitVec.ofBool (BitVec.ofNat 32 x == BitVec.ofNat 32 y) = _
    rw [h2, if_neg h]
    rfl

theorem low_at (x : FVec Ideal S1x128x128 .f32) (e : Fin 4)
    (hx : ∀ t s, x (ix3 0 t s) = ((W e t s : ℝ) : EReal)) (t s : Fin 128) :
    lowV x (ix2 t s) = ((low W e t s : ℝ) : EReal) := by
  pointwise [lowV]
  rw [sge_ofNat _ _ (by omega) (by omega), hx, low]
  split
  · rw [select_one]
  · rw [select_zero]; rfl

theorem mask_at (lo hi : ℕ) (hl : lo ≤ 256) (hh : hi ≤ 256) (p : Chunk) (t : Fin 128) (j : Fin 256) :
    maskV (BitVec.ofNat 32 lo) (BitVec.ofNat 32 hi) p (ix2 t j) = if lo ≤ j.val ∧ j.val < hi then p (ix2 t j) else 0 := by
  pointwise [maskV]
  rw [sge_ofNat _ _ (by omega) (by omega), slt_ofNat _ _ (by omega) (by omega)]
  by_cases h1 : lo ≤ j.val <;> by_cases h2 : j.val < hi <;> simp [h1, h2, IntOp.andi, Scalar.select]

include ha hv in
theorem prod_at (x : FVec Ideal S1x128x128 .f32) (e : Fin 4)
    (hx : ∀ t s, x (ix3 0 t s) = ((W e t s : ℝ) : EReal)) (t : Fin 128) (j : Fin 256) :
    prodV x (vhV v a) (ix2 t j) = ((∑ s, low W e t s * vh (V s) j : ℝ) : EReal) := by
  pointwise [prodV]
  simp only [low_at W x e hx, vh_at v a V ha hv, ← EReal.coe_mul, sum_coe]

variable (hw : ∀ e t s, w (ix3 e t s) = ((W e t s : ℝ) : EReal)) (hb : ∀ t j, b (ix2 t j) = ((B (grp j) t : ℝ) : EReal))

include ha hv hw hb in
theorem mix_at (t : Fin 128) (j : Fin 256) : mixV w b (vhV v a) (ix2 t j) = ((mix V W B t j : ℝ) : EReal) := by
  have m0 := mask_at 0 64 (by omega) (by omega)
    (prodV (extractStridedSlice S1x128x128 ![0, 0, 0] w slices_S4x128x128_o0_0_0_S1x128x128) (vhV v a)) t j
  have m1 := mask_at 64 128 (by omega) (by omega)
    (prodV (extractStridedSlice S1x128x128 ![1, 0, 0] w slices_S4x128x128_o1_0_0_S1x128x128) (vhV v a)) t j
  have m2 := mask_at 128 192 (by omega) (by omega)
    (prodV (extractStridedSlice S1x128x128 ![2, 0, 0] w slices_S4x128x128_o2_0_0_S1x128x128) (vhV v a)) t j
  have m3 := mask_at 192 256 (by omega) (by omega)
    (prodV (extractStridedSlice S1x128x128 ![3, 0, 0] w slices_S4x128x128_o3_0_0_S1x128x128) (vhV v a)) t j
  rw [prod_at v a V W ha hv _ 0 (fun t s => by pointwise []; exact hw 0 t s)] at m0
  rw [prod_at v a V W ha hv _ 1 (fun t s => by pointwise []; exact hw 1 t s)] at m1
  rw [prod_at v a V W ha hv _ 2 (fun t s => by pointwise []; exact hw 2 t s)] at m2
  rw [prod_at v a V W ha hv _ 3 (fun t s => by pointwise []; exact hw 3 t s)] at m3
  show b (ix2 t j) + maskV 0#32 64#32 _ (ix2 t j) + maskV 64#32 128#32 _ (ix2 t j) + maskV 128#32 192#32 _ (ix2 t j)
    + maskV 192#32 256#32 _ (ix2 t j) = _
  rw [m0, m1, m2, m3, hb, mix]
  have hj := j.isLt
  have hg : (grp j).val = j.val / 64 := rfl
  rcases (by omega : j.val / 64 = 0 ∨ j.val / 64 = 1 ∨ j.val / 64 = 2 ∨ j.val / 64 = 3) with h | h | h | h
  · rw [(Fin.ext (hg.trans h) : grp j = 0), if_pos (by omega), if_neg (by omega), if_neg (by omega), if_neg (by omega)]
    simp only [add_zero, EReal.coe_add]
  · rw [(Fin.ext (hg.trans h) : grp j = 1), if_neg (by omega), if_pos (by omega), if_neg (by omega), if_neg (by omega)]
    simp only [add_zero, EReal.coe_add]
  · rw [(Fin.ext (hg.trans h) : grp j = 2), if_neg (by omega), if_neg (by omega), if_pos (by omega), if_neg (by omega)]
    simp only [add_zero, EReal.coe_add]
  · rw [(Fin.ext (hg.trans h) : grp j = 3), if_neg (by omega), if_neg (by omega), if_neg (by omega), if_pos (by omega)]
    simp only [add_zero, EReal.coe_add]

variable (hu : ∀ r k, u (ix2 r k) = ((U r k : ℝ) : EReal)) (hg : ∀ k, g (ix2 0 k) = ((G k : ℝ) : EReal))

include ha hv hw hb hu in
theorem gated_at (t : Fin 128) (j : Fin 256) : gatedV u v w b a (ix2 t j) = ((gated U V W B t j : ℝ) : EReal) := by
  pointwise [gatedV]
  rw [gel_at u U hu, mix_at v w b a V W B ha hv hw hb, ← EReal.coe_mul]
  rfl

include ha hv hw hb hu hg in
theorem res_at (t : Fin 128) (j : Fin 256) : resV u v w b g a (ix2 t j) = ((res U V W B G t j : ℝ) : EReal) := by
  pointwise [resV]
  rw [nrm_at a ha _ (fun r k => gated U V W B r k) (gated_at u v w b a U V W B ha hv hw hb hu),
    gated_at u v w b a U V W B ha hv hw hb hu, hg, ← EReal.coe_mul, ← EReal.coe_mul]
  rfl

end Chunk

section Block

variable (x0 x1 : Vec Ideal S1024x256 .f32) (x2 : Vec Ideal S4x128x128 .f32) (x3 : Vec Ideal S128x256 .f32)
  (x4 : Vec Ideal S1x256 .f32) (x5 : Vec Ideal S256x256 .f32)

/-- A chunk of a grid point, from its rows. -/
def piece (u v : Chunk) : FVec Ideal S128x256 .bf16 :=
  resV u v (View.ld x2 r0_0) (shapeCast S128x256 (View.ld x3 r0_1) shapeCasts_S128x256_S128x256)
    (shapeCast S1x256 (View.ld x4 r0_2) shapeCasts_S1x256_S1x256) (View.ld x5 r0_3)

/-- The body's result: its eight chunks. -/
theorem out_eq : out0_6 x0 x1 x2 x3 x4 x5 = View.canon [
    ⟨r0_11, piece x2 x3 x4 x5 (View.ld x0 r0_11) (View.ld x1 r0_11)⟩,
    ⟨r0_10, piece x2 x3 x4 x5 (View.ld x0 r0_10) (View.ld x1 r0_10)⟩,
    ⟨r0_9, piece x2 x3 x4 x5 (View.ld x0 r0_9) (View.ld x1 r0_9)⟩,
    ⟨r0_8, piece x2 x3 x4 x5 (View.ld x0 r0_8) (View.ld x1 r0_8)⟩,
    ⟨r0_7, piece x2 x3 x4 x5 (View.ld x0 r0_7) (View.ld x1 r0_7)⟩,
    ⟨r0_6, piece x2 x3 x4 x5 (View.ld x0 r0_6) (View.ld x1 r0_6)⟩,
    ⟨r0_5, piece x2 x3 x4 x5 (View.ld x0 r0_5) (View.ld x1 r0_5)⟩,
    ⟨r0_4, piece x2 x3 x4 x5 (View.ld x0 r0_4) (View.ld x1 r0_4)⟩] := rfl

variable (U V : Fin 1024 → Fin 256 → ℝ) (W : Fin 4 → Fin 128 → Fin 128 → ℝ) (B : Fin 4 → Fin 128 → ℝ) (G : Fin 256 → ℝ)
  (q0 : ∀ r k, x0 (ix2 r k) = ((U r k : ℝ) : EReal)) (q1 : ∀ r k, x1 (ix2 r k) = ((V r k : ℝ) : EReal))
  (q2 : ∀ e t s, x2 (ix3 e t s) = ((W e t s : ℝ) : EReal)) (q3 : ∀ t j, x3 (ix2 t j) = ((B (grp j) t : ℝ) : EReal))
  (q4 : ∀ k, x4 (ix2 0 k) = ((G k : ℝ) : EReal)) (q5 : ∀ k j, x5 (ix2 k j) = ((avg k j : ℝ) : EReal))

/-- The rows of a row's chunk. -/
def chunkRow (r : Fin 1024) (s : Fin 128) : Fin 1024 := ⟨r.val / 128 * 128 + s.val, by omega⟩
/-- A row inside its chunk. -/
def inChunk (r : Fin 1024) : Fin 128 := ⟨r.val % 128, by omega⟩

include q2 q3 q4 q5 in
theorem piece_at (u v : Chunk) (U V : Fin 128 → Fin 256 → ℝ) (hu : ∀ r k, u (ix2 r k) = ((U r k : ℝ) : EReal))
    (hv : ∀ r k, v (ix2 r k) = ((V r k : ℝ) : EReal)) (t : Fin 128) (j : Fin 256) :
    piece x2 x3 x4 x5 u v (ix2 t j) = ((res U V W B G t j : ℝ) : EReal) := by
  unfold piece
  refine res_at _ _ _ _ _ _ U V W B G ?_ hv ?_ ?_ hu ?_ t j
  · intro k j; pointwise []; exact q5 k j
  · intro e t s; pointwise []; exact q2 e t s
  · intro t j; pointwise []; exact q3 t j
  · intro k; pointwise []; exact q4 k

include q0 q1 q2 q3 q4 q5 in
theorem piece_in (u v : Chunk) (n : Fin 8)
    (hu : ∀ s k, u (ix2 s k) = x0 (ix2 ⟨n.val * 128 + s.val, by omega⟩ k))
    (hv : ∀ s k, v (ix2 s k) = x1 (ix2 ⟨n.val * 128 + s.val, by omega⟩ k))
    (r : Fin 1024) (t : Fin 128) (j j' : Fin 256) (hr : r.val = n.val * 128 + t.val) (hj : j.val = j'.val) :
    piece x2 x3 x4 x5 u v (ix2 t j')
      = ((res (fun s => U (chunkRow r s)) (fun s => V (chunkRow r s)) W B G (inChunk r) j : ℝ) : EReal) := by
  obtain rfl := Fin.ext hj
  have hn : ∀ s : Fin 128, chunkRow r s = ⟨n.val * 128 + s.val, by omega⟩ := fun s => Fin.ext (by simp only [chunkRow]; omega)
  obtain rfl : inChunk r = t := Fin.ext (by simp only [inChunk]; omega)
  refine piece_at x2 x3 x4 x5 W B G q2 q3 q4 q5 u v _ _ (fun s k => ?_) (fun s k => ?_) _ _
  · rw [hu, q0, hn]
  · rw [hv, q1, hn]

include q0 q1 q2 q3 q4 q5 in
theorem out6 (r : Fin 1024) (j : Fin 256) : out0_6 x0 x1 x2 x3 x4 x5 (ix2 r j)
    = ((res (fun s => U (chunkRow r s)) (fun s => V (chunkRow r s)) W B G (inChunk r) j : ℝ) : EReal) := by
  rw [out_eq]
  canon_tiles y hy using Gen.cover0_6 ..
  all_goals idx_vars y
  · exact piece_in x0 x1 x2 x3 x4 x5 U V W B G q0 q1 q2 q3 q4 q5 _ _ 7 (fun s k => by pointwise []) (fun s k => by pointwise []) r y0 j y1
      (by simp; omega) (by omega)
  · exact piece_in x0 x1 x2 x3 x4 x5 U V W B G q0 q1 q2 q3 q4 q5 _ _ 6 (fun s k => by pointwise []) (fun s k => by pointwise []) r y0 j y1
      (by simp; omega) (by omega)
  · exact piece_in x0 x1 x2 x3 x4 x5 U V W B G q0 q1 q2 q3 q4 q5 _ _ 5 (fun s k => by pointwise []) (fun s k => by pointwise []) r y0 j y1
      (by simp; omega) (by omega)
  · exact piece_in x0 x1 x2 x3 x4 x5 U V W B G q0 q1 q2 q3 q4 q5 _ _ 4 (fun s k => by pointwise []) (fun s k => by pointwise []) r y0 j y1
      (by simp; omega) (by omega)
  · exact piece_in x0 x1 x2 x3 x4 x5 U V W B G q0 q1 q2 q3 q4 q5 _ _ 3 (fun s k => by pointwise []) (fun s k => by pointwise []) r y0 j y1
      (by simp; omega) (by omega)
  · exact piece_in x0 x1 x2 x3 x4 x5 U V W B G q0 q1 q2 q3 q4 q5 _ _ 2 (fun s k => by pointwise []) (fun s k => by pointwise []) r y0 j y1
      (by simp; omega) (by omega)
  · exact piece_in x0 x1 x2 x3 x4 x5 U V W B G q0 q1 q2 q3 q4 q5 _ _ 1 (fun s k => by pointwise []) (fun s k => by pointwise []) r y0 j y1
      (by simp; omega) (by omega)
  · exact piece_in x0 x1 x2 x3 x4 x5 U V W B G q0 q1 q2 q3 q4 q5 _ _ 0 (fun s k => by pointwise []) (fun s k => by pointwise []) r y0 j y1
      (by simp; omega) (by omega)

end Block

variable (m : (ℓ : Loc nD τ sig) → Buf (Elt Ideal) ℓ) (c : Dev nD)

/-- Where each window's block lies at a grid point. -/
theorem idx : ∀ t : Fin cfg0.N, win0_0.index t = ![t.val, 10] ∧ win0_1.index t = ![t.val, 11] ∧ win0_2.index t = ![0, 0, 0] ∧
    win0_3.index t = ![0, 0] ∧ win0_4.index t = ![0, 0] ∧ win0_5.index t = ![0, 0] ∧ win0_6.index t = ![t.val, 0] :=
  (by decide +kernel : ∀ t : Fin grid0.N, _)

theorem row_lt (t : Fin cfg0.N) (r : Fin 1024) : t.val * 1024 + r.val < 4096 := by
  have h : t.val < 4 := lt_of_lt_of_eq t.isLt N_0
  omega

/-- A row of a grid point's block among all rows. -/
def rowAt (t : Fin cfg0.N) (r : Fin 1024) : Fin 4096 := ⟨t.val * 1024 + r.val, row_lt t r⟩

/-- The columns of the two inputs in the array that holds them. -/
def colU (j : Fin 256) : Fin 3072 := ⟨2560 + j.val, by omega⟩
def colV (j : Fin 256) : Fin 3072 := ⟨2816 + j.val, by omega⟩

variable (Z : Fin 4096 → Fin 3072 → ℝ) (W : Fin 4 → Fin 128 → Fin 128 → ℝ) (B : Fin 4 → Fin 128 → ℝ) (G : Fin 256 → ℝ)
  (v0 : ∀ r d, m (c.tc.loc main_arg0) (ix2 r d) = ((Z r d : ℝ) : EReal))
  (v1 : ∀ e t s, m (c.tc.loc main_arg1) (ix3 e t s) = ((W e t s : ℝ) : EReal))
  (v2 : ∀ e t, m (c.tc.loc main_arg2) (ix2 e t) = ((B e t : ℝ) : EReal))
  (v3 : ∀ d, m (c.tc.loc main_arg3) (ix1 d) = ((G d : ℝ) : EReal))

include v0 in
theorem blk0 (t : Fin cfg0.N) (r : Fin 1024) (d : Fin 256) : iblk m c 0 t (ix2 r d) = ((Z (rowAt t r) (colU d) : ℝ) : EReal) :=
  (Eq.trans (b := V m c main_arg0 (ix2 (rowAt t r) (colU d))) (by blk_ext [iblk, rowAt, colU, idx t])
    (congrFun (V_main_arg0 m c) _)).trans (v0 _ _)
include v0 in
theorem blk1 (t : Fin cfg0.N) (r : Fin 1024) (d : Fin 256) : iblk m c 1 t (ix2 r d) = ((Z (rowAt t r) (colV d) : ℝ) : EReal) :=
  (Eq.trans (b := V m c main_arg0 (ix2 (rowAt t r) (colV d))) (by blk_ext [iblk, rowAt, colV, idx t])
    (congrFun (V_main_arg0 m c) _)).trans (v0 _ _)
include v1 in
theorem blk2 (p : Fin cfg0.N) (e : Fin 4) (t s : Fin 128) : iblk m c 2 p (ix3 e t s) = ((W e t s : ℝ) : EReal) :=
  (Eq.trans (b := V m c main_arg1 (ix3 e t s)) (by blk_ext [iblk, idx p])
    (congrFun (V_main_arg1 m c) _)).trans (v1 _ _ _)
include v2 in
theorem blk3 (p : Fin cfg0.N) (t : Fin 128) (j : Fin 256) : iblk m c 3 p (ix2 t j) = ((B (grp j) t : ℝ) : EReal) := by
  refine Eq.trans (b := V m c main_v2 (ix2 t j)) (by blk_ext [iblk, idx p]) (Eq.trans ?_ (v2 _ _))
  entry_read
  pointwise []
  rfl
include v3 in
theorem blk4 (p : Fin cfg0.N) (j : Fin 256) : iblk m c 4 p (ix2 0 j) = ((G j : ℝ) : EReal) := by
  refine Eq.trans (b := V m c main_v3 (ix2 0 j)) (by blk_ext [iblk, idx p]) (Eq.trans ?_ (v3 _))
  entry_read
  pointwise []

theorem avg_at (k j : Fin 256) : V m c main_cst (ix2 k j) = ((avg k j : ℝ) : EReal) := by
  have h : lit0 (S256x256.rowMajor (ix2 k j) : Fin S256x256.numel) = lit0t (k.val * 256 + j.val) :=
    congrArg lit0t (Shape.rowMajor_val_two (ix2 k j))
  entry_read
  pointwise []
  rw [h, SguTable.entry, avg]
  split
  · rw [ofBits_64th]
  · exact Ideal.ofBits_zero_f32

theorem blk5 (p : Fin cfg0.N) (k j : Fin 256) : iblk m c 5 p (ix2 k j) = ((avg k j : ℝ) : EReal) :=
  Eq.trans (b := V m c main_cst (ix2 k j)) (by blk_ext [iblk, idx p]) (avg_at m c k j)

/-- The result after the region. -/
def rowsRes (r : Fin 4096) (j : Fin 256) : EReal :=
  ((res (fun s d => Z ⟨r.val / 128 * 128 + s.val, by omega⟩ (colU d)) (fun s d => Z ⟨r.val / 128 * 128 + s.val, by omega⟩ (colV d))
    W B G ⟨r.val % 128, by omega⟩ j : ℝ) : EReal)

include v0 v1 v2 v3 in
theorem final6 : (dats m 0 c).arrAt 6 cfg0.N = fun i => rowsRes Z W B G (i 0) (i 1) := by
  refine (dats m 0 c).arrAt_eq_of_covers 6 _ (by decide +kernel) fun t _ y => ?_
  idx_vars y
  blk_simp
  rw [after0_6, out6 _ _ _ _ _ _ (fun r d => Z (rowAt t r) (colU d)) (fun r d => Z (rowAt t r) (colV d)) W B G
    (blk0 m c Z v0 t) (blk1 m c Z v0 t) (blk2 m c W v1 t) (blk3 m c B v2 t) (blk4 m c G v3 t) (blk5 m c t)]
  have hr : ∀ s, rowAt t (chunkRow y0 s) = ⟨(rowAt t y0).val / 128 * 128 + s.val, by omega⟩ := fun s =>
    Fin.ext (by simp only [rowAt, chunkRow]; omega)
  have ht : inChunk y0 = ⟨(rowAt t y0).val % 128, by omega⟩ := Fin.ext (by simp only [rowAt, inChunk]; omega)
  refine Eq.trans (b := rowsRes Z W B G (rowAt t y0) y1) ?_
    (congr (congrArg (rowsRes Z W B G) (Fin.ext (by blk_simp [idx t, rowAt]))) (Fin.ext (by blk_simp [idx t])))
  simp only [hr, ht, rowsRes]

end Cert.SguRows

end
-- ==== Proof.SguAlgebra.lean ====
/-
  The spatial gating unit: for finite arguments the kernel's program and the plain reference end with the same result.
-/
module

public import proofs.«01_k».proof.Defs
public import proofs.«01_k».proof.Proof.Gen.Pre_finite_sgu
public import proofs.«01_k».proof.Proof.Gen.ReferenceSguIdeal.Run
public import proofs.«01_k».proof.Proof.Gen.ReferenceSguIdeal.Read
public import proofs.«01_k».proof.Proof.Algebra
public import proofs.«01_k».proof.Proof.SguRows

@[expose] public section

noncomputable section

namespace Cert.SguAlgebra

open Cert.ReferenceSguIdeal Cert.ReferenceSguIdeal.Read Idealize.ShloMosaic Idealize.SL.Sem Cert.Reals Cert.SguSpec Cert.SguRows

/-- Four argument arrays hold these real numbers. -/
structure Holds (Z : Fin 4096 → Fin 3072 → ℝ) (W : Fin 4 → Fin 128 → Fin 128 → ℝ) (B : Fin 4 → Fin 128 → ℝ) (G : Fin 256 → ℝ)
    (X0 : FVec Ideal S4096x3072 .f32) (X1 : FVec Ideal S4x128x128 .f32) (X2 : FVec Ideal S4x128 .f32)
    (X3 : FVec Ideal S256 .f32) : Prop where
  rows : ∀ r d, X0 (ix2 r d) = ((Z r d : ℝ) : EReal)
  weight : ∀ e t s, X1 (ix3 e t s) = ((W e t s : ℝ) : EReal)
  bias : ∀ e t, X2 (ix2 e t) = ((B e t : ℝ) : EReal)
  gain : ∀ d, X3 (ix1 d) = ((G d : ℝ) : EReal)

/-- A row by its chunk, and a column by its group. -/
def row (n : Fin 32) (t : Fin 128) : Fin 4096 := ⟨n.val * 128 + t.val, by omega⟩
def cc (e : Fin 4) (d : Fin 64) : Fin 256 := ⟨e.val * 64 + d.val, by omega⟩

theorem gm_cc (f : Fin 256 → ℝ) (e : Fin 4) (d : Fin 64) : gm f (cc e d) = (∑ d', f (cc e d')) / 64 := by
  have h : ∀ d', col (cc e d) d' = cc e d' := fun d' => Fin.ext (by simp only [col, cc]; omega)
  simp only [gm, h]

theorem grp_cc (e : Fin 4) (d : Fin 64) : grp (cc e d) = e := Fin.ext (by simp only [grp, cc]; omega)

theorem nrm_cc (f : Fin 256 → ℝ) (e : Fin 4) (d : Fin 64) :
    nrm f (cc e d) = (Real.sqrt ((∑ d', f (cc e d') * f (cc e d')) / 64 + eps))⁻¹ := by
  unfold nrm
  rw [gm_cc]

theorem ms_pos (f : Fin 256 → ℝ) (e : Fin 4) : 0 < (∑ d', f (cc e d') * f (cc e d')) / 64 + eps := by
  have := gm_sq_pos f (cc e 0)
  rwa [gm_cc] at this

section
variable {x0 : FVec Ideal S4096x3072 .f32} {x1 : FVec Ideal S4x128x128 .f32} {x2 : FVec Ideal S4x128 .f32} {x3 : FVec Ideal S256 .f32}
  {Z : Fin 4096 → Fin 3072 → ℝ} {W : Fin 4 → Fin 128 → Fin 128 → ℝ} {B : Fin 4 → Fin 128 → ℝ} {G : Fin 256 → ℝ}
  (hm : Holds Z W B G x0 x1 x2 x3)

include hm

theorem at_u (r : Fin 4096) (j : Fin 256) : val_main_v14 (F := Ideal) x0 (ix2 r j) = ((gel (Z r (colU j)) : ℝ) : EReal) := by
  have h0 : val_main_v0 (F := Ideal) x0 (ix2 r j) = ((Z r (colU j) : ℝ) : EReal) := by
    rw [val_main_v0_apply, ← hm.rows]
    exact congrArg x0 (by idx_ext)
  rw [val_main_v14_apply, val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_cst_apply, val_main_cst_0_apply, val_main_cst_1_apply, val_main_cst_2_apply, h0]
  simp only [Ideal.mulf_def, Ideal.addf_def, Ideal.ofBits_def, Ideal.hostUnary_tanh_def, ofBits_half, ofBits_one, ofBits_slope,
    ofBits_cube, ← EReal.coe_mul, ← EReal.coe_add, tanh_coe]
  rw [gel, mul_assoc (Z r (colU j)) (Z r (colU j)) (Z r (colU j))]

theorem at_v (r : Fin 4096) (j : Fin 256) : val_main_v27 (F := Ideal) x0 (ix2 r j) = ((gel (Z r (colV j)) : ℝ) : EReal) := by
  have h0 : val_main_v1 (F := Ideal) x0 (ix2 r j) = ((Z r (colV j) : ℝ) : EReal) := by
    rw [val_main_v1_apply, ← hm.rows]
    exact congrArg x0 (by idx_ext)
  rw [val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, val_main_cst_3_apply, val_main_cst_4_apply, val_main_cst_5_apply, val_main_cst_6_apply, h0]
  simp only [Ideal.mulf_def, Ideal.addf_def, Ideal.ofBits_def, Ideal.hostUnary_tanh_def, ofBits_half, ofBits_one, ofBits_slope,
    ofBits_cube, ← EReal.coe_mul, ← EReal.coe_add, tanh_coe]
  rw [gel, mul_assoc (Z r (colV j)) (Z r (colV j)) (Z r (colV j))]

/-- The values of a chunk's row that are mixed. -/
abbrev vrow (Z : Fin 4096 → Fin 3072 → ℝ) (n : Fin 32) (s : Fin 128) (j : Fin 256) : ℝ := Z (row n s) (colV j)

theorem at_v28 (n : Fin 32) (t : Fin 128) (e : Fin 4) (d : Fin 64) :
    val_main_v28 (F := Ideal) x0 (ix4 n t e d) = ((gel (vrow Z n t (cc e d)) : ℝ) : EReal) := by
  rw [val_main_v28_apply, ← at_v hm]
  refine congrArg (val_main_v27 (F := Ideal) x0) (funext fun a => ?_)
  match a with
  | ⟨0, _⟩ => exact Fin.ext (by show (((n.val * 128 + t.val) * 4 + e.val) * 64 + d.val) / 256 = n.val * 128 + t.val; omega)
  | ⟨1, _⟩ => exact Fin.ext (by show (((n.val * 128 + t.val) * 4 + e.val) * 64 + d.val) % 256 = e.val * 64 + d.val; omega)

theorem at_v32 (n : Fin 32) (t : Fin 128) (e : Fin 4) :
    val_main_v32 (F := Ideal) x0 (ix4 n t e 0) = (((∑ d, gel (vrow Z n t (cc e d))) / 64 : ℝ) : EReal) := by
  have h : ∀ k, val_main_v28 (F := Ideal) x0 (idx_main_v29 (idx_main_v30 (ix4 n t e 0)) k)
      = ((gel (vrow Z n t (cc e k)) : ℝ) : EReal) := fun k =>
    (congrArg (val_main_v28 (F := Ideal) x0) (by idx_ext)).trans (at_v28 hm n t e k)
  rw [val_main_v32_apply, val_main_v30_apply, val_main_v29_apply, val_main_v31_apply, val_main_cst_7_apply, val_main_cst_8_apply]
  simp only [h, Ideal.hostDivf_def, Ideal.ofBits_def, Ideal.ofBits_zero_f32, zero_add, ofBits_64, sum_coe]
  rw [div_coe_coe _ (by norm_num : (64 : ℝ) ≠ 0)]

theorem at_v34 (n : Fin 32) (t : Fin 128) (e : Fin 4) (d : Fin 64) :
    val_main_v34 (F := Ideal) x0 (ix4 n t e d) = ((vc (vrow Z n t) (cc e d) : ℝ) : EReal) := by
  have h : val_main_v32 (F := Ideal) x0 (idx_main_v33 (ix4 n t e d)) = _ :=
    (congrArg (val_main_v32 (F := Ideal) x0) (by idx_ext)).trans (at_v32 hm n t e)
  rw [val_main_v34_apply, val_main_v33_apply, h, at_v28 hm, Ideal.subf_def, ← EReal.coe_sub, vc, gm_cc]

theorem at_v41 (n : Fin 32) (t : Fin 128) (e : Fin 4) (d : Fin 64) :
    val_main_v41 (F := Ideal) x0 (ix4 n t e d) = ((vc (vrow Z n t) (cc e d) : ℝ) : EReal) := by
  have h : val_main_v32 (F := Ideal) x0 (idx_main_v40 (ix4 n t e d)) = _ :=
    (congrArg (val_main_v32 (F := Ideal) x0) (by idx_ext)).trans (at_v32 hm n t e)
  rw [val_main_v41_apply, val_main_v40_apply, h, at_v28 hm, Ideal.subf_def, ← EReal.coe_sub, vc, gm_cc]

theorem at_v44 (n : Fin 32) (t : Fin 128) (e : Fin 4) (d : Fin 64) :
    val_main_v44 (F := Ideal) x0 (ix4 n t e 0) = ((nrm (vc (vrow Z n t)) (cc e d) : ℝ) : EReal) := by
  have h : ∀ k, val_main_v34 (F := Ideal) x0 (idx_main_v36 (idx_main_v37 (ix4 n t e 0)) k)
      = ((vc (vrow Z n t) (cc e k) : ℝ) : EReal) := fun k =>
    (congrArg (val_main_v34 (F := Ideal) x0) (by idx_ext)).trans (at_v34 hm n t e k)
  rw [val_main_v44_apply, val_main_v43_apply, val_main_v39_apply, val_main_v37_apply, val_main_v36_apply, val_main_v38_apply,
    val_main_v42_apply, val_main_cst_9_apply, val_main_cst_10_apply, val_main_cst_11_apply]
  simp only [val_main_v35_apply, h, Ideal.hostDivf_def, Ideal.addf_def, Ideal.mulf_def, Ideal.ofBits_def, Ideal.ofBits_zero_f32,
    Ideal.hostUnary_rsqrt_def, zero_add, ofBits_64, ofBits_eps, ← EReal.coe_mul, sum_coe]
  rw [div_coe_coe _ (by norm_num : (64 : ℝ) ≠ 0), ← EReal.coe_add, rsqrt_coe (ms_pos _ _), nrm_cc]

theorem at_v46 (n : Fin 32) (t : Fin 128) (e : Fin 4) (d : Fin 64) :
    val_main_v46 (F := Ideal) x0 (ix4 n t e d) = ((vh (vrow Z n t) (cc e d) : ℝ) : EReal) := by
  have h : val_main_v44 (F := Ideal) x0 (idx_main_v45 (ix4 n t e d)) = _ :=
    (congrArg (val_main_v44 (F := Ideal) x0) (by idx_ext)).trans (at_v44 hm n t e d)
  rw [val_main_v46_apply, val_main_v45_apply, h, at_v41 hm, Ideal.mulf_def, ← EReal.coe_mul, vh]

theorem at_v51 (e : Fin 4) (t s : Fin 128) : val_main_v51 (F := Ideal) x1 (ix3 e t s) = ((low W e t s : ℝ) : EReal) := by
  have h : val_main_v48 (F := Ideal) (idx_main_v49 (idx_main_v50 (ix3 e t s))) = ((if s.val ≤ t.val then 1 else 0 : ℝ) : EReal) := by
    rw [val_main_v48_apply, val_main_call0_v4_apply, val_main_call0_v2_apply, val_main_call0_v0_apply, val_main_call0_v1_apply,
      val_main_call0_c_apply, val_main_call0_v3_apply, val_main_v47_apply, val_main_cst_12_apply, val_main_call0_v5_apply,
      val_main_call0_cst_apply]
    show Scalar.select (IntOp.cmpi .sge (BitVec.ofNat 32 t.val + 0#32) (BitVec.ofNat 32 s.val)) _ _ = _
    rw [BitVec.add_zero, sge_ofNat _ _ (by omega) (by omega)]
    split
    · rw [select_one, Ideal.ofBits_def, ofBits_one]
    · rw [select_zero, Ideal.ofBits_def, Ideal.ofBits_zero_f32]; rfl
  rw [val_main_v51_apply, val_main_v50_apply, val_main_v49_apply, h, hm.weight, Ideal.mulf_def, ← EReal.coe_mul, low]
  split <;> simp

theorem at_v58 (n : Fin 32) (t : Fin 128) (e : Fin 4) (d : Fin 64) :
    val_main_v58 (F := Ideal) x0 x1 x2 (ix4 n t e d) = ((mix (vrow Z n) W B t (cc e d) : ℝ) : EReal) := by
  have hb : x2 (idx_main_v54 (idx_main_v55 (idx_main_v56 (idx_main_v57 (ix4 n t e d))))) = ((B e t : ℝ) : EReal) :=
    (congrArg x2 (by idx_ext)).trans (hm.bias e t)
  have hl : ∀ k, val_main_v46 (F := Ideal) x0 (lidx_main_v52 (idx_main_v53 (ix4 n t e d)) k)
      = ((vh (vrow Z n k) (cc e d) : ℝ) : EReal) := fun k =>
    (congrArg (val_main_v46 (F := Ideal) x0) (by idx_ext)).trans (at_v46 hm n k e d)
  have hr : ∀ k, val_main_v51 (F := Ideal) x1 (ridx_main_v52 (idx_main_v53 (ix4 n t e d)) k) = ((low W e t k : ℝ) : EReal) := fun k =>
    (congrArg (val_main_v51 (F := Ideal) x1) (by idx_ext)).trans (at_v51 hm e t k)
  rw [val_main_v58_apply, val_main_v53_apply, val_main_v52_apply, val_main_v57_apply, val_main_v56_apply, val_main_v55_apply,
    val_main_v54_apply, hb]
  simp only [hl, hr, Ideal.addf_def, ← EReal.coe_mul, sum_coe, ← EReal.coe_add]
  refine congrArg Real.toEReal ?_
  rw [mix, grp_cc, add_comm]
  exact congrArg (B e t + ·) (Finset.sum_congr rfl fun s _ => mul_comm _ _)

/-- The rows of a chunk that gate. -/
abbrev urow (Z : Fin 4096 → Fin 3072 → ℝ) (n : Fin 32) (s : Fin 128) (j : Fin 256) : ℝ := Z (row n s) (colU j)

theorem at_v60 (n : Fin 32) (t : Fin 128) (e : Fin 4) (d : Fin 64) : val_main_v60 (F := Ideal) x0 x1 x2 (ix2 (row n t) (cc e d))
    = ((gated (urow Z n) (vrow Z n) W B t (cc e d) : ℝ) : EReal) := by
  have h : val_main_v58 (F := Ideal) x0 x1 x2 (idx_main_v59 (ix2 (row n t) (cc e d))) = _ :=
    (congrArg (val_main_v58 (F := Ideal) x0 x1 x2) (funext fun a => match a with
      | ⟨0, _⟩ => Fin.ext (by show ((n.val * 128 + t.val) * 256 + (e.val * 64 + d.val)) / 32768 = n.val; omega)
      | ⟨1, _⟩ => Fin.ext (by show ((n.val * 128 + t.val) * 256 + (e.val * 64 + d.val)) / 256 % 128 = t.val; omega)
      | ⟨2, _⟩ => Fin.ext (by show ((n.val * 128 + t.val) * 256 + (e.val * 64 + d.val)) / 64 % 4 = e.val; omega)
      | ⟨3, _⟩ => Fin.ext (by show ((n.val * 128 + t.val) * 256 + (e.val * 64 + d.val)) % 64 = d.val; omega))).trans
      (at_v58 hm n t e d)
  rw [val_main_v60_apply, val_main_v59_apply, h, at_u hm, Ideal.mulf_def, ← EReal.coe_mul, gated]

theorem at_v61 (n : Fin 32) (t : Fin 128) (e : Fin 4) (d : Fin 64) : val_main_v61 (F := Ideal) x0 x1 x2 (ix3 (row n t) e d)
    = ((gated (urow Z n) (vrow Z n) W B t (cc e d) : ℝ) : EReal) := by
  rw [val_main_v61_apply, ← at_v60 hm]
  refine congrArg (val_main_v60 (F := Ideal) x0 x1 x2) (funext fun a => ?_)
  match a with
  | ⟨0, _⟩ => exact Fin.ext (by show (((n.val * 128 + t.val) * 4 + e.val) * 64 + d.val) / 256 = n.val * 128 + t.val; omega)
  | ⟨1, _⟩ => exact Fin.ext (by show (((n.val * 128 + t.val) * 4 + e.val) * 64 + d.val) % 256 = e.val * 64 + d.val; omega)

theorem at_v69 (n : Fin 32) (t : Fin 128) (e : Fin 4) (d : Fin 64) : val_main_v69 (F := Ideal) x0 x1 x2 (ix3 (row n t) e 0)
    = ((nrm (gated (urow Z n) (vrow Z n) W B t) (cc e d) : ℝ) : EReal) := by
  have h : ∀ k, val_main_v61 (F := Ideal) x0 x1 x2 (idx_main_v63 (idx_main_v64 (ix3 (row n t) e 0)) k)
      = ((gated (urow Z n) (vrow Z n) W B t (cc e k) : ℝ) : EReal) := fun k =>
    (congrArg (val_main_v61 (F := Ideal) x0 x1 x2) (by idx_ext)).trans (at_v61 hm n t e k)
  rw [val_main_v69_apply, val_main_v68_apply, val_main_v66_apply, val_main_v64_apply, val_main_v63_apply, val_main_v65_apply,
    val_main_v67_apply, val_main_cst_13_apply, val_main_cst_14_apply, val_main_cst_15_apply]
  simp only [val_main_v62_apply, h, Ideal.hostDivf_def, Ideal.addf_def, Ideal.mulf_def, Ideal.ofBits_def, Ideal.ofBits_zero_f32,
    Ideal.hostUnary_rsqrt_def, zero_add, ofBits_64, ofBits_eps, ← EReal.coe_mul, sum_coe]
  rw [div_coe_coe _ (by norm_num : (64 : ℝ) ≠ 0), ← EReal.coe_add, rsqrt_coe (ms_pos _ _), nrm_cc]

theorem at_v71 (n : Fin 32) (t : Fin 128) (e : Fin 4) (d : Fin 64) : val_main_v71 (F := Ideal) x0 x1 x2 (ix3 (row n t) e d)
    = ((gated (urow Z n) (vrow Z n) W B t (cc e d) * nrm (gated (urow Z n) (vrow Z n) W B t) (cc e d) : ℝ) : EReal) := by
  have h : val_main_v69 (F := Ideal) x0 x1 x2 (idx_main_v70 (ix3 (row n t) e d)) = _ :=
    (congrArg (val_main_v69 (F := Ideal) x0 x1 x2) (by idx_ext)).trans (at_v69 hm n t e d)
  rw [val_main_v71_apply, val_main_v70_apply, h, at_v61 hm, Ideal.mulf_def, ← EReal.coe_mul]

theorem at_res (n : Fin 32) (t : Fin 128) (e : Fin 4) (d : Fin 64) :
    val_main_v76 (F := Ideal) x0 x1 x2 x3 (ix2 (row n t) (cc e d))
      = ((res (urow Z n) (vrow Z n) W B G t (cc e d) : ℝ) : EReal) := by
  have h : val_main_v71 (F := Ideal) x0 x1 x2 (idx_main_v72 (ix2 (row n t) (cc e d))) = _ :=
    (congrArg (val_main_v71 (F := Ideal) x0 x1 x2) (funext fun a => match a with
      | ⟨0, _⟩ => Fin.ext (by show ((n.val * 128 + t.val) * 256 + (e.val * 64 + d.val)) / 256 = n.val * 128 + t.val; omega)
      | ⟨1, _⟩ => Fin.ext (by show ((n.val * 128 + t.val) * 256 + (e.val * 64 + d.val)) / 64 % 4 = e.val; omega)
      | ⟨2, _⟩ => Fin.ext (by show ((n.val * 128 + t.val) * 256 + (e.val * 64 + d.val)) % 64 = d.val; omega))).trans
      (at_v71 hm n t e d)
  have hg : x3 (idx_main_v73 (idx_main_v74 (ix2 (row n t) (cc e d)))) = ((G (cc e d) : ℝ) : EReal) :=
    (congrArg x3 (by idx_ext)).trans (hm.gain (cc e d))
  rw [val_main_v76_apply, val_main_v75_apply, val_main_v72_apply, val_main_v74_apply, val_main_v73_apply, h, hg, Ideal.truncf_def,
    Ideal.mulf_def, ← EReal.coe_mul, res]

/-- The reference's result. -/
theorem at_rows (i : S4096x256.Idx) : val_main_v76 (F := Ideal) x0 x1 x2 x3 i = rowsRes Z W B G (i 0) (i 1) := by
  idx_vars i
  obtain ⟨n, t, rfl⟩ : ∃ n t, i0 = row n t :=
    ⟨⟨i0.val / 128, by omega⟩, ⟨i0.val % 128, by omega⟩, Fin.ext (by simp only [row]; omega)⟩
  obtain ⟨e, d, rfl⟩ : ∃ e d, i1 = cc e d :=
    ⟨⟨i1.val / 64, by omega⟩, ⟨i1.val % 64, by omega⟩, Fin.ext (by simp only [cc]; omega)⟩
  refine (at_res hm n t e d).trans ?_
  have hr : ∀ s : Fin 128, (⟨(row n t).val / 128 * 128 + s.val, by omega⟩ : Fin 4096) = row n s := fun s =>
    Fin.ext (by simp only [row]; omega)
  have ht : (⟨(row n t).val % 128, by omega⟩ : Fin 128) = t := Fin.ext (by simp only [row]; omega)
  show _ = rowsRes Z W B G (row n t) (cc e d)
  simp only [rowsRes, hr, ht]

end

section
variable [Cert.Pre_finite_sgu.Facts] {x0 : FVec Ideal S4096x3072 .f32} {x1 : FVec Ideal S4x128x128 .f32}
  {x2 : FVec Ideal S4x128 .f32} {x3 : FVec Ideal S256 .f32}

/-- Finite arguments hold the real numbers they are. -/
theorem holds_of_finite (h0 : (Cert.Pre_finite_sgu.fn (F := Ideal) x0 x1 x2 x3).1 = fun _ => 1#1)
    (h1 : (Cert.Pre_finite_sgu.fn (F := Ideal) x0 x1 x2 x3).2.1 = fun _ => 1#1)
    (h2 : (Cert.Pre_finite_sgu.fn (F := Ideal) x0 x1 x2 x3).2.2.1 = fun _ => 1#1)
    (h3 : (Cert.Pre_finite_sgu.fn (F := Ideal) x0 x1 x2 x3).2.2.2 = fun _ => 1#1) :
    ∃ (Z : Fin 4096 → Fin 3072 → ℝ) (W : Fin 4 → Fin 128 → Fin 128 → ℝ) (B : Fin 4 → Fin 128 → ℝ) (G : Fin 256 → ℝ),
      Holds Z W B G x0 x1 x2 x3 :=
  ⟨fun r d => (x0 (ix2 r d)).toReal, fun e t s => (x1 (ix3 e t s)).toReal, fun e t => (x2 (ix2 e t)).toReal,
    fun d => (x3 (ix1 d)).toReal,
    { rows := fun _ _ => Algebra.real_of_mask x0 _ h0 _
      weight := fun _ _ _ => Algebra.real_of_mask x1 _ h1 _
      bias := fun _ _ => Algebra.real_of_mask x2 _ h2 _
      gain := fun _ => Algebra.real_of_mask x3 _ h3 _ }⟩

end

theorem algebraic : Cert.algebraic_KernelSguIdeal_ReferenceSguIdeal_pre_finite_sgu := by
  intro m ρ m' ρ' hp hag
  choose Z W B G hk using fun c => holds_of_finite (hp c).1 (hp c).2.1 (hp c).2.2.1 (hp c).2.2.2
  refine ⟨_, Cert.KernelSguIdeal.Value.run_blocks m ρ,
    (θ_run _ _ _).mono (fun r h c => ⟨(h c).1.trans ?_, (h c).2⟩) (Cert.ReferenceSguIdeal.Value.run m' ρ')⟩
  refine (val_main_v76_eq m' c).trans ?_
  rw [(hag c).1, (hag c).2.1, (hag c).2.2.1, (hag c).2.2.2]
  exact (funext fun i => at_rows (hk c) i).trans
    (final6 m c (Z c) (W c) (B c) (G c) (hk c).rows (hk c).weight (hk c).bias (hk c).gain).symm

end Cert.SguAlgebra

end
-- ==== Proof.lean ====
/-
  The claims about the calls of one training step, put together: the frames are the runs of the
  programs, and the equations with the plain references are in the modules imported below.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelW
public import proofs.«01_k».proof.Proof.Gen.KernelW.Skeleton
public import proofs.«01_k».proof.Proof.Gen.KernelW.Launch
public import proofs.«01_k».proof.Proof.Gen.KernelW.Points
public import proofs.«01_k».proof.Proof.Gen.KernelW.Frame
public import proofs.«01_k».proof.Proof.Gen.KernelWIdeal
public import proofs.«01_k».proof.Proof.Gen.KernelWIdeal.Skeleton
public import proofs.«01_k».proof.Proof.Gen.KernelWIdeal.Launch
public import proofs.«01_k».proof.Proof.Gen.KernelWIdeal.Points
public import proofs.«01_k».proof.Proof.Gen.KernelWIdeal.Frame
public import proofs.«01_k».proof.Proof.Gen.ReferenceWIdeal
public import proofs.«01_k».proof.Proof.Gen.KernelWIdeal.Value
public import proofs.«01_k».proof.Proof.Gen.ReferenceIdeal.Run
public import proofs.«01_k».proof.Proof.Gen.ReferenceIdeal.Read
public import proofs.«01_k».proof.Proof.Gen.ReferenceWIdeal.Run
public import proofs.«01_k».proof.Proof.Gen.ReferenceWIdeal.Read
public import proofs.«01_k».proof.Proof.Gen.Pre_finite
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelInW
public import proofs.«01_k».proof.Proof.Gen.KernelInW.Skeleton
public import proofs.«01_k».proof.Proof.Gen.KernelInW.Launch
public import proofs.«01_k».proof.Proof.Gen.KernelInW.Points
public import proofs.«01_k».proof.Proof.Gen.KernelInW.Frame
public import proofs.«01_k».proof.Proof.Gen.KernelInWIdeal
public import proofs.«01_k».proof.Proof.Gen.KernelInWIdeal.Skeleton
public import proofs.«01_k».proof.Proof.Gen.KernelInWIdeal.Launch
public import proofs.«01_k».proof.Proof.Gen.KernelInWIdeal.Points
public import proofs.«01_k».proof.Proof.Gen.KernelInWIdeal.Frame
public import proofs.«01_k».proof.Proof.Gen.KernelInWIdeal.Value
public import proofs.«01_k».proof.Proof.Gen.ReferenceInWIdeal
public import proofs.«01_k».proof.Proof.Gen.ReferenceInWIdeal.Run
public import proofs.«01_k».proof.Proof.Gen.ReferenceInWIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelFwdIn
public import proofs.«01_k».proof.Proof.Gen.KernelFwdIn.Skeleton
public import proofs.«01_k».proof.Proof.Gen.KernelFwdIn.Launch
public import proofs.«01_k».proof.Proof.Gen.KernelFwdIn.Points
public import proofs.«01_k».proof.Proof.Gen.KernelFwdIn.Frame
public import proofs.«01_k».proof.Proof.Gen.KernelFwdInIdeal
public import proofs.«01_k».proof.Proof.Gen.KernelFwdInIdeal.Skeleton
public import proofs.«01_k».proof.Proof.Gen.KernelFwdInIdeal.Launch
public import proofs.«01_k».proof.Proof.Gen.KernelFwdInIdeal.Points
public import proofs.«01_k».proof.Proof.Gen.KernelFwdInIdeal.Frame
public import proofs.«01_k».proof.Proof.Gen.KernelFwdInIdeal.Value
public import proofs.«01_k».proof.Proof.Gen.ReferenceFwdInIdeal
public import proofs.«01_k».proof.Proof.Gen.ReferenceFwdInIdeal.Run
public import proofs.«01_k».proof.Proof.Gen.ReferenceFwdInIdeal.Read
public import proofs.«01_k».proof.Proof.Gen.KernelFwdOut
public import proofs.«01_k».proof.Proof.Gen.KernelFwdOut.Skeleton
public import proofs.«01_k».proof.Proof.Gen.KernelFwdOut.Launch
public import proofs.«01_k».proof.Proof.Gen.KernelFwdOut.Points
public import proofs.«01_k».proof.Proof.Gen.KernelFwdOut.Frame
public import proofs.«01_k».proof.Proof.Gen.KernelFwdOutIdeal
public import proofs.«01_k».proof.Proof.Gen.KernelFwdOutIdeal.Skeleton
public import proofs.«01_k».proof.Proof.Gen.KernelFwdOutIdeal.Launch
public import proofs.«01_k».proof.Proof.Gen.KernelFwdOutIdeal.Points
public import proofs.«01_k».proof.Proof.Gen.KernelFwdOutIdeal.Frame
public import proofs.«01_k».proof.Proof.Gen.KernelFwdOutIdeal.Value
public import proofs.«01_k».proof.Proof.Gen.ReferenceFwdOutIdeal
public import proofs.«01_k».proof.Proof.Gen.ReferenceFwdOutIdeal.Run
public import proofs.«01_k».proof.Proof.Gen.ReferenceFwdOutIdeal.Read
public import proofs.«01_k».proof.Proof.Gen.Pre_finite_in
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.KernelLossIdeal.Value
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.Gen.KernelAdamFfn
public import proofs.«01_k».proof.Proof.Gen.KernelAdamFfn.Skeleton
public import proofs.«01_k».proof.Proof.Gen.KernelAdamFfn.Launch
public import proofs.«01_k».proof.Proof.Gen.KernelAdamFfn.Points
public import proofs.«01_k».proof.Proof.Gen.KernelAdamFfn.Frame
public import proofs.«01_k».proof.Proof.Gen.KernelAdamFfnIdeal
public import proofs.«01_k».proof.Proof.Gen.KernelAdamFfnIdeal.Skeleton
public import proofs.«01_k».proof.Proof.Gen.KernelAdamFfnIdeal.Launch
public import proofs.«01_k».proof.Proof.Gen.KernelAdamFfnIdeal.Points
public import proofs.«01_k».proof.Proof.Gen.KernelAdamFfnIdeal.Frame
public import proofs.«01_k».proof.Proof.Gen.ReferenceAdamFfnIdeal
public import proofs.«01_k».proof.Proof.Gen.ReferenceAdamFfnIdeal.Run
public import proofs.«01_k».proof.Proof.Gen.ReferenceAdamFfnIdeal.Read
public import proofs.«01_k».proof.Proof.Gen.KernelAdamIn
public import proofs.«01_k».proof.Proof.Gen.KernelAdamIn.Skeleton
public import proofs.«01_k».proof.Proof.Gen.KernelAdamIn.Launch
public import proofs.«01_k».proof.Proof.Gen.KernelAdamIn.Points
public import proofs.«01_k».proof.Proof.Gen.KernelAdamIn.Frame
public import proofs.«01_k».proof.Proof.Gen.KernelAdamInIdeal
public import proofs.«01_k».proof.Proof.Gen.KernelAdamInIdeal.Skeleton
public import proofs.«01_k».proof.Proof.Gen.KernelAdamInIdeal.Launch
public import proofs.«01_k».proof.Proof.Gen.KernelAdamInIdeal.Points
public import proofs.«01_k».proof.Proof.Gen.KernelAdamInIdeal.Frame
public import proofs.«01_k».proof.Proof.Gen.ReferenceAdamInIdeal
public import proofs.«01_k».proof.Proof.Gen.ReferenceAdamInIdeal.Run
public import proofs.«01_k».proof.Proof.Gen.ReferenceAdamInIdeal.Read
public import proofs.«01_k».proof.Proof.Gen.KernelAdamOut
public import proofs.«01_k».proof.Proof.Gen.KernelAdamOut.Skeleton
public import proofs.«01_k».proof.Proof.Gen.KernelAdamOut.Launch
public import proofs.«01_k».proof.Proof.Gen.KernelAdamOut.Points
public import proofs.«01_k».proof.Proof.Gen.KernelAdamOut.Frame
public import proofs.«01_k».proof.Proof.Gen.KernelAdamOutIdeal
public import proofs.«01_k».proof.Proof.Gen.KernelAdamOutIdeal.Skeleton
public import proofs.«01_k».proof.Proof.Gen.KernelAdamOutIdeal.Launch
public import proofs.«01_k».proof.Proof.Gen.KernelAdamOutIdeal.Points
public import proofs.«01_k».proof.Proof.Gen.KernelAdamOutIdeal.Frame
public import proofs.«01_k».proof.Proof.Gen.ReferenceAdamOutIdeal
public import proofs.«01_k».proof.Proof.Gen.ReferenceAdamOutIdeal.Run
public import proofs.«01_k».proof.Proof.Gen.ReferenceAdamOutIdeal.Read
public import proofs.«01_k».proof.Proof.Gen.KernelAdamSmall
public import proofs.«01_k».proof.Proof.Gen.KernelAdamSmall.Skeleton
public import proofs.«01_k».proof.Proof.Gen.KernelAdamSmall.Launch
public import proofs.«01_k».proof.Proof.Gen.KernelAdamSmall.Points
public import proofs.«01_k».proof.Proof.Gen.KernelAdamSmall.Frame
public import proofs.«01_k».proof.Proof.Gen.KernelAdamSmallIdeal
public import proofs.«01_k».proof.Proof.Gen.KernelAdamSmallIdeal.Skeleton
public import proofs.«01_k».proof.Proof.Gen.KernelAdamSmallIdeal.Launch
public import proofs.«01_k».proof.Proof.Gen.KernelAdamSmallIdeal.Points
public import proofs.«01_k».proof.Proof.Gen.KernelAdamSmallIdeal.Frame
public import proofs.«01_k».proof.Proof.Gen.KernelAdamSmallIdeal.Value
public import proofs.«01_k».proof.Proof.Gen.ReferenceAdamSmallIdeal
public import proofs.«01_k».proof.Proof.Gen.ReferenceAdamSmallIdeal.Run
public import proofs.«01_k».proof.Proof.Gen.ReferenceAdamSmallIdeal.Read
public import proofs.«01_k».proof.Proof.Gen.KernelSgu
public import proofs.«01_k».proof.Proof.Gen.KernelSgu.Skeleton
public import proofs.«01_k».proof.Proof.Gen.KernelSgu.Launch
public import proofs.«01_k».proof.Proof.Gen.KernelSgu.Points
public import proofs.«01_k».proof.Proof.Gen.KernelSgu.Frame
public import proofs.«01_k».proof.Proof.Gen.KernelSguIdeal
public import proofs.«01_k».proof.Proof.Gen.KernelSguIdeal.Skeleton
public import proofs.«01_k».proof.Proof.Gen.KernelSguIdeal.Launch
public import proofs.«01_k».proof.Proof.Gen.KernelSguIdeal.Points
public import proofs.«01_k».proof.Proof.Gen.KernelSguIdeal.Frame
public import proofs.«01_k».proof.Proof.Gen.KernelSguIdeal.Value
public import proofs.«01_k».proof.Proof.Gen.ReferenceSguIdeal
public import proofs.«01_k».proof.Proof.Gen.ReferenceSguIdeal.Run
public import proofs.«01_k».proof.Proof.Gen.ReferenceSguIdeal.Read
public import proofs.«01_k».proof.Proof.Gen.Pre_finite_loss
public import proofs.«01_k».proof.Proof.Gen.Pre_finite_sgu
public import proofs.«01_k».proof.Proof.Algebra
public import proofs.«01_k».proof.Proof.WeightAlgebra
public import proofs.«01_k».proof.Proof.InAlgebra
public import proofs.«01_k».proof.Proof.InWeight
public import proofs.«01_k».proof.Proof.OutBack
public import proofs.«01_k».proof.Proof.FwdIn
public import proofs.«01_k».proof.Proof.FwdOut
public import proofs.«01_k».proof.Proof.LossAlgebra
public import proofs.«01_k».proof.Proof.AdamFfn
public import proofs.«01_k».proof.Proof.AdamIn
public import proofs.«01_k».proof.Proof.AdamOut
public import proofs.«01_k».proof.Proof.AdamSmall
public import proofs.«01_k».proof.Proof.SguAlgebra
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the forward and data gradient ends, with its arguments unchanged and no semaphore to count. -/
theorem frame_reference : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run (F := Ideal) m ρ)

/-- The same of the reference of the weights' gradients. -/
theorem frame_reference_w : Cert.quiescent_ReferenceWIdeal := fun m ρ _ =>
  (θ_run Cert.ReferenceWIdeal.defs _ _).mono
    (fun r h => ⟨fun c => (h c).2.2.2, sem_eq_zero_of_no_sems (by decide) r.2⟩) (Cert.ReferenceWIdeal.Value.run (F := Ideal) m ρ)

/-- The same of the reference of the input projection's row gradient. -/
theorem frame_reference_in : Cert.quiescent_ReferenceInIdeal := fun m ρ _ =>
  (θ_run Cert.ReferenceInIdeal.defs _ _).mono
    (fun r h => ⟨fun c => (h c).2.2.2, sem_eq_zero_of_no_sems (by decide) r.2⟩) (Cert.ReferenceInIdeal.Value.run (F := Ideal) m ρ)

/-- The same of the reference of the input projection's weight gradient. -/
theorem frame_reference_in_w : Cert.quiescent_ReferenceInWIdeal := fun m ρ _ =>
  (θ_run Cert.ReferenceInWIdeal.defs _ _).mono
    (fun r h => ⟨fun c => (h c).2, sem_eq_zero_of_no_sems (by decide) r.2⟩) (Cert.ReferenceInWIdeal.Value.run (F := Ideal) m ρ)

/-- The same of the reference of the output projection's backward pass. -/
theorem frame_reference_out : Cert.quiescent_ReferenceOutIdeal := fun m ρ _ =>
  (θ_run Cert.ReferenceOutIdeal.defs _ _).mono
    (fun r h => ⟨fun c => (h c).2.2.2.2, sem_eq_zero_of_no_sems (by decide) r.2⟩) (Cert.ReferenceOutIdeal.Value.run (F := Ideal) m ρ)

/-- The same of the reference of the input projection's forward pass. -/
theorem frame_reference_fwd_in : Cert.quiescent_ReferenceFwdInIdeal := fun m ρ _ =>
  (θ_run Cert.ReferenceFwdInIdeal.defs _ _).mono
    (fun r h => ⟨fun c => (h c).2, sem_eq_zero_of_no_sems (by decide) r.2⟩) (Cert.ReferenceFwdInIdeal.Value.run (F := Ideal) m ρ)

/-- The same of the reference of the output projection's forward pass. -/
theorem frame_reference_fwd_out : Cert.quiescent_ReferenceFwdOutIdeal := fun m ρ _ =>
  (θ_run Cert.ReferenceFwdOutIdeal.defs _ _).mono
    (fun r h => ⟨fun c => (h c).2, sem_eq_zero_of_no_sems (by decide) r.2⟩) (Cert.ReferenceFwdOutIdeal.Value.run (F := Ideal) m ρ)

/-- The same of the reference of the final norm and the loss. -/
theorem frame_reference_loss : Cert.quiescent_ReferenceLossIdeal := fun m ρ _ =>
  (θ_run Cert.ReferenceLossIdeal.defs _ _).mono
    (fun r h => ⟨fun c => (h c).2.2.2, sem_eq_zero_of_no_sems (by decide) r.2⟩) (Cert.ReferenceLossIdeal.Value.run (F := Ideal) m ρ)

/-- The same of the reference of the optimiser's step of a feed-forward weight. -/
theorem frame_reference_adam_ffn : Cert.quiescent_ReferenceAdamFfnIdeal := fun m ρ _ =>
  (θ_run Cert.ReferenceAdamFfnIdeal.defs _ _).mono
    (fun r h => ⟨fun c => (h c).2.2.2.2, sem_eq_zero_of_no_sems (by decide) r.2⟩) (Cert.ReferenceAdamFfnIdeal.Value.run (F := Ideal) m ρ)

/-- The same of the reference of the optimiser's step of the input projection's weight. -/
theorem frame_reference_adam_in : Cert.quiescent_ReferenceAdamInIdeal := fun m ρ _ =>
  (θ_run Cert.ReferenceAdamInIdeal.defs _ _).mono
    (fun r h => ⟨fun c => (h c).2.2.2.2, sem_eq_zero_of_no_sems (by decide) r.2⟩) (Cert.ReferenceAdamInIdeal.Value.run (F := Ideal) m ρ)

/-- The same of the reference of the optimiser's step of the output projection's weight. -/
theorem frame_reference_adam_out : Cert.quiescent_ReferenceAdamOutIdeal := fun m ρ _ =>
  (θ_run Cert.ReferenceAdamOutIdeal.defs _ _).mono
    (fun r h => ⟨fun c => (h c).2.2.2.2, sem_eq_zero_of_no_sems (by decide) r.2⟩) (Cert.ReferenceAdamOutIdeal.Value.run (F := Ideal) m ρ)

/-- The same of the reference of the optimiser's step of the small weights. -/
theorem frame_reference_adam_small : Cert.quiescent_ReferenceAdamSmallIdeal := fun m ρ _ =>
  (θ_run Cert.ReferenceAdamSmallIdeal.defs _ _).mono
    (fun r h => ⟨fun c => (h c).2.2.2.2, sem_eq_zero_of_no_sems (by decide) r.2⟩) (Cert.ReferenceAdamSmallIdeal.Value.run (F := Ideal) m ρ)

/-- The same of the reference of the spatial gating unit. -/
theorem frame_reference_sgu : Cert.quiescent_ReferenceSguIdeal := fun m ρ _ =>
  (θ_run Cert.ReferenceSguIdeal.defs _ _).mono
    (fun r h => ⟨fun c => (h c).2, sem_eq_zero_of_no_sems (by decide) r.2⟩) (Cert.ReferenceSguIdeal.Value.run (F := Ideal) m ρ)

/-- Every claim of the certificate. -/
theorem claim : Cert.Claim := ⟨
  Cert.Kernel.Gen.facts, Cert.KernelIdeal.Gen.facts, Cert.ReferenceIdeal.Gen.facts, Cert.KernelW.Gen.facts,
  Cert.KernelWIdeal.Gen.facts, Cert.ReferenceWIdeal.Gen.facts, Cert.KernelIn.Gen.facts, Cert.KernelInIdeal.Gen.facts,
  Cert.ReferenceInIdeal.Gen.facts, Cert.KernelInW.Gen.facts, Cert.KernelInWIdeal.Gen.facts,
  Cert.ReferenceInWIdeal.Gen.facts, Cert.KernelOut.Gen.facts, Cert.KernelOutIdeal.Gen.facts,
  Cert.ReferenceOutIdeal.Gen.facts, Cert.KernelFwdIn.Gen.facts, Cert.KernelFwdInIdeal.Gen.facts,
  Cert.ReferenceFwdInIdeal.Gen.facts, Cert.KernelFwdOut.Gen.facts, Cert.KernelFwdOutIdeal.Gen.facts,
  Cert.ReferenceFwdOutIdeal.Gen.facts,
  Cert.KernelLoss.Gen.facts, Cert.KernelLossIdeal.Gen.facts, Cert.ReferenceLossIdeal.Gen.facts,
  Cert.KernelAdamFfn.Gen.facts, Cert.KernelAdamFfnIdeal.Gen.facts, Cert.ReferenceAdamFfnIdeal.Gen.facts,
  Cert.KernelAdamIn.Gen.facts, Cert.KernelAdamInIdeal.Gen.facts, Cert.ReferenceAdamInIdeal.Gen.facts,
  Cert.KernelAdamOut.Gen.facts, Cert.KernelAdamOutIdeal.Gen.facts, Cert.ReferenceAdamOutIdeal.Gen.facts,
  Cert.KernelAdamSmall.Gen.facts, Cert.KernelAdamSmallIdeal.Gen.facts, Cert.ReferenceAdamSmallIdeal.Gen.facts,
  Cert.KernelSgu.Gen.facts, Cert.KernelSguIdeal.Gen.facts, Cert.ReferenceSguIdeal.Gen.facts,
  Cert.Pre_finite.Gen.facts, Cert.Pre_finite_in.Gen.facts, Cert.Pre_finite_loss.Gen.facts, Cert.Pre_finite_sgu.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.KernelW.Gen.frame m ρ, fun m ρ _ => Cert.KernelWIdeal.Gen.frame m ρ, frame_reference_w,
  fun m ρ _ => Cert.KernelIn.Gen.frame m ρ, fun m ρ _ => Cert.KernelInIdeal.Gen.frame m ρ,
  fun m ρ _ => Cert.KernelInIdeal.Gen.frame m ρ, frame_reference_in, fun m ρ _ => frame_reference_in m ρ trivial,
  fun m ρ _ => Cert.KernelInW.Gen.frame m ρ, fun m ρ _ => Cert.KernelInWIdeal.Gen.frame m ρ, frame_reference_in_w,
  fun m ρ _ => Cert.KernelOut.Gen.frame m ρ, fun m ρ _ => Cert.KernelOutIdeal.Gen.frame m ρ, frame_reference_out,
  fun m ρ _ => Cert.KernelFwdIn.Gen.frame m ρ, fun m ρ _ => Cert.KernelFwdInIdeal.Gen.frame m ρ, frame_reference_fwd_in,
  fun m ρ _ => Cert.KernelFwdOut.Gen.frame m ρ, fun m ρ _ => Cert.KernelFwdOutIdeal.Gen.frame m ρ, frame_reference_fwd_out,
  fun m ρ _ => Cert.KernelLoss.Gen.frame m ρ, fun m ρ _ => Cert.KernelLossIdeal.Gen.frame m ρ,
  fun m ρ _ => Cert.KernelLossIdeal.Gen.frame m ρ, frame_reference_loss, fun m ρ _ => frame_reference_loss m ρ trivial,
  fun m ρ _ => Cert.KernelAdamFfn.Gen.frame m ρ, fun m ρ _ => Cert.KernelAdamFfnIdeal.Gen.frame m ρ, frame_reference_adam_ffn,
  fun m ρ _ => Cert.KernelAdamIn.Gen.frame m ρ, fun m ρ _ => Cert.KernelAdamInIdeal.Gen.frame m ρ, frame_reference_adam_in,
  fun m ρ _ => Cert.KernelAdamOut.Gen.frame m ρ, fun m ρ _ => Cert.KernelAdamOutIdeal.Gen.frame m ρ, frame_reference_adam_out,
  fun m ρ _ => Cert.KernelAdamSmall.Gen.frame m ρ, fun m ρ _ => Cert.KernelAdamSmallIdeal.Gen.frame m ρ, frame_reference_adam_small,
  fun m ρ _ => Cert.KernelSgu.Gen.frame m ρ, fun m ρ _ => Cert.KernelSguIdeal.Gen.frame m ρ,
  fun m ρ _ => Cert.KernelSguIdeal.Gen.frame m ρ, frame_reference_sgu, fun m ρ _ => frame_reference_sgu m ρ trivial,
  trivial, Cert.Algebra.algebraic, trivial, Cert.WeightAlgebra.algebraic, trivial, Cert.InAlgebra.algebraic, trivial,
  Cert.InWeight.algebraic, trivial, Cert.OutBack.algebraic, trivial, Cert.FwdIn.algebraic, trivial, Cert.FwdOut.algebraic,
  trivial, Cert.LossAlgebra.algebraic, trivial, Cert.AdamFfn.algebraic, trivial, Cert.AdamIn.algebraic, trivial, Cert.AdamOut.algebraic, trivial, Cert.AdamSmall.algebraic, trivial, Cert.SguAlgebra.algebraic⟩

end Cert.Proof

end
